-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x128x512 : Shape := ⟨3, ![2, 128, 512]⟩
abbrev S2x15 : Shape := ⟨2, ![2, 15]⟩
abbrev S_ : Shape := ⟨0, ![]⟩
abbrev S256x512 : Shape := ⟨2, ![256, 512]⟩
abbrev S1x1 : Shape := ⟨2, ![1, 1]⟩
abbrev S1x64x512 : Shape := ⟨3, ![1, 64, 512]⟩
abbrev S64x512 : Shape := ⟨2, ![64, 512]⟩
abbrev S1x128x512 : Shape := ⟨3, ![1, 128, 512]⟩
abbrev S128x512 : Shape := ⟨2, ![128, 512]⟩

abbrev nBuf : Space → Nat
  | .hbm => 2
  | .vmem => 12
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S2x128x512, .bf16⟩
  | .local _ .vmem, ⟨5, _⟩ => ⟨S2x128x512, .bf16⟩
  | .local _ .vmem, ⟨6, _⟩ => ⟨S2x128x512, .bf16⟩
  | .local _ .vmem, ⟨7, _⟩ => ⟨S2x128x512, .bf16⟩
  | .local _ .vmem, ⟨8, _⟩ => ⟨S2x128x512, .bf16⟩
  | .local _ .vmem, ⟨9, _⟩ => ⟨S2x128x512, .bf16⟩
  | .local _ .vmem, ⟨10, _⟩ => ⟨S2x128x512, .bf16⟩
  | .local _ .vmem, ⟨11, _⟩ => ⟨S2x128x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_30 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_29 : BitVec 32 := 1#32
  let v58 : BitVec 32 := Scalar.muli v27 c1_i32_29
  let v59 : BitVec 32 := Scalar.addi c0_i32_30 v58
  v59.toNat
def k0_dev2 (d0 : Dev nD) : Nat :=
  let c0_i32_33 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_32 : BitVec 32 := 1#32
  let v60 : BitVec 32 := Scalar.muli v30 c1_i32_32
  let v61 : BitVec 32 := Scalar.addi c0_i32_33 v60
  v61.toNat
def k0_dev3 (d0 : Dev nD) : Nat :=
  let c0_i32_36 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 32 := Scalar.xori v19 c1_i32_12
  let v32 : BitVec 32 := Scalar.muli c4_i32_13 v31
  let c4_i32_5 : BitVec 32 := 4#32
  let v20 : BitVec 32 := Scalar.remsi v2 c4_i32_5
  let v33 : BitVec 32 := Scalar.addi v32 v20
  let c1_i32_35 : BitVec 32 := 1#32
  let v62 : BitVec 32 := Scalar.muli v33 c1_i32_35
  let v63 : BitVec 32 := Scalar.addi c0_i32_36 v62
  v63.toNat
def k0_dev4 (d0 : Dev nD) : Nat :=
  let c0_i32_39 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v34 : BitVec 32 := Scalar.xori v19 c2_i32
  let v35 : BitVec 32 := Scalar.muli c4_i32_14 v34
  let c4_i32_5 : BitVec 32 := 4#32
  let v20 : BitVec 32 := Scalar.remsi v2 c4_i32_5
  let v36 : BitVec 32 := Scalar.addi v35 v20
  let c1_i32_38 : BitVec 32 := 1#32
  let v64 : BitVec 32 := Scalar.muli v36 c1_i32_38
  let v65 : BitVec 32 := Scalar.addi c0_i32_39 v64
  v65.toNat
def k0_off1 (d0 : Dev nD) : Fin 2 → Nat :=
  let c0_i32_16 : BitVec 32 := 0#32
  let c1_i32_15 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let v37 : BitVec 32 := Scalar.subi c1_i32_15 v23
  let c256_i32 : BitVec 32 := 256#32
  let v38 : BitVec 32 := Scalar.muli v37 c256_i32
  let v39 : BitVec 32 := Scalar.addi c0_i32_16 v38
  let v66 : Index := Scalar.indexCast v39
  let c0 : Index := 0#32
  ![v66.toNat, 0]
def k0_off2 (d0 : Dev nD) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_8 : BitVec 32 := 1#32
  let v24 : BitVec 32 := Scalar.shrsi v20 c1_i32_8
  let v47 : BitVec 32 := Scalar.subi c1_i32_21 v24
  let c256_i32_22 : BitVec 32 := 256#32
  let v48 : BitVec 32 := Scalar.muli v47 c256_i32_22
  let v49 : BitVec 32 := Scalar.addi c512_i32 v48
  let v74 : Index := Scalar.indexCast v49
  let c0_41 : Index := 0#32
  ![v74.toNat, 0]
def k0_off3 (d0 : Dev nD) (c0_i32_46 : BitVec 32) : Fin 2 → Nat :=
  let c0_i32_16 : BitVec 32 := 0#32
  let c1_i32_15 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let v37 : BitVec 32 := Scalar.subi c1_i32_15 v23
  let c256_i32 : BitVec 32 := 256#32
  let v38 : BitVec 32 := Scalar.muli v37 c256_i32
  let v39 : BitVec 32 := Scalar.addi c0_i32_16 v38
  let c1_i32_44 : BitVec 32 := 1#32
  let c1_i32_8 : BitVec 32 := 1#32
  let v24 : BitVec 32 := Scalar.shrsi v20 c1_i32_8
  let v82 : BitVec 32 := Scalar.subi c1_i32_44 v24
  let c128_i32_45 : BitVec 32 := 128#32
  let v83 : BitVec 32 := Scalar.muli v82 c128_i32_45
  let v84 : BitVec 32 := Scalar.addi v39 v83
  let v85 : BitVec 32 := Scalar.addi v84 c0_i32_46
  let c0_i32_56 : BitVec 32 := 0#32
  ![v85.toNat, 0]
def k0_dev5 (d0 : Dev nD) : Nat :=
  let c0_i32_53 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_52 : BitVec 32 := 1#32
  let v86 : BitVec 32 := Scalar.muli v27 c1_i32_52
  let v87 : BitVec 32 := Scalar.addi c0_i32_53 v86
  v87.toNat
def k0_off4 (d0 : Dev nD) (c0_i32_59 : BitVec 32) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_8 : BitVec 32 := 1#32
  let v24 : BitVec 32 := Scalar.shrsi v20 c1_i32_8
  let v47 : BitVec 32 := Scalar.subi c1_i32_21 v24
  let c256_i32_22 : BitVec 32 := 256#32
  let v48 : BitVec 32 := Scalar.muli v47 c256_i32_22
  let v49 : BitVec 32 := Scalar.addi c512_i32 v48
  let c1_i32_57 : BitVec 32 := 1#32
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let v95 : BitVec 32 := Scalar.subi c1_i32_57 v23
  let c128_i32_58 : BitVec 32 := 128#32
  let v96 : BitVec 32 := Scalar.muli v95 c128_i32_58
  let v97 : BitVec 32 := Scalar.addi v49 v96
  let v98 : BitVec 32 := Scalar.addi v97 c0_i32_59
  let c0_i32_69 : BitVec 32 := 0#32
  ![v98.toNat, 0]
def k0_dev6 (d0 : Dev nD) : Nat :=
  let c0_i32_66 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_65 : BitVec 32 := 1#32
  let v99 : BitVec 32 := Scalar.muli v30 c1_i32_65
  let v100 : BitVec 32 := Scalar.addi c0_i32_66 v99
  v100.toNat
def k0_dev7 (d0 : Dev nD) : Nat :=
  let c0_i32_78 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_77 : BitVec 32 := 1#32
  let v112 : BitVec 32 := Scalar.muli v27 c1_i32_77
  let v113 : BitVec 32 := Scalar.addi c0_i32_78 v112
  v113.toNat
def k0_dev8 (d0 : Dev nD) : Nat :=
  let c0_i32_91 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_90 : BitVec 32 := 1#32
  let v125 : BitVec 32 := Scalar.muli v30 c1_i32_90
  let v126 : BitVec 32 := Scalar.addi c0_i32_91 v125
  v126.toNat
def k0_off5 (d0 : Dev nD) : Fin 2 → Nat :=
  let c0_i32_16 : BitVec 32 := 0#32
  let c1_i32_15 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let v37 : BitVec 32 := Scalar.subi c1_i32_15 v23
  let c256_i32 : BitVec 32 := 256#32
  let v38 : BitVec 32 := Scalar.muli v37 c256_i32
  let v39 : BitVec 32 := Scalar.addi c0_i32_16 v38
  let c1_i32_8 : BitVec 32 := 1#32
  let v24 : BitVec 32 := Scalar.shrsi v20 c1_i32_8
  let c128_i32_95 : BitVec 32 := 128#32
  let v134 : BitVec 32 := Scalar.muli v24 c128_i32_95
  let v135 : BitVec 32 := Scalar.addi v39 v134
  let c0_i32_105 : BitVec 32 := 0#32
  ![v135.toNat, 0]
def k0_dev9 (d0 : Dev nD) : Nat :=
  let c0_i32_102 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_101 : BitVec 32 := 1#32
  let v136 : BitVec 32 := Scalar.muli v27 c1_i32_101
  let v137 : BitVec 32 := Scalar.addi c0_i32_102 v136
  v137.toNat
def k0_off6 (d0 : Dev nD) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_8 : BitVec 32 := 1#32
  let v24 : BitVec 32 := Scalar.shrsi v20 c1_i32_8
  let v47 : BitVec 32 := Scalar.subi c1_i32_21 v24
  let c256_i32_22 : BitVec 32 := 256#32
  let v48 : BitVec 32 := Scalar.muli v47 c256_i32_22
  let v49 : BitVec 32 := Scalar.addi c512_i32 v48
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let c128_i32_106 : BitVec 32 := 128#32
  let v145 : BitVec 32 := Scalar.muli v23 c128_i32_106
  let v146 : BitVec 32 := Scalar.addi v49 v145
  let c0_i32_116 : BitVec 32 := 0#32
  ![v146.toNat, 0]
def k0_dev10 (d0 : Dev nD) : Nat :=
  let c0_i32_113 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_112 : BitVec 32 := 1#32
  let v147 : BitVec 32 := Scalar.muli v30 c1_i32_112
  let v148 : BitVec 32 := Scalar.addi c0_i32_113 v147
  v148.toNat
def k0_off7 (d0 : Dev nD) (c0_i32_136 : BitVec 32) : Fin 2 → Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let c256_i32_17 : BitVec 32 := 256#32
  let v40 : BitVec 32 := Scalar.muli v23 c256_i32_17
  let v41 : BitVec 32 := Scalar.addi c0_i32_18 v40
  let c1_i32_19 : BitVec 32 := 1#32
  let c1_i32_8 : BitVec 32 := 1#32
  let v24 : BitVec 32 := Scalar.shrsi v20 c1_i32_8
  let v42 : BitVec 32 := Scalar.subi c1_i32_19 v24
  let c128_i32 : BitVec 32 := 128#32
  let v43 : BitVec 32 := Scalar.muli v42 c128_i32
  let v44 : BitVec 32 := Scalar.addi v41 v43
  let v168 : BitVec 32 := Scalar.addi v44 c0_i32_136
  let v169 : Index := Scalar.indexCast v168
  let c0_137 : Index := 0#32
  ![v169.toNat, 0]
def k0_dev11 (d0 : Dev nD) : Nat :=
  let c0_i32_151 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_150 : BitVec 32 := 1#32
  let v180 : BitVec 32 := Scalar.muli v30 c1_i32_150
  let v181 : BitVec 32 := Scalar.addi c0_i32_151 v180
  v181.toNat
def k0_off8 (d0 : Dev nD) (c0_i32_175 : BitVec 32) : Fin 2 → Nat :=
  let c512_i32_24 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_8 : BitVec 32 := 1#32
  let v24 : BitVec 32 := Scalar.shrsi v20 c1_i32_8
  let c256_i32_23 : BitVec 32 := 256#32
  let v50 : BitVec 32 := Scalar.muli v24 c256_i32_23
  let v51 : BitVec 32 := Scalar.addi c512_i32_24 v50
  let c1_i32_25 : BitVec 32 := 1#32
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let v52 : BitVec 32 := Scalar.subi c1_i32_25 v23
  let c128_i32_26 : BitVec 32 := 128#32
  let v53 : BitVec 32 := Scalar.muli v52 c128_i32_26
  let v54 : BitVec 32 := Scalar.addi v51 v53
  let v202 : BitVec 32 := Scalar.addi v54 c0_i32_175
  let v203 : Index := Scalar.indexCast v202
  let c0_176 : Index := 0#32
  ![v203.toNat, 0]
def k0_dev12 (d0 : Dev nD) : Nat :=
  let c0_i32_189 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_188 : BitVec 32 := 1#32
  let v214 : BitVec 32 := Scalar.muli v27 c1_i32_188
  let v215 : BitVec 32 := Scalar.addi c0_i32_189 v214
  v215.toNat
def k0_dev13 (d0 : Dev nD) : Nat :=
  let c0_i32_227 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_226 : BitVec 32 := 1#32
  let v248 : BitVec 32 := Scalar.muli v30 c1_i32_226
  let v249 : BitVec 32 := Scalar.addi c0_i32_227 v248
  v249.toNat
def k0_dev14 (d0 : Dev nD) : Nat :=
  let c0_i32_266 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_265 : BitVec 32 := 1#32
  let v282 : BitVec 32 := Scalar.muli v27 c1_i32_265
  let v283 : BitVec 32 := Scalar.addi c0_i32_266 v282
  v283.toNat
def k0_off9 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let c256_i32_17 : BitVec 32 := 256#32
  let v40 : BitVec 32 := Scalar.muli v23 c256_i32_17
  let v41 : BitVec 32 := Scalar.addi c0_i32_18 v40
  let c1_i32_8 : BitVec 32 := 1#32
  let v24 : BitVec 32 := Scalar.shrsi v20 c1_i32_8
  let c128_i32_20 : BitVec 32 := 128#32
  let v45 : BitVec 32 := Scalar.muli v24 c128_i32_20
  let v46 : BitVec 32 := Scalar.addi v41 v45
  let v304 : Index := Scalar.indexCast v46
  let c0_290 : Index := 0#32
  ![v304.toNat, 0]
def k0_off10 (d0 : Dev nD) : Fin 2 → Nat :=
  let c512_i32_24 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_8 : BitVec 32 := 1#32
  let v24 : BitVec 32 := Scalar.shrsi v20 c1_i32_8
  let c256_i32_23 : BitVec 32 := 256#32
  let v50 : BitVec 32 := Scalar.muli v24 c256_i32_23
  let v51 : BitVec 32 := Scalar.addi c512_i32_24 v50
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let c128_i32_27 : BitVec 32 := 128#32
  let v55 : BitVec 32 := Scalar.muli v23 c128_i32_27
  let v56 : BitVec 32 := Scalar.addi v51 v55
  let v325 : Index := Scalar.indexCast v56
  let c0_314 : Index := 0#32
  ![v325.toNat, 0]
def k0_off11 (d0 : Dev nD) (c0_i32_342 : BitVec 32) : Fin 2 → Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let c256_i32_17 : BitVec 32 := 256#32
  let v40 : BitVec 32 := Scalar.muli v23 c256_i32_17
  let v41 : BitVec 32 := Scalar.addi c0_i32_18 v40
  let c1_i32_8 : BitVec 32 := 1#32
  let v24 : BitVec 32 := Scalar.shrsi v20 c1_i32_8
  let c128_i32_20 : BitVec 32 := 128#32
  let v45 : BitVec 32 := Scalar.muli v24 c128_i32_20
  let v46 : BitVec 32 := Scalar.addi v41 v45
  let v348 : BitVec 32 := Scalar.addi v46 c0_i32_342
  let v349 : Index := Scalar.indexCast v348
  let c0_343 : Index := 0#32
  ![v349.toNat, 0]
def k0_dev15 (d0 : Dev nD) : Nat :=
  let c0_i32_358 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 32 := Scalar.xori v19 c1_i32_12
  let v32 : BitVec 32 := Scalar.muli c4_i32_13 v31
  let c4_i32_5 : BitVec 32 := 4#32
  let v20 : BitVec 32 := Scalar.remsi v2 c4_i32_5
  let v33 : BitVec 32 := Scalar.addi v32 v20
  let c1_i32_357 : BitVec 32 := 1#32
  let v363 : BitVec 32 := Scalar.muli v33 c1_i32_357
  let v364 : BitVec 32 := Scalar.addi c0_i32_358 v363
  v364.toNat
def k0_off12 (d0 : Dev nD) (c0_i32_386 : BitVec 32) : Fin 2 → Nat :=
  let c512_i32_24 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_8 : BitVec 32 := 1#32
  let v24 : BitVec 32 := Scalar.shrsi v20 c1_i32_8
  let c256_i32_23 : BitVec 32 := 256#32
  let v50 : BitVec 32 := Scalar.muli v24 c256_i32_23
  let v51 : BitVec 32 := Scalar.addi c512_i32_24 v50
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let c128_i32_27 : BitVec 32 := 128#32
  let v55 : BitVec 32 := Scalar.muli v23 c128_i32_27
  let v56 : BitVec 32 := Scalar.addi v51 v55
  let v387 : BitVec 32 := Scalar.addi v56 c0_i32_386
  let v388 : Index := Scalar.indexCast v387
  let c0_387 : Index := 0#32
  ![v388.toNat, 0]
def k0_dev16 (d0 : Dev nD) : Nat :=
  let c0_i32_403 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v34 : BitVec 32 := Scalar.xori v19 c2_i32
  let v35 : BitVec 32 := Scalar.muli c4_i32_14 v34
  let c4_i32_5 : BitVec 32 := 4#32
  let v20 : BitVec 32 := Scalar.remsi v2 c4_i32_5
  let v36 : BitVec 32 := Scalar.addi v35 v20
  let c1_i32_402 : BitVec 32 := 1#32
  let v402 : BitVec 32 := Scalar.muli v36 c1_i32_402
  let v403 : BitVec 32 := Scalar.addi c0_i32_403 v402
  v403.toNat
def k0_dev17 (d0 : Dev nD) : Nat :=
  let c0_i32_447 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 32 := Scalar.xori v19 c1_i32_12
  let v32 : BitVec 32 := Scalar.muli c4_i32_13 v31
  let c4_i32_5 : BitVec 32 := 4#32
  let v20 : BitVec 32 := Scalar.remsi v2 c4_i32_5
  let v33 : BitVec 32 := Scalar.addi v32 v20
  let c1_i32_446 : BitVec 32 := 1#32
  let v441 : BitVec 32 := Scalar.muli v33 c1_i32_446
  let v442 : BitVec 32 := Scalar.addi c0_i32_447 v441
  v442.toNat
def k0_dev18 (d0 : Dev nD) : Nat :=
  let c0_i32_492 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v34 : BitVec 32 := Scalar.xori v19 c2_i32
  let v35 : BitVec 32 := Scalar.muli c4_i32_14 v34
  let c4_i32_5 : BitVec 32 := 4#32
  let v20 : BitVec 32 := Scalar.remsi v2 c4_i32_5
  let v36 : BitVec 32 := Scalar.addi v35 v20
  let c1_i32_491 : BitVec 32 := 1#32
  let v480 : BitVec 32 := Scalar.muli v36 c1_i32_491
  let v481 : BitVec 32 := Scalar.addi c0_i32_492 v480
  v481.toNat
def k0_dev19 (d0 : Dev nD) : Nat :=
  let c0_i32_536 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v34 : BitVec 32 := Scalar.xori v19 c2_i32
  let v35 : BitVec 32 := Scalar.muli c4_i32_14 v34
  let c4_i32_5 : BitVec 32 := 4#32
  let v20 : BitVec 32 := Scalar.remsi v2 c4_i32_5
  let v36 : BitVec 32 := Scalar.addi v35 v20
  let c1_i32_535 : BitVec 32 := 1#32
  let v519 : BitVec 32 := Scalar.muli v36 c1_i32_535
  let v520 : BitVec 32 := Scalar.addi c0_i32_536 v519
  v520.toNat
def k0_dev20 (d0 : Dev nD) : Nat :=
  let c0_i32_581 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 32 := Scalar.xori v19 c1_i32_12
  let v32 : BitVec 32 := Scalar.muli c4_i32_13 v31
  let c4_i32_5 : BitVec 32 := 4#32
  let v20 : BitVec 32 := Scalar.remsi v2 c4_i32_5
  let v33 : BitVec 32 := Scalar.addi v32 v20
  let c1_i32_580 : BitVec 32 := 1#32
  let v558 : BitVec 32 := Scalar.muli v33 c1_i32_580
  let v559 : BitVec 32 := Scalar.addi c0_i32_581 v558
  v559.toNat
def k0_dev21 (d0 : Dev nD) : Nat :=
  let c0_i32_625 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v34 : BitVec 32 := Scalar.xori v19 c2_i32
  let v35 : BitVec 32 := Scalar.muli c4_i32_14 v34
  let c4_i32_5 : BitVec 32 := 4#32
  let v20 : BitVec 32 := Scalar.remsi v2 c4_i32_5
  let v36 : BitVec 32 := Scalar.addi v35 v20
  let c1_i32_624 : BitVec 32 := 1#32
  let v597 : BitVec 32 := Scalar.muli v36 c1_i32_624
  let v598 : BitVec 32 := Scalar.addi c0_i32_625 v597
  v598.toNat
def k0_dev22 (d0 : Dev nD) : Nat :=
  let c0_i32_670 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 32 := Scalar.xori v19 c1_i32_12
  let v32 : BitVec 32 := Scalar.muli c4_i32_13 v31
  let c4_i32_5 : BitVec 32 := 4#32
  let v20 : BitVec 32 := Scalar.remsi v2 c4_i32_5
  let v33 : BitVec 32 := Scalar.addi v32 v20
  let c1_i32_669 : BitVec 32 := 1#32
  let v636 : BitVec 32 := Scalar.muli v33 c1_i32_669
  let v637 : BitVec 32 := Scalar.addi c0_i32_670 v636
  v637.toNat
def k0_off13 (d0 : Dev nD) (c0_i32_708 : BitVec 32) : Fin 2 → Nat :=
  let c512_i32_24 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_8 : BitVec 32 := 1#32
  let v24 : BitVec 32 := Scalar.shrsi v20 c1_i32_8
  let c256_i32_23 : BitVec 32 := 256#32
  let v50 : BitVec 32 := Scalar.muli v24 c256_i32_23
  let v51 : BitVec 32 := Scalar.addi c512_i32_24 v50
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let c128_i32_27 : BitVec 32 := 128#32
  let v55 : BitVec 32 := Scalar.muli v23 c128_i32_27
  let v56 : BitVec 32 := Scalar.addi v51 v55
  let v678 : BitVec 32 := Scalar.addi v56 c0_i32_708
  let c0_i32_714 : BitVec 32 := 0#32
  ![v678.toNat, 0]
def k0_dev23 (d0 : Dev nD) : Nat :=
  let c0_i32_713 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_712 : BitVec 32 := 1#32
  let v679 : BitVec 32 := Scalar.muli v27 c1_i32_712
  let v680 : BitVec 32 := Scalar.addi c0_i32_713 v679
  v680.toNat
def k0_dev24 (d0 : Dev nD) : Nat :=
  let c0_i32_722 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_721 : BitVec 32 := 1#32
  let v689 : BitVec 32 := Scalar.muli v30 c1_i32_721
  let v690 : BitVec 32 := Scalar.addi c0_i32_722 v689
  v690.toNat
def k0_off14 (d0 : Dev nD) (c0_i32_758 : BitVec 32) : Fin 2 → Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let c256_i32_17 : BitVec 32 := 256#32
  let v40 : BitVec 32 := Scalar.muli v23 c256_i32_17
  let v41 : BitVec 32 := Scalar.addi c0_i32_18 v40
  let c1_i32_8 : BitVec 32 := 1#32
  let v24 : BitVec 32 := Scalar.shrsi v20 c1_i32_8
  let c128_i32_20 : BitVec 32 := 128#32
  let v45 : BitVec 32 := Scalar.muli v24 c128_i32_20
  let v46 : BitVec 32 := Scalar.addi v41 v45
  let v729 : BitVec 32 := Scalar.addi v46 c0_i32_758
  let c0_i32_765 : BitVec 32 := 0#32
  ![v729.toNat, 0]
def k0_dev25 (d0 : Dev nD) : Nat :=
  let c0_i32_764 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_763 : BitVec 32 := 1#32
  let v730 : BitVec 32 := Scalar.muli v30 c1_i32_763
  let v731 : BitVec 32 := Scalar.addi c0_i32_764 v730
  v731.toNat
def k0_dev26 (d0 : Dev nD) : Nat :=
  let c0_i32_774 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_773 : BitVec 32 := 1#32
  let v740 : BitVec 32 := Scalar.muli v27 c1_i32_773
  let v741 : BitVec 32 := Scalar.addi c0_i32_774 v740
  v741.toNat
def k0_dev27 (d0 : Dev nD) : Nat :=
  let c0_i32_815 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_814 : BitVec 32 := 1#32
  let v781 : BitVec 32 := Scalar.muli v27 c1_i32_814
  let v782 : BitVec 32 := Scalar.addi c0_i32_815 v781
  v782.toNat
def k0_dev28 (d0 : Dev nD) : Nat :=
  let c0_i32_824 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_823 : BitVec 32 := 1#32
  let v791 : BitVec 32 := Scalar.muli v30 c1_i32_823
  let v792 : BitVec 32 := Scalar.addi c0_i32_824 v791
  v792.toNat
def k0_dev29 (d0 : Dev nD) : Nat :=
  let c0_i32_866 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_865 : BitVec 32 := 1#32
  let v832 : BitVec 32 := Scalar.muli v30 c1_i32_865
  let v833 : BitVec 32 := Scalar.addi c0_i32_866 v832
  v833.toNat
def k0_dev30 (d0 : Dev nD) : Nat :=
  let c0_i32_876 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_875 : BitVec 32 := 1#32
  let v842 : BitVec 32 := Scalar.muli v27 c1_i32_875
  let v843 : BitVec 32 := Scalar.addi c0_i32_876 v842
  v843.toNat
def k0_off15 (d0 : Dev nD) (c0_i32_894 : BitVec 32) : Fin 2 → Nat :=
  let c512_i32_24 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_8 : BitVec 32 := 1#32
  let v24 : BitVec 32 := Scalar.shrsi v20 c1_i32_8
  let c256_i32_23 : BitVec 32 := 256#32
  let v50 : BitVec 32 := Scalar.muli v24 c256_i32_23
  let v51 : BitVec 32 := Scalar.addi c512_i32_24 v50
  let c1_i32_25 : BitVec 32 := 1#32
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let v52 : BitVec 32 := Scalar.subi c1_i32_25 v23
  let c128_i32_26 : BitVec 32 := 128#32
  let v53 : BitVec 32 := Scalar.muli v52 c128_i32_26
  let v54 : BitVec 32 := Scalar.addi v51 v53
  let v860 : BitVec 32 := Scalar.addi v54 c0_i32_894
  let c0_i32_900 : BitVec 32 := 0#32
  ![v860.toNat, 0]
def k0_dev31 (d0 : Dev nD) : Nat :=
  let c0_i32_899 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_898 : BitVec 32 := 1#32
  let v861 : BitVec 32 := Scalar.muli v30 c1_i32_898
  let v862 : BitVec 32 := Scalar.addi c0_i32_899 v861
  v862.toNat
def k0_off16 (d0 : Dev nD) (c0_i32_917 : BitVec 32) : Fin 2 → Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let c256_i32_17 : BitVec 32 := 256#32
  let v40 : BitVec 32 := Scalar.muli v23 c256_i32_17
  let v41 : BitVec 32 := Scalar.addi c0_i32_18 v40
  let c1_i32_19 : BitVec 32 := 1#32
  let c1_i32_8 : BitVec 32 := 1#32
  let v24 : BitVec 32 := Scalar.shrsi v20 c1_i32_8
  let v42 : BitVec 32 := Scalar.subi c1_i32_19 v24
  let c128_i32 : BitVec 32 := 128#32
  let v43 : BitVec 32 := Scalar.muli v42 c128_i32
  let v44 : BitVec 32 := Scalar.addi v41 v43
  let v879 : BitVec 32 := Scalar.addi v44 c0_i32_917
  let c0_i32_924 : BitVec 32 := 0#32
  ![v879.toNat, 0]
def k0_dev32 (d0 : Dev nD) : Nat :=
  let c0_i32_923 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_922 : BitVec 32 := 1#32
  let v880 : BitVec 32 := Scalar.muli v27 c1_i32_922
  let v881 : BitVec 32 := Scalar.addi c0_i32_923 v880
  v881.toNat
def k0_dev33 (d0 : Dev nD) : Nat :=
  let c0_i32_946 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 32 := Scalar.muli c4_i32_11 v19
  let c3_i32 : BitVec 32 := 3#32
  let c4_i32_5 : BitVec 32 := 4#32
  let v20 : BitVec 32 := Scalar.remsi v2 c4_i32_5
  let v29 : BitVec 32 := Scalar.subi c3_i32 v20
  let v30 : BitVec 32 := Scalar.addi v28 v29
  let c1_i32_945 : BitVec 32 := 1#32
  let v899 : BitVec 32 := Scalar.muli v30 c1_i32_945
  let v900 : BitVec 32 := Scalar.addi c0_i32_946 v899
  v900.toNat
def k0_dev34 (d0 : Dev nD) : Nat :=
  let c0_i32_970 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c1_i32_10 : BitVec 32 := 1#32
  let v26 : BitVec 32 := Scalar.xori v20 c1_i32_10
  let v27 : BitVec 32 := Scalar.addi v25 v26
  let c1_i32_969 : BitVec 32 := 1#32
  let v918 : BitVec 32 := Scalar.muli v27 c1_i32_969
  let v919 : BitVec 32 := Scalar.addi c0_i32_970 v918
  v919.toNat
def k0_off17 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let c256_i32_17 : BitVec 32 := 256#32
  let v40 : BitVec 32 := Scalar.muli v23 c256_i32_17
  let v41 : BitVec 32 := Scalar.addi c0_i32_18 v40
  let c1_i32_19 : BitVec 32 := 1#32
  let c1_i32_8 : BitVec 32 := 1#32
  let v24 : BitVec 32 := Scalar.shrsi v20 c1_i32_8
  let v42 : BitVec 32 := Scalar.subi c1_i32_19 v24
  let c128_i32 : BitVec 32 := 128#32
  let v43 : BitVec 32 := Scalar.muli v42 c128_i32
  let v44 : BitVec 32 := Scalar.addi v41 v43
  let v926 : Index := Scalar.indexCast v44
  let c0_973 : Index := 0#32
  ![v926.toNat, 0]
def k0_off18 (d0 : Dev nD) : Fin 2 → Nat :=
  let c512_i32_24 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_8 : BitVec 32 := 1#32
  let v24 : BitVec 32 := Scalar.shrsi v20 c1_i32_8
  let c256_i32_23 : BitVec 32 := 256#32
  let v50 : BitVec 32 := Scalar.muli v24 c256_i32_23
  let v51 : BitVec 32 := Scalar.addi c512_i32_24 v50
  let c1_i32_25 : BitVec 32 := 1#32
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let v52 : BitVec 32 := Scalar.subi c1_i32_25 v23
  let c128_i32_26 : BitVec 32 := 128#32
  let v53 : BitVec 32 := Scalar.muli v52 c128_i32_26
  let v54 : BitVec 32 := Scalar.addi v51 v53
  let v931 : Index := Scalar.indexCast v54
  let c0_975 : Index := 0#32
  ![v931.toNat, 0]
def k0_off19 (d0 : Dev nD) (c0_i32_993 : BitVec 32) : Fin 2 → Nat :=
  let c0_i32_16 : BitVec 32 := 0#32
  let c1_i32_15 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let v37 : BitVec 32 := Scalar.subi c1_i32_15 v23
  let c256_i32 : BitVec 32 := 256#32
  let v38 : BitVec 32 := Scalar.muli v37 c256_i32
  let v39 : BitVec 32 := Scalar.addi c0_i32_16 v38
  let c1_i32_8 : BitVec 32 := 1#32
  let v24 : BitVec 32 := Scalar.shrsi v20 c1_i32_8
  let c128_i32_992 : BitVec 32 := 128#32
  let v946 : BitVec 32 := Scalar.muli v24 c128_i32_992
  let v947 : BitVec 32 := Scalar.addi v39 v946
  let v948 : BitVec 32 := Scalar.addi v947 c0_i32_993
  let v949 : Index := Scalar.indexCast v948
  let c0_994 : Index := 0#32
  ![v949.toNat, 0]
def k0_off20 (d0 : Dev nD) (c0_i32_1012 : BitVec 32) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_8 : BitVec 32 := 1#32
  let v24 : BitVec 32 := Scalar.shrsi v20 c1_i32_8
  let v47 : BitVec 32 := Scalar.subi c1_i32_21 v24
  let c256_i32_22 : BitVec 32 := 256#32
  let v48 : BitVec 32 := Scalar.muli v47 c256_i32_22
  let v49 : BitVec 32 := Scalar.addi c512_i32 v48
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let c128_i32_1011 : BitVec 32 := 128#32
  let v964 : BitVec 32 := Scalar.muli v23 c128_i32_1011
  let v965 : BitVec 32 := Scalar.addi v49 v964
  let v966 : BitVec 32 := Scalar.addi v965 c0_i32_1012
  let v967 : Index := Scalar.indexCast v966
  let c0_1013 : Index := 0#32
  ![v967.toNat, 0]
def k0_off21 (d0 : Dev nD) (c0_i32_1070 : BitVec 32) : Fin 2 → Nat :=
  let c0_i32_16 : BitVec 32 := 0#32
  let c1_i32_15 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let v37 : BitVec 32 := Scalar.subi c1_i32_15 v23
  let c256_i32 : BitVec 32 := 256#32
  let v38 : BitVec 32 := Scalar.muli v37 c256_i32
  let v39 : BitVec 32 := Scalar.addi c0_i32_16 v38
  let c1_i32_1068 : BitVec 32 := 1#32
  let c1_i32_8 : BitVec 32 := 1#32
  let v24 : BitVec 32 := Scalar.shrsi v20 c1_i32_8
  let v1018 : BitVec 32 := Scalar.subi c1_i32_1068 v24
  let c128_i32_1069 : BitVec 32 := 128#32
  let v1019 : BitVec 32 := Scalar.muli v1018 c128_i32_1069
  let v1020 : BitVec 32 := Scalar.addi v39 v1019
  let v1021 : BitVec 32 := Scalar.addi v1020 c0_i32_1070
  let v1022 : Index := Scalar.indexCast v1021
  let c0_1071 : Index := 0#32
  ![v1022.toNat, 0]
def k0_off22 (d0 : Dev nD) (c0_i32_1090 : BitVec 32) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_8 : BitVec 32 := 1#32
  let v24 : BitVec 32 := Scalar.shrsi v20 c1_i32_8
  let v47 : BitVec 32 := Scalar.subi c1_i32_21 v24
  let c256_i32_22 : BitVec 32 := 256#32
  let v48 : BitVec 32 := Scalar.muli v47 c256_i32_22
  let v49 : BitVec 32 := Scalar.addi c512_i32 v48
  let c1_i32_1088 : BitVec 32 := 1#32
  let c1_i32_6 : BitVec 32 := 1#32
  let v21 : BitVec 32 := Scalar.shrsi v20 c1_i32_6
  let v22 : BitVec 32 := Scalar.xori v20 v21
  let c1_i32_7 : BitVec 32 := 1#32
  let v23 : BitVec 32 := Scalar.andi v22 c1_i32_7
  let v1037 : BitVec 32 := Scalar.subi c1_i32_1088 v23
  let c128_i32_1089 : BitVec 32 := 128#32
  let v1038 : BitVec 32 := Scalar.muli v1037 c128_i32_1089
  let v1039 : BitVec 32 := Scalar.addi v49 v1038
  let v1040 : BitVec 32 := Scalar.addi v1039 c0_i32_1090
  let v1041 : Index := Scalar.indexCast v1040
  let c0_1091 : Index := 0#32
  ![v1041.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S16x1024x512 : Shape := ⟨3, ![16, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16x1024x512, .f32⟩
  | .hbm, ⟨2, _⟩ => ⟨S_, .f32⟩
  | .hbm, ⟨3, _⟩ => ⟨S1024x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Own.lean ====
/-
Ownership of part of a memref: a thread holds, at a share, the elements of a memref under a finite set of its
indices, and reads given values there. Splitting, joining and sharing such holdings; loads and stores through a
rectangle; and the same holding seen as ownership of a slice or of a squeezed slice, the form a transfer names.
-/
module

public import Idealize.ShloMosaic.Rules.Step
public import Idealize.ShloMosaic.Lib.Memref
public import Idealize.ShloMosaic.Lib.Tactic

@[expose] public section

noncomputable section

namespace Cert.Own

open Idealize.ShloMosaic
open Idealize.SL
open Idealize.SL.RA Idealize.SL.Sem Idealize.SL.ProofMode
open Idealize.SL.BI (sProp)
open scoped Idealize.SL.BI
open Idealize.SL.BI.BIBase Idealize.SL.BI.Laws
open PCS URA Auth

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

/-- A rectangle's indices are under the rectangle. -/
theorem emb_mem_rect {s : Shape} (r : Rect s) (x : r.shape.Idx) : r.emb x ∈ r.set := by
  rw [← Rect.map_emb_univ]; exact Finset.mem_map_of_mem _ (Finset.mem_univ x)

/-- Thread `c` holds, at share `q`, the elements of `m` at the indices `R`, and `m` reads `X` there. -/
def own (c : Thread nD τ) {sp : Space} {s : Shape} {e : EltTy} (m : Memref sig c.2.kind sp s e) (R : Finset s.Idx)
    (q : PosShare TreeShare) (X : s.Idx → Val e) : sProp 𝕄 :=
  iprop(∃ f, ⌜∀ x ∈ R, m.view.read Val f x = X x⌝ ∗ (m.view.loc c ↦[m.view.setOn R]{q} f))

variable {c : Thread nD τ} {sp : Space} {s : Shape} {e : EltTy} {m : Memref sig c.2.kind sp s e}
  {R R₁ R₂ : Finset s.Idx} {q q₁ q₂ : PosShare TreeShare} {X Y : s.Idx → Val e}

/-- A holding may appear in the body of an invariant. -/
instance own_storable (c : Thread nD τ) {sp : Space} {s : Shape} {e : EltTy} (m : Memref sig c.2.kind sp s e)
    (R : Finset s.Idx) (q : PosShare TreeShare) (X : s.Idx → Val e) :
    BI.Storable (upEmb : UEmb _ 𝕄) (own c m R q X) := by
  unfold own; infer_instance

/-- Only the values at the indices held matter. -/
theorem own_congr (h : ∀ x ∈ R, X x = Y x) : (own c m R q X : sProp 𝕄) ⊢ own c m R q Y := by
  unfold own
  iintro ⟨%f, %hf, H⟩
  iexists f
  isplitr
  · ipureintro; exact fun x hx => (hf x hx).trans (h x hx)
  iexact H

/-- A buffer's elements under the indices `R`, whatever they hold, are held at what they read. -/
theorem own_of_points (f : Buf Val (m.view.loc c)) :
    (m.view.loc c ↦[m.view.setOn R]{q} f) ⊢ (own c m R q (m.view.read Val f) : sProp 𝕄) := by
  unfold own
  iintro H
  iexists f
  isplitr
  · ipureintro; exact fun x _ => rfl
  iexact H

/-- Contents that read alike at the indices `R` agree on the elements under them. -/
theorem agree_of_read {f g : Buf Val (m.view.loc c)} (h : ∀ x ∈ R, m.view.read Val f x = m.view.read Val g x) :
    ∀ i ∈ m.view.setOn R, f i = g i := by
  intro i hi
  obtain ⟨x, hx, rfl⟩ := Finset.mem_map.1 hi
  have := h x hx
  rw [View.read_apply, View.read_apply] at this
  exact cast_inj (congrArg Val m.view.elt_eq) |>.1 this

theorem setOn_disjoint (h : Disjoint R₁ R₂) : Disjoint (m.view.setOn R₁) (m.view.setOn R₂) :=
  (Finset.disjoint_map _).2 h

/-- The indices held may be split in two. -/
theorem own_split (h : Disjoint R₁ R₂) :
    (own c m (R₁ ∪ R₂) q X : sProp 𝕄) ⊢ iprop(own c m R₁ q X ∗ own c m R₂ q X) := by
  classical
  unfold own
  iintro ⟨%f, %hf, H⟩
  rw [show m.view.setOn (R₁ ∪ R₂) = m.view.setOn R₁ ∪ m.view.setOn R₂ from Finset.map_union _ _]
  ihave H := (pointsTo_union (ℓ := m.view.loc c) (I := m.view.setOn R₁) (J := m.view.setOn R₂) (setOn_disjoint (m := m) h)).1 $$ H
  icases H with ⟨H1, H2⟩
  isplitl [H1]
  · iexists f
    isplitr
    · ipureintro; exact fun x hx => hf x (Finset.mem_union_left _ hx)
    iexact H1
  · iexists f
    isplitr
    · ipureintro; exact fun x hx => hf x (Finset.mem_union_right _ hx)
    iexact H2

/-- Two disjoint holdings join, each part keeping its values. -/
theorem own_join (h : Disjoint R₁ R₂) (h₁ : ∀ x ∈ R₁, X x = Y x) {X₂ : s.Idx → Val e} (h₂ : ∀ x ∈ R₂, X₂ x = Y x) :
    iprop(own c m R₁ q X ∗ own c m R₂ q X₂) ⊢ (own c m (R₁ ∪ R₂) q Y : sProp 𝕄) := by
  classical
  unfold own
  iintro ⟨⟨%f, %hf, H1⟩, ⟨%g, %hg, H2⟩⟩
  ihave H := pointsTo_join (ℓ := m.view.loc c) (I := m.view.setOn R₁) (J := m.view.setOn R₂) (setOn_disjoint (m := m) h) $$ [H1 H2]
  · isplitl [H1] <;> iassumption
  rw [show m.view.setOn R₁ ∪ m.view.setOn R₂ = m.view.setOn (R₁ ∪ R₂) from (Finset.map_union _ _).symm]
  iexists (m.view.setOn R₂).piecewise g f
  isplitr
  · ipureintro
    intro x hx
    rw [View.read_apply]
    by_cases hx2 : x ∈ R₂
    · rw [Finset.piecewise_eq_of_mem _ _ _ ((View.mem_setOn m.view).2 hx2)]
      exact (hg x hx2).trans (h₂ x hx2)
    · rw [Finset.piecewise_eq_of_notMem _ _ _ (fun hh => hx2 ((View.mem_setOn m.view).1 hh))]
      have hx1 : x ∈ R₁ := (Finset.mem_union.1 hx).resolve_right hx2
      exact (hf x hx1).trans (h₁ x hx1)
  iexact H

/-- A share splits in two. -/
theorem own_share (h : q ∈ q₁ ·? q₂) :
    (own c m R q X : sProp 𝕄) ⊢ iprop(own c m R q₁ X ∗ own c m R q₂ X) := by
  unfold own
  iintro ⟨%f, %hf, H⟩
  ihave H := (pointsTo_share h).1 $$ H
  icases H with ⟨H1, H2⟩
  isplitl [H1]
  · iexists f
    isplitr
    · ipureintro; exact hf
    iexact H1
  · iexists f
    isplitr
    · ipureintro; exact hf
    iexact H2

/-- Two shares of the same values join. -/
theorem own_unshare (h : q ∈ q₁ ·? q₂) :
    iprop(own c m R q₁ X ∗ own c m R q₂ X) ⊢ (own c m R q X : sProp 𝕄) := by
  unfold own
  iintro ⟨⟨%f, %hf, H1⟩, ⟨%g, %hg, H2⟩⟩
  have hc : ((m.view.loc c ↦[m.view.setOn R]{q₂} g) : sProp 𝕄) ⊢ (m.view.loc c ↦[m.view.setOn R]{q₂} f) :=
    Entails.of_eq (pointsTo_congr (agree_of_read (m := m) (fun x hx => (hg x hx).trans (hf x hx).symm)))
  ihave H2 := hc $$ H2
  iexists f
  isplitr
  · ipureintro; exact hf
  iapply (pointsTo_share h).2
  isplitl [H1] <;> iassumption

/-- Holding every index of a memref is owning it. -/
theorem own_univ : (own c m Finset.univ q X : sProp 𝕄) ⊣⊢ owns c m q X := by
  unfold own owns
  constructor
  · iintro ⟨%f, %hf, H⟩
    iexists f
    isplitr
    · ipureintro; exact funext fun x => hf x (Finset.mem_univ x)
    iexact H
  · iintro ⟨%f, %hf, H⟩
    iexists f
    isplitr
    · ipureintro; exact fun x _ => congrFun hf x
    iexact H

/-- The whole of a buffer, at its contents. -/
theorem own_whole_of (b : Ref sig c.2.kind) (f : Buf Val (c.loc b)) :
    (c.loc b ↦{q} f) ⊢ (own c (Memref.whole b) Finset.univ q f : sProp 𝕄) := by
  unfold own
  iintro H
  iexists f
  isplitr
  · ipureintro; exact fun x _ => rfl
  have h : (Memref.whole b).view.setOn Finset.univ = Finset.univ := View.setOn_whole_univ b
  rw [h]
  iexact H

/-- The whole of a buffer back from holding every index of it. -/
theorem own_whole_to (b : Ref sig c.2.kind) (f : Buf Val (c.loc b)) :
    (own c (Memref.whole b) Finset.univ q f : sProp 𝕄) ⊢ (c.loc b ↦{q} f) := by
  unfold own
  iintro ⟨%g, %hg, H⟩
  have h : (Memref.whole b).view.setOn Finset.univ = Finset.univ := View.setOn_whole_univ b
  rw [h]
  have hfg : g = f := funext fun x => hg x (Finset.mem_univ x)
  rw [← hfg]
  iexact H

/-- The indices of a rectangle, held, are the slice through it owned. -/
theorem own_slice (r : Rect s) (hr : ∀ a, r.stride a = 1) (X : s.Idx → Val e) :
    (own c m r.set q X : sProp 𝕄) ⊣⊢ owns c (m.slice r hr) q (fun x => X (r.emb x)) := by
  have hset : (m.slice r hr).view.set = m.view.setOn r.set := View.set_slice m.view r
  unfold own owns
  rw [hset]
  constructor
  · iintro ⟨%f, %hf, H⟩
    iexists f
    isplitr
    · ipureintro; exact funext fun x => hf (r.emb x) (emb_mem_rect r x)
    iexact H
  · iintro ⟨%f, %hf, H⟩
    iexists f
    isplitr
    · ipureintro
      intro x hx
      rw [← Rect.map_emb_univ] at hx
      obtain ⟨y, -, rfl⟩ := Finset.mem_map.1 hx
      exact congrFun hf y
    iexact H

/-- The same with unit axes dropped from the slice. -/
theorem own_squeeze (r : Rect s) (hr : ∀ a, r.stride a = 1) (s' : Shape) (h : r.shape.Squeezes s') (X : s.Idx → Val e) :
    (own c m r.set q X : sProp 𝕄)
      ⊣⊢ owns c ((m.slice r hr).squeeze s' h) q (fun x => X (r.emb (Shape.reshapeEquiv h.numel_eq x))) := by
  have hset : ((m.slice r hr).squeeze s' h).view.set = m.view.setOn r.set :=
    (View.set_reshape _ h.numel_eq).trans (View.set_slice m.view r)
  unfold own owns
  rw [hset]
  constructor
  · iintro ⟨%f, %hf, H⟩
    iexists f
    isplitr
    · ipureintro; exact funext fun x => hf (r.emb (Shape.reshapeEquiv h.numel_eq x)) (emb_mem_rect r _)
    iexact H
  · iintro ⟨%f, %hf, H⟩
    iexists f
    isplitr
    · ipureintro
      intro x hx
      rw [← Rect.map_emb_univ] at hx
      obtain ⟨y, -, rfl⟩ := Finset.mem_map.1 hx
      have := congrFun hf ((Shape.reshapeEquiv h.numel_eq).symm y)
      simp only [Equiv.apply_symm_apply] at this
      rw [← this, View.read_apply, View.read_apply]
      congr 2
      exact congrArg (fun z => m.view.emb (r.emb z)) ((Shape.reshapeEquiv h.numel_eq).apply_symm_apply y).symm
    iexact H

section Rules

variable [Preorder Lvl] {defs : Defs nD τ sig Val Λ} (𝒱 : Variants) (bd : Option 𝒱.V) {Γ : PendingWaitsCtx sig Ix} (E : Set Name)
variable {α : Type} {Q : α → sProp (MT nD τ sig Ix Val Name U Lvl)}

/-- A load through a rectangle whose indices are held continues at the values held there. -/
theorem wp_load_own {cs : CoreSpace} {m : Memref sig c.2.kind cs s e} {r : Rect s} {hl : m.view.LoadsAt r.toLoadRect}
    {k : (r.shape.Idx → Val e) → Prog (TpuEff nD τ sig Val Λ c.2) α} (hR : r.set ⊆ R) :
    (own c m R q X : sProp 𝕄)
      ⊢ iprop((own c m R q X -∗ wp frame (wpE' defs 𝒱 c bd Γ) E (k (fun x => X (r.emb x))) Q)
        -∗ wp frame (wpE' defs 𝒱 c bd Γ) E (.op (.load m r.toLoadRect hl) k) Q) := by
  unfold own
  iintro ⟨%f, %hf, H⟩ Hk
  have hv : m.view.readAt Val r.toLoadRect f = fun x => X (r.emb x) :=
    funext fun x => hf (r.emb x) (hR (emb_mem_rect r x))
  iapply (wp_load 𝒱 c bd E (m := m) (r := r.toLoadRect) (S := m.view.setOn R) (f := f) (Finset.map_subset_map.2 hR)) $$ H
  rw [hv]
  iintro H
  iapply Hk
  iexists f
  isplitr
  · ipureintro; exact hf
  iexact H

/-- A store through a rectangle whose indices are held whole leaves the values stored there, the others as they
    were. -/
theorem wp_store_own {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} (hR : r.set ⊆ R)
    (hin : ∀ x, w x = Y (r.emb x)) (hout : ∀ x ∈ R, x ∉ r.set → X x = Y x) :
    (own c m R fullShare X : sProp 𝕄)
      ⊢ iprop((own c m R fullShare Y -∗ wp frame (wpE' defs 𝒱 c bd Γ) E (k ⟨⟩) Q)
        -∗ wp frame (wpE' defs 𝒱 c bd Γ) E (.op (.store m r w Finset.univ hx hm) k) Q) := by
  unfold own
  iintro ⟨%f, %hf, H⟩ Hk
  have hset : (m.access r).setOn Finset.univ = m.view.setOn r.set := View.set_slice m.view r
  iapply (wp_store 𝒱 c bd E (m := m) (r := r) (w := w) (Mk := Finset.univ) (S := m.view.setOn R) (f := f)
    (hset.subset.trans (Finset.map_subset_map.2 hR))) $$ H
  iintro H
  iapply Hk
  iexists ((m.access r).write Val f w Finset.univ)
  isplitr
  · ipureintro
    intro x hx
    by_cases hxr : x ∈ r.set
    · rw [← Rect.map_emb_univ] at hxr
      obtain ⟨y, -, rfl⟩ := Finset.mem_map.1 hxr
      refine Eq.trans ?_ (hin y)
      exact congrFun (View.read_write_univ (v := m.access r) f w) y
    · refine Eq.trans ?_ ((hf x hx).trans (hout x hx hxr))
      rw [View.read_apply, View.read_apply]
      congr 1
      refine View.write_of_not_mem (v := m.access r) f w Finset.univ ?_
      rw [hset]
      exact fun hh => hxr ((View.mem_setOn m.view).1 hh)
  iexact H

end Rules

end Cert.Own

end
-- ==== Proof.Geo.lean ====
/-
The arithmetic of the schedule, apart from any program: which device a device exchanges with along each of the four
directions, where its blocks of rows lie, the values each block holds after each step, and loads, stores and slices of
blocks of rows (a band of a 1024 x 512 array) and of slabs (part of one half of a 2 x 128 x 512 array).
-/
module

public import proofs.«01_k».proof.Proof.Own
public import Idealize.ShloMosaic.Lib.ValueLayout
public import Idealize.ShloMosaic.Lib.Pipeline.ValueKit.Geometry
public import Idealize.ShloMosaic.PureOps.Vector

@[expose] public section

noncomputable section

namespace Cert.Geo

open Idealize.ShloMosaic Idealize.ShloMosaic.ValueIdx Cert.Own
open Idealize.SL
open Idealize.SL.RA Idealize.SL.Sem Idealize.SL.ProofMode
open Idealize.SL.BI (sProp)
open scoped Idealize.SL.BI
open Idealize.SL.BI.BIBase Idealize.SL.BI.Laws
open PCS URA Auth

/-! ## Devices and offsets -/

/-- The neighbour of device `c` along direction `i`. -/
def nb (i : Fin 4) (c : Fin 16) : Fin 16 :=
  ⟨(c.val ^^^ (![1, 3, 4, 8] : Fin 4 → ℕ) i) % 16, Nat.mod_lt _ (by decide)⟩

theorem nb_nb (i : Fin 4) (c : Fin 16) : nb i (nb i c) = c := by revert i c; decide

/-- The direction the `s`-th exchange of half `k` goes along. -/
def dim (k : Fin 2) (s : Fin 4) : Fin 4 := if k = 0 then s else (![1, 0, 3, 2] : Fin 4 → Fin 4) s

/-- The bit of device `c` that the direction `i` flips (the first two directions). -/
def bit (i : Fin 4) (c : Fin 16) : ℕ := if i = 0 then (c.val % 4 + c.val % 4 / 2) % 2 else c.val % 4 / 2

/-- Where block `t` of half `k` starts on device `c`: block 0 is the one the device reduces, block 1 the one its
    partner of the second exchange reduces, blocks 2 and 3 the same two of the other quarter. -/
def po (k : Fin 2) (t : Fin 4) (c : Fin 16) : ℕ :=
  512 * k.val + 256 * (if t.val < 2 then bit (dim k 0) c else 1 - bit (dim k 0) c)
    + 128 * (if t.val % 2 = 0 then bit (dim k 1) c else 1 - bit (dim k 1) c)

theorem po_le (k : Fin 2) (t : Fin 4) (c : Fin 16) : po k t c + 128 ≤ 1024 := by revert k t c; decide
theorem po_nb0_2 (k : Fin 2) (c : Fin 16) : po k 2 (nb (dim k 0) c) = po k 0 c := by revert k c; decide
theorem po_nb0_0 (k : Fin 2) (c : Fin 16) : po k 0 (nb (dim k 0) c) = po k 2 c := by revert k c; decide
theorem po_nb0_1 (k : Fin 2) (c : Fin 16) : po k 1 (nb (dim k 0) c) = po k 3 c := by revert k c; decide
theorem po_nb0_3 (k : Fin 2) (c : Fin 16) : po k 3 (nb (dim k 0) c) = po k 1 c := by revert k c; decide
theorem po_nb1_0 (k : Fin 2) (c : Fin 16) : po k 0 (nb (dim k 1) c) = po k 1 c := by revert k c; decide
theorem po_nb1_1 (k : Fin 2) (c : Fin 16) : po k 1 (nb (dim k 1) c) = po k 0 c := by revert k c; decide
theorem po_nb2_0 (k : Fin 2) (c : Fin 16) : po k 0 (nb (dim k 2) c) = po k 0 c := by revert k c; decide
theorem po_nb3_0 (k : Fin 2) (c : Fin 16) : po k 0 (nb (dim k 3) c) = po k 0 c := by revert k c; decide

/-! ## Index sets -/

/-- The shape of the argument and of the result on one device. -/
abbrev SA : Shape := ⟨2, ![1024, 512]⟩
/-- The shape of an exchange buffer. -/
abbrev SB : Shape := ⟨3, ![2, 128, 512]⟩

/-- The index at row `r` (taken modulo the number of rows) and column `j`. -/
def rc (r : ℕ) (j : Fin 512) : SA.Idx := ix2 (n0 := 1024) (n1 := 512) ⟨r % 1024, Nat.mod_lt _ (by decide)⟩ j

/-- The index of half `k` at row `r` (modulo 128) and column `j`. -/
def sc (k : Fin 2) (r : ℕ) (j : Fin 512) : SB.Idx :=
  ix3 (n0 := 2) (n1 := 128) (n2 := 512) k ⟨r % 128, Nat.mod_lt _ (by decide)⟩ j

/-- The `n` rows from row `o` on. -/
def rowsOf (o n : ℕ) : Finset SA.Idx := Finset.univ.filter fun x => o ≤ (x 0).val ∧ (x 0).val < o + n

/-- The `n` rows from row `o` on, of half `k`. -/
def slab (k : Fin 2) (o n : ℕ) : Finset SB.Idx :=
  Finset.univ.filter fun x => (x 0).val = k.val ∧ o ≤ (x 1).val ∧ (x 1).val < o + n

theorem mem_rowsOf {o n : ℕ} {x : SA.Idx} : x ∈ rowsOf o n ↔ o ≤ (x 0).val ∧ (x 0).val < o + n := by
  simp [rowsOf]

theorem mem_slab {k : Fin 2} {o n : ℕ} {x : SB.Idx} : x ∈ slab k o n ↔ (x 0).val = k.val ∧ o ≤ (x 1).val ∧ (x 1).val < o + n := by
  simp [slab]

theorem rows_disjoint {o o' n n' : ℕ} (h : o + n ≤ o' ∨ o' + n' ≤ o) : Disjoint (rowsOf o n) (rowsOf o' n') := by
  rw [Finset.disjoint_left]
  intro x hx hx'
  rw [mem_rowsOf] at hx hx'
  omega

theorem slab_disjoint {k k' : Fin 2} {o o' n n' : ℕ} (h : k ≠ k' ∨ o + n ≤ o' ∨ o' + n' ≤ o) :
    Disjoint (slab k o n) (slab k' o' n') := by
  rw [Finset.disjoint_left]
  intro x hx hx'
  rw [mem_slab] at hx hx'
  rcases h with h | h
  · exact h (Fin.ext (hx.1.symm.trans hx'.1))
  · omega

theorem rows_union (o n n' : ℕ) : rowsOf o (n + n') = rowsOf o n ∪ rowsOf (o + n) n' := by
  ext x
  rw [Finset.mem_union, mem_rowsOf, mem_rowsOf, mem_rowsOf]
  omega

theorem slab_union (k : Fin 2) (o n n' : ℕ) : slab k o (n + n') = slab k o n ∪ slab k (o + n) n' := by
  ext x
  rw [Finset.mem_union, mem_slab, mem_slab, mem_slab]
  constructor
  · rintro ⟨h, h1, h2⟩
    by_cases hh : (x 1).val < o + n
    · exact .inl ⟨h, h1, hh⟩
    · exact .inr ⟨h, by omega, by omega⟩
  · rintro (⟨h, h1, h2⟩ | ⟨h, h1, h2⟩)
    · exact ⟨h, h1, by omega⟩
    · exact ⟨h, by omega, by omega⟩

theorem rows_set {o n : ℕ} {off : Fin 2 → ℕ} (ho : off = ![o, 0])
    {inb : ∀ a, off a + (⟨2, ![n, 512]⟩ : Shape).size a ≤ SA.size a} :
    (Rect.unit (s := SA) off (⟨2, ![n, 512]⟩ : Shape).size inb).set = rowsOf o n := by
  subst ho
  ext x
  rw [Rect.mem_set_unit, mem_rowsOf]
  have h1 : (x 1).val < 512 := (x 1).isLt
  constructor
  · intro h; exact h 0
  · intro h a
    match a with
    | ⟨0, _⟩ => exact h
    | ⟨1, _⟩ => exact ⟨Nat.zero_le _, by simpa using h1⟩

theorem rows_emb {o n : ℕ} {off : Fin 2 → ℕ} (ho : off = ![o, 0])
    {inb : ∀ a, off a + (⟨2, ![n, 512]⟩ : Shape).size a ≤ SA.size a} (x : (⟨2, ![n, 512]⟩ : Shape).Idx) :
    (Rect.unit (s := SA) off (⟨2, ![n, 512]⟩ : Shape).size inb).emb x = rc (o + (x 0).val) (x 1) := by
  subst ho
  have hb : o + n ≤ 1024 := inb 0
  have h0 : (x 0).val < n := (x 0).isLt
  funext a
  match a with
  | ⟨0, _⟩ =>
    refine Fin.ext ((ValueKit.rect_emb_unit_val (s := SA) _ _ inb x 0).trans ?_)
    exact (Nat.mod_eq_of_lt (by omega : o + (x 0).val < 1024)).symm
  | ⟨1, _⟩ =>
    refine Fin.ext ((ValueKit.rect_emb_unit_val (s := SA) _ _ inb x 1).trans ?_)
    exact Nat.zero_add _

theorem slab_set {k : Fin 2} {o n : ℕ} {off : Fin 3 → ℕ} (ho : off = ![k.val, o, 0])
    {inb : ∀ a, off a + (⟨3, ![1, n, 512]⟩ : Shape).size a ≤ SB.size a} :
    (Rect.unit (s := SB) off (⟨3, ![1, n, 512]⟩ : Shape).size inb).set = slab k o n := by
  subst ho
  ext x
  rw [Rect.mem_set_unit, mem_slab]
  have h1 : (x 2).val < 512 := (x 2).isLt
  constructor
  · intro h
    have h0 : k.val ≤ (x 0).val ∧ (x 0).val < k.val + 1 := h 0
    exact ⟨by omega, h 1⟩
  · intro h a
    match a with
    | ⟨0, _⟩ =>
      have : (x 0).val = k.val := h.1
      exact ⟨this.ge, by show (x 0).val < k.val + 1; omega⟩
    | ⟨1, _⟩ => exact h.2
    | ⟨2, _⟩ => exact ⟨Nat.zero_le _, by simpa using h1⟩

theorem slab_emb {k : Fin 2} {o n : ℕ} {off : Fin 3 → ℕ} (ho : off = ![k.val, o, 0])
    {inb : ∀ a, off a + (⟨3, ![1, n, 512]⟩ : Shape).size a ≤ SB.size a} (x : (⟨3, ![1, n, 512]⟩ : Shape).Idx) :
    (Rect.unit (s := SB) off (⟨3, ![1, n, 512]⟩ : Shape).size inb).emb x = sc k (o + (x 1).val) (x 2) := by
  subst ho
  have hb : o + n ≤ 128 := inb 1
  have h0 : (x 0).val < 1 := (x 0).isLt
  have h1 : (x 1).val < n := (x 1).isLt
  funext a
  match a with
  | ⟨0, _⟩ =>
    refine Fin.ext ((ValueKit.rect_emb_unit_val (s := SB) _ _ inb x 0).trans ?_)
    show k.val + (x 0).val = k.val
    omega
  | ⟨1, _⟩ =>
    refine Fin.ext ((ValueKit.rect_emb_unit_val (s := SB) _ _ inb x 1).trans ?_)
    exact (Nat.mod_eq_of_lt (by omega : o + (x 1).val < 128)).symm
  | ⟨2, _⟩ =>
    refine Fin.ext ((ValueKit.rect_emb_unit_val (s := SB) _ _ inb x 2).trans ?_)
    exact Nat.zero_add _

/-! ## Values of bands and slabs -/

variable {V : Type}

/-- The `n` rows of `g` from row `o` on, as an array of their own. -/
def rowV (g : SA.Idx → V) (o n : ℕ) : (⟨2, ![n, 512]⟩ : Shape).Idx → V := fun x => g (rc (o + (x 0).val) (x 1))

/-- The `n` rows of half `k` of `R` from row `o` on, with a unit axis in front. -/
def slabV (R : SB.Idx → V) (k : Fin 2) (o n : ℕ) : (⟨3, ![1, n, 512]⟩ : Shape).Idx → V :=
  fun x => R (sc k (o + (x 1).val) (x 2))

/-- The same without the unit axis. -/
def sqV (R : SB.Idx → V) (k : Fin 2) (o n : ℕ) : (⟨2, ![n, 512]⟩ : Shape).Idx → V :=
  fun x => R (sc k (o + (x 0).val) (x 1))

/-- An exchange buffer whose half `k` holds the 128 rows of `g k` from row `o k` on. -/
def buf (o : Fin 2 → ℕ) (g : Fin 2 → SA.Idx → V) : SB.Idx → V := fun x => g (x 0) (rc (o (x 0) + (x 1).val) (x 2))

theorem sqV_buf (o : Fin 2 → ℕ) (g : Fin 2 → SA.Idx → V) (k : Fin 2) {h n : ℕ} (hh : h + n ≤ 128) :
    sqV (buf o g) k h n = rowV (g k) (o k + h) n := by
  funext x
  have h0 : (x 0).val < n := (x 0).isLt
  show g k (rc (o k + (h + (x 0).val) % 128) (x 1)) = _
  rw [Nat.mod_eq_of_lt (by omega), ← Nat.add_assoc]
  rfl

theorem slabV_buf (o : Fin 2 → ℕ) (g : Fin 2 → SA.Idx → V) (k : Fin 2) {h n : ℕ} (hh : h + n ≤ 128) :
    slabV (buf o g) k h n = fun x => rowV (g k) (o k + h) n (ix2 (x 1) (x 2)) := by
  funext x
  have h0 : (x 1).val < n := (x 1).isLt
  show g k (rc (o k + (h + (x 1).val) % 128) (x 2)) = _
  rw [Nat.mod_eq_of_lt (by omega), ← Nat.add_assoc]
  rfl

/-- Dropping the unit axis of a loaded slab. -/
theorem cast_slabV (o : Fin 2 → ℕ) (g : Fin 2 → SA.Idx → V) (k : Fin 2) {h n : ℕ} (hh : h + n ≤ 128)
    (hc : (⟨3, ![1, n, 512]⟩ : Shape).ShapeCasts ⟨2, ![n, 512]⟩) :
    shapeCast ⟨2, ![n, 512]⟩ (slabV (buf o g) k h n) hc = rowV (g k) (o k + h) n := by
  rw [slabV_buf _ _ _ hh]
  funext x
  rw [eq_ix2 x]
  exact shapeCast_1ab_ab_apply _ hc (x 0) (x 1)

/-- Adding the unit axis to a band that is to be stored as a slab. -/
theorem cast_rowV (o : Fin 2 → ℕ) (g : Fin 2 → SA.Idx → V) (k : Fin 2) {h n : ℕ} (hh : h + n ≤ 128)
    (hc : (⟨2, ![n, 512]⟩ : Shape).ShapeCasts ⟨3, ![1, n, 512]⟩) :
    shapeCast ⟨3, ![1, n, 512]⟩ (rowV (g k) (o k + h) n) hc = slabV (buf o g) k h n := by
  rw [slabV_buf _ _ _ hh]
  funext x
  rw [eq_ix3 x]
  exact shapeCast_ab_1ab_apply _ hc (x 0) (x 1) (x 2)

/-! ## What each block holds -/

variable {F : FTy → Type} [FloatOps F]

/-- Rounding one element to the exchange format. -/
def tr (x : F .f32) : F .bf16 := FloatOps.truncf .bf16 (by decide) x
/-- Reading one element of the exchange format. -/
def ex (x : F .bf16) : F .f32 := FloatOps.extf .f32 (by decide) x

variable (x : Fin 16 → SA.Idx → F .f32)

/-- The partial sums of half `k` on device `c` after `s` exchanges. -/
def acc (k : Fin 2) : ℕ → Fin 16 → SA.Idx → F .f32
  | 0, c => x c
  | s + 1, c => fun i => FloatOps.addf (acc k s c i) (ex (tr (acc k s (nb (dim k (Fin.ofNat 4 s)) c) i)))

/-- The partial sums rounded, as sent. -/
def accT (s : ℕ) (c : Fin 16) (k : Fin 2) : SA.Idx → F .bf16 := fun i => tr (acc x k s c i)

/-- The partial sums rounded, as received from the partner of exchange `s`. -/
def recT (s : ℕ) (c : Fin 16) (k : Fin 2) : SA.Idx → F .bf16 := accT x s (nb (dim k (Fin.ofNat 4 s)) c) k

/-- What the sent exchange buffers hold: the rounded sums after `s` exchanges, at block `t`. -/
def sbuf (t : Fin 4) (s : ℕ) (c : Fin 16) : SB.Idx → F .bf16 := buf (fun k => po k t c) (accT x s c)

/-- What the received exchange buffers hold. -/
def rbuf (t : Fin 4) (s : ℕ) (c : Fin 16) : SB.Idx → F .bf16 := buf (fun k => po k t c) (recT x s c)

/-- The device that reduced block `t` of half `k` of device `c`. -/
def owner (k : Fin 2) (t : Fin 4) (c : Fin 16) : Fin 16 :=
  (![c, nb (dim k 1) c, nb (dim k 0) c, nb (dim k 1) (nb (dim k 0) c)] : Fin 4 → Fin 16) t

/-- What block `t` of half `k` of the gathering buffer holds at the end. -/
def gat (k : Fin 2) (t : Fin 4) (c : Fin 16) : SA.Idx → F .bf16 := accT x 4 (owner k t c) k

/-- What block `t` of half `k` of the result holds at the end. -/
def fin (k : Fin 2) (t : Fin 4) (c : Fin 16) : SA.Idx → F .f32 :=
  if t = 0 then acc x k 4 c else fun i => ex (gat x k t c i)

/-! ## The arithmetic of one step -/

/-- Adding a received band to a band of partial sums. -/
theorem add_band (s : ℕ) (c : Fin 16) (k : Fin 2) (o n : ℕ) (h : FTy.bits .bf16 < FTy.bits .f32) :
    addf (rowV (acc x k s c) o n) (extf .f32 (rowV (recT x s c k) o n) h) = rowV (acc x k (s + 1) c) o n := rfl

/-- Rounding a band of partial sums. -/
theorem trunc_band (s : ℕ) (c : Fin 16) (k : Fin 2) (o n : ℕ) (h : FTy.bits .bf16 < FTy.bits .f32) :
    truncf .bf16 (rowV (acc x k s c) o n) h = rowV (accT x s c k) o n := rfl

/-- Reading a gathered band. -/
theorem ext_band (k : Fin 2) (t : Fin 4) (ht : t ≠ 0) (c : Fin 16) (o n : ℕ) (h : FTy.bits .bf16 < FTy.bits .f32) :
    extf .f32 (rowV (gat x k t c) o n) h = rowV (fin x k t c) o n := by
  unfold fin
  rw [if_neg ht]
  rfl

/-! ## Loads, stores and slices of bands and slabs -/

section Rules

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (bd : Option 𝒱.V) {Γ : PendingWaitsCtx sig Ix} (E : Set Name)
variable {α : Type} {Q : α → sProp (MT nD τ sig Ix Val Name U Lvl)}
variable {c : Thread nD τ} {e : EltTy} {q : PosShare TreeShare}

local notation "𝕄" => MT nD τ sig Ix Val Name U Lvl

/-- A load of a band, held with perhaps more. -/
theorem wp_load_rows {cs : CoreSpace} {m : Memref sig c.2.kind cs SA e} (o n : ℕ) {R : Finset SA.Idx} {X : SA.Idx → Val e}
    {off : Fin 2 → ℕ} (ho : off = ![o, 0])
    {inb : ∀ a, off a + (⟨2, ![n, 512]⟩ : Shape).size a ≤ SA.size a}
    {hl : m.view.LoadsAt (Rect.unit (s := SA) off (⟨2, ![n, 512]⟩ : Shape).size inb).toLoadRect}
    {k : ((⟨2, ![n, 512]⟩ : Shape).Idx → Val e) → Prog (TpuEff nD τ sig Val Λ c.2) α} (hR : rowsOf o n ⊆ R) :
    (own c m R q X : sProp 𝕄)
      ⊢ iprop((own c m R q X -∗ wp frame (wpE' defs 𝒱 c bd Γ) E (k (rowV X o n)) Q)
        -∗ wp frame (wpE' defs 𝒱 c bd Γ) E (.op (.load m (Rect.unit (s := SA) off (⟨2, ![n, 512]⟩ : Shape).size inb).toLoadRect hl) k) Q) := by
  have h := wp_load_own (defs := defs) (Λ := Λ) (X := X) (q := q) (Q := Q) (Γ := Γ) 𝒱 bd E (m := m)
    (r := Rect.unit (s := SA) off (⟨2, ![n, 512]⟩ : Shape).size inb) (hl := hl) (k := k) (R := R) (by rw [rows_set ho]; exact hR)
  rw [show (fun x => X ((Rect.unit (s := SA) off (⟨2, ![n, 512]⟩ : Shape).size inb).emb x)) = rowV X o n from
    funext fun x => congrArg X (rows_emb ho x)] at h
  exact h

/-- A load of a slab, held with perhaps more. -/
theorem wp_load_slab {cs : CoreSpace} {m : Memref sig c.2.kind cs SB e} (j : Fin 2) (o n : ℕ) {R : Finset SB.Idx} {X : SB.Idx → Val e}
    {off : Fin 3 → ℕ} (ho : off = ![j.val, o, 0])
    {inb : ∀ a, off a + (⟨3, ![1, n, 512]⟩ : Shape).size a ≤ SB.size a}
    {hl : m.view.LoadsAt (Rect.unit (s := SB) off (⟨3, ![1, n, 512]⟩ : Shape).size inb).toLoadRect}
    {k : ((⟨3, ![1, n, 512]⟩ : Shape).Idx → Val e) → Prog (TpuEff nD τ sig Val Λ c.2) α} (hR : slab j o n ⊆ R) :
    (own c m R q X : sProp 𝕄)
      ⊢ iprop((own c m R q X -∗ wp frame (wpE' defs 𝒱 c bd Γ) E (k (slabV X j o n)) Q)
        -∗ wp frame (wpE' defs 𝒱 c bd Γ) E (.op (.load m (Rect.unit (s := SB) off (⟨3, ![1, n, 512]⟩ : Shape).size inb).toLoadRect hl) k) Q) := by
  have h := wp_load_own (defs := defs) (Λ := Λ) (X := X) (q := q) (Q := Q) (Γ := Γ) 𝒱 bd E (m := m)
    (r := Rect.unit (s := SB) off (⟨3, ![1, n, 512]⟩ : Shape).size inb) (hl := hl) (k := k) (R := R) (by rw [slab_set ho]; exact hR)
  rw [show (fun x => X ((Rect.unit (s := SB) off (⟨3, ![1, n, 512]⟩ : Shape).size inb).emb x)) = slabV X j o n from
    funext fun x => congrArg X (slab_emb ho x)] at h
  exact h

/-- A store of a band. -/
theorem wp_store_rows {cs : CoreSpace} {m : Memref sig c.2.kind cs SA e} (o n : ℕ) {X : SA.Idx → Val e} (Y : SA.Idx → Val e)
    {off : Fin 2 → ℕ} (ho : off = ![o, 0])
    {inb : ∀ a, off a + (⟨2, ![n, 512]⟩ : Shape).size a ≤ SA.size a} {w : (⟨2, ![n, 512]⟩ : Shape).Idx → Val e}
    {hx : (m.access (Rect.unit (s := SA) off (⟨2, ![n, 512]⟩ : Shape).size inb)).Stores Finset.univ}
    {hm : (Finset.univ : Finset (⟨2, ![n, 512]⟩ : Shape).Idx) = Finset.univ ∨ ∀ a, (Rect.unit (s := SA) off (⟨2, ![n, 512]⟩ : Shape).size inb).stride a = 1}
    {k : PUnit → Prog (TpuEff nD τ sig Val Λ c.2) α} (hw : w = rowV Y o n) :
    (own c m (rowsOf o n) fullShare X : sProp 𝕄)
      ⊢ iprop((own c m (rowsOf o n) fullShare Y -∗ wp frame (wpE' defs 𝒱 c bd Γ) E (k ⟨⟩) Q)
        -∗ wp frame (wpE' defs 𝒱 c bd Γ) E (.op (.store m (Rect.unit (s := SA) off (⟨2, ![n, 512]⟩ : Shape).size inb) w Finset.univ hx hm) k) Q) := by
  have hs := rows_set ho (n := n) (inb := inb)
  refine wp_store_own (defs := defs) (Λ := Λ) (X := X) (Y := Y) (Q := Q) (Γ := Γ) 𝒱 bd E (m := m)
    (r := Rect.unit (s := SA) off (⟨2, ![n, 512]⟩ : Shape).size inb) (w := w) (hx := hx) (hm := hm) (k := k) (R := rowsOf o n)
    hs.subset ?_ ?_
  · intro x
    rw [hw]
    exact (congrArg Y (rows_emb ho x)).symm
  · intro x hx hxr
    rw [hs] at hxr
    exact absurd hx hxr

/-- A store of a slab. -/
theorem wp_store_slab {cs : CoreSpace} {m : Memref sig c.2.kind cs SB e} (j : Fin 2) (o n : ℕ) {X : SB.Idx → Val e} (Y : SB.Idx → Val e)
    {off : Fin 3 → ℕ} (ho : off = ![j.val, o, 0])
    {inb : ∀ a, off a + (⟨3, ![1, n, 512]⟩ : Shape).size a ≤ SB.size a} {w : (⟨3, ![1, n, 512]⟩ : Shape).Idx → Val e}
    {hx : (m.access (Rect.unit (s := SB) off (⟨3, ![1, n, 512]⟩ : Shape).size inb)).Stores Finset.univ}
    {hm : (Finset.univ : Finset (⟨3, ![1, n, 512]⟩ : Shape).Idx) = Finset.univ ∨ ∀ a, (Rect.unit (s := SB) off (⟨3, ![1, n, 512]⟩ : Shape).size inb).stride a = 1}
    {k : PUnit → Prog (TpuEff nD τ sig Val Λ c.2) α} (hw : w = slabV Y j o n) :
    (own c m (slab j o n) fullShare X : sProp 𝕄)
      ⊢ iprop((own c m (slab j o n) fullShare Y -∗ wp frame (wpE' defs 𝒱 c bd Γ) E (k ⟨⟩) Q)
        -∗ wp frame (wpE' defs 𝒱 c bd Γ) E (.op (.store m (Rect.unit (s := SB) off (⟨3, ![1, n, 512]⟩ : Shape).size inb) w Finset.univ hx hm) k) Q) := by
  have hs := slab_set ho (n := n) (inb := inb)
  refine wp_store_own (defs := defs) (Λ := Λ) (X := X) (Y := Y) (Q := Q) (Γ := Γ) 𝒱 bd E (m := m)
    (r := Rect.unit (s := SB) off (⟨3, ![1, n, 512]⟩ : Shape).size inb) (w := w) (hx := hx) (hm := hm) (k := k) (R := slab j o n)
    hs.subset ?_ ?_
  · intro x
    rw [hw]
    exact (congrArg Y (slab_emb ho x)).symm
  · intro x hx hxr
    rw [hs] at hxr
    exact absurd hx hxr

end Rules

section Slices

variable {nD : Nat} {τ : Topo} {sig : RefSig} {Ix : Type} [DecidableEq Ix]
variable {Val : EltTy → Type} {Name : Type} [DecidableEq Name]
variable {U : Type} [URA U] {Lvl : Type}
variable {c : Thread nD τ} {sp : Space} {e : EltTy} {q : PosShare TreeShare}

local notation "𝕄" => MT nD τ sig Ix Val Name U Lvl

/-- A held band is the slice through its rows, owned. -/
theorem own_rows_slice {m : Memref sig c.2.kind sp SA e} {o n : ℕ} {X : SA.Idx → Val e} {off : Fin 2 → ℕ} (ho : off = ![o, 0])
    {inb : ∀ a, off a + (⟨2, ![n, 512]⟩ : Shape).size a ≤ SA.size a}
    {hr : ∀ a, (Rect.unit (s := SA) off (⟨2, ![n, 512]⟩ : Shape).size inb).stride a = 1} :
    (own c m (rowsOf o n) q X : sProp 𝕄)
      ⊣⊢ owns c (m.slice (Rect.unit (s := SA) off (⟨2, ![n, 512]⟩ : Shape).size inb) hr) q (rowV X o n) := by
  have h := own_slice (Ix := Ix) (Name := Name) (U := U) (Lvl := Lvl) (c := c) (m := m) (q := q)
    (Rect.unit (s := SA) off (⟨2, ![n, 512]⟩ : Shape).size inb) hr X
  rw [rows_set ho, show (fun x => X ((Rect.unit (s := SA) off (⟨2, ![n, 512]⟩ : Shape).size inb).emb x)) = rowV X o n from
    funext fun x => congrArg X (rows_emb ho x)] at h
  exact h

/-- A held slab is the slice through it with the unit axis dropped, owned. -/
theorem own_slab_squeeze {m : Memref sig c.2.kind sp SB e} {k : Fin 2} {o n : ℕ} {X : SB.Idx → Val e} {off : Fin 3 → ℕ}
    (ho : off = ![k.val, o, 0])
    {inb : ∀ a, off a + (⟨3, ![1, n, 512]⟩ : Shape).size a ≤ SB.size a}
    {hr : ∀ a, (Rect.unit (s := SB) off (⟨3, ![1, n, 512]⟩ : Shape).size inb).stride a = 1}
    {hs : (Rect.unit (s := SB) off (⟨3, ![1, n, 512]⟩ : Shape).size inb).shape.Squeezes ⟨2, ![n, 512]⟩} :
    (own c m (slab k o n) q X : sProp 𝕄)
      ⊣⊢ owns c ((m.slice (Rect.unit (s := SB) off (⟨3, ![1, n, 512]⟩ : Shape).size inb) hr).squeeze ⟨2, ![n, 512]⟩ hs) q (sqV X k o n) := by
  have h := own_squeeze (Ix := Ix) (Name := Name) (U := U) (Lvl := Lvl) (c := c) (m := m) (q := q)
    (Rect.unit (s := SB) off (⟨3, ![1, n, 512]⟩ : Shape).size inb) hr ⟨2, ![n, 512]⟩ hs X
  rw [slab_set ho] at h
  rw [show (fun x => X ((Rect.unit (s := SB) off (⟨3, ![1, n, 512]⟩ : Shape).size inb).emb (Shape.reshapeEquiv hs.numel_eq x)))
      = sqV X k o n from funext fun x => congrArg X (by
        rw [slab_emb ho, eq_ix2 x]
        have := reshapeEquiv_ix2_1ab (a := n) (b := 512) hs.numel_eq (x 0) (x 1)
        exact (congrArg (fun z : (⟨3, ![1, n, 512]⟩ : Shape).Idx => sc k (o + (z 1).val) (z 2)) this))] at h
  exact h

/-- A held band, in two. -/
theorem own_rows_split {m : Memref sig c.2.kind sp SA e} {o n n' : ℕ} {X : SA.Idx → Val e} :
    (own c m (rowsOf o (n + n')) q X : sProp 𝕄) ⊢ iprop(own c m (rowsOf o n) q X ∗ own c m (rowsOf (o + n) n') q X) := by
  rw [rows_union]
  exact own_split (rows_disjoint (.inl le_rfl))

/-- Two bands that follow each other, in one. -/
theorem own_rows_join {m : Memref sig c.2.kind sp SA e} {o n n' : ℕ} {X : SA.Idx → Val e} :
    iprop(own c m (rowsOf o n) q X ∗ own c m (rowsOf (o + n) n') q X) ⊢ (own c m (rowsOf o (n + n')) q X : sProp 𝕄) := by
  rw [rows_union]
  exact own_join (rows_disjoint (.inl le_rfl)) (fun _ _ => rfl) (fun _ _ => rfl)

end Slices

end Cert.Geo

end
-- ==== Proof.Cut.lean ====
/-
Cutting a buffer into the bands and slabs the exchanges use, and putting it together again.
-/
module

public import proofs.«01_k».proof.Proof.Geo
public import Idealize.ShloMosaic.Lib.Pipeline.Kit

@[expose] public section

noncomputable section

namespace Cert.Geo

open Cert.Own
open Idealize.ShloMosaic Idealize.SL Idealize.SL.RA Idealize.SL.BI
open scoped Idealize.SL.BI
open Idealize.SL.BI.BIBase Idealize.SL.BI.Laws Idealize.SL.ProofMode Idealize.SL.Sem

/-- Two assertions that entail each other are equal. -/
theorem eq_of {M : Type} [URA M] {P Q : sProp M} (h : P ⊢ Q) (h' : Q ⊢ P) : P = Q := Idealize.SL.BI.Entails.antisymm h h'

/-! ## Holdings that add over index sets -/

section Add

variable {M : Type} [URA M] {I : Type} [DecidableEq I]

/-- A holding of a set of indices that is, of two disjoint sets, the two holdings. -/
def Adds (P : Finset I → sProp M) : Prop := ∀ R₁ R₂, Disjoint R₁ R₂ → P (R₁ ∪ R₂) = iprop(P R₁ ∗ P R₂)

end Add

section Cuts

variable {M : Type} [URA M] {P : Finset SA.Idx → sProp M} (hP : Adds P)

include hP

/-- A band of 128 rows is its two halves. -/
theorem cut_band (o : ℕ) : P (rowsOf o 128) = iprop(P (rowsOf o 64) ∗ P (rowsOf (o + 64) 64)) := by
  rw [show rowsOf o 128 = rowsOf o 64 ∪ rowsOf (o + 64) 64 from rows_union o 64 64]
  exact hP _ _ (rows_disjoint (.inl le_rfl))

theorem bit_le (i : Fin 4) (c : Fin 16) : bit i c ≤ 1 := by
  unfold bit
  split <;> omega

/-- Two neighbouring bands in either order. -/
theorem cut_pair (o b : ℕ) (hb : b ≤ 1) :
    P (rowsOf o 256) = iprop(P (rowsOf (o + 128 * b) 128) ∗ P (rowsOf (o + 128 * (1 - b)) 128)) := by
  rw [← hP _ _ (rows_disjoint (by omega))]
  congr 1
  ext y
  rw [Finset.mem_union, mem_rowsOf, mem_rowsOf, mem_rowsOf]
  rcases Nat.le_one_iff_eq_zero_or_eq_one.1 hb with rfl | rfl <;> omega

/-- A half of the buffer is its four blocks. -/
theorem cut_half (k : Fin 2) (c : Fin 16) :
    P (rowsOf (512 * k.val) 512) = iprop((P (rowsOf (po k 0 c) 128) ∗ P (rowsOf (po k 1 c) 128))
      ∗ (P (rowsOf (po k 2 c) 128) ∗ P (rowsOf (po k 3 c) 128))) := by
  have h0 := bit_le hP (dim k 0) c
  have h1 := bit_le hP (dim k 1) c
  have e : P (rowsOf (512 * k.val) 512) = iprop(P (rowsOf (512 * k.val + 256 * bit (dim k 0) c) 256)
      ∗ P (rowsOf (512 * k.val + 256 * (1 - bit (dim k 0) c)) 256)) := by
    rw [← hP _ _ (rows_disjoint (by omega))]
    congr 1
    ext y
    rw [Finset.mem_union, mem_rowsOf, mem_rowsOf, mem_rowsOf]
    rcases Nat.le_one_iff_eq_zero_or_eq_one.1 h0 with h | h <;> rw [h] <;> omega
  rw [e, cut_pair hP _ _ h1, cut_pair hP (512 * k.val + 256 * (1 - bit (dim k 0) c)) _ h1]
  rfl

/-- The two blocks of the quarter that is sent away are the quarter. -/
theorem cut_sent (k : Fin 2) (c : Fin 16) (o : ℕ) (ho : o = 512 * k.val + 256 * (1 - bit (dim k 0) c)) :
    P (rowsOf o 256) = iprop(P (rowsOf (po k 2 c) 128) ∗ P (rowsOf (po k 3 c) 128)) := by
  subst ho
  rw [cut_pair hP _ _ (bit_le hP (dim k 1) c)]
  rfl

/-- The whole buffer is its two halves. -/
theorem cut_whole :
    P Finset.univ = iprop(P (rowsOf (512 * (0 : Fin 2).val) 512) ∗ P (rowsOf (512 * (1 : Fin 2).val) 512)) := by
  have e : (Finset.univ : Finset SA.Idx) = rowsOf (512 * (0 : Fin 2).val) 512 ∪ rowsOf (512 * (1 : Fin 2).val) 512 := by
   ext y
   have hy : (y 0).val < 1024 := (y 0).isLt
   rw [Finset.mem_union, mem_rowsOf, mem_rowsOf]
   refine ⟨fun _ => ?_, fun _ => Finset.mem_univ _⟩
   by_cases h : (y 0).val < 512
   · exact .inl ⟨Nat.zero_le _, h⟩
   · exact .inr ⟨by show 512 ≤ (y 0).val; omega, hy⟩
  rw [e]
  exact hP _ _ (rows_disjoint (.inl le_rfl))

end Cuts

section Slabs

variable {M : Type} [URA M] {P : Finset SB.Idx → sProp M} (hP : Adds P)

include hP

/-- An exchange buffer is the slabs of its two halves. -/
theorem cut_buf : P Finset.univ = iprop(P (slab 0 0 128) ∗ P (slab 1 0 128)) := by
  have e : (Finset.univ : Finset SB.Idx) = slab 0 0 128 ∪ slab 1 0 128 := by
   ext y
   have h0 : (y 0).val < 2 := (y 0).isLt
   have h1 : (y 1).val < 128 := (y 1).isLt
   rw [Finset.mem_union, mem_slab, mem_slab]
   refine ⟨fun _ => ?_, fun _ => Finset.mem_univ _⟩
   by_cases h : (y 0).val = 0
   · exact .inl ⟨h, Nat.zero_le _, by omega⟩
   · exact .inr ⟨by show (y 0).val = 1; omega, Nat.zero_le _, by omega⟩
  have h01 : (0 : Fin 2) ≠ 1 := by decide
  rw [e]
  exact hP _ _ (slab_disjoint (.inl h01))

/-- A slab of 128 rows is its two halves. -/
theorem cut_slab (k : Fin 2) : P (slab k 0 128) = iprop(P (slab k 0 64) ∗ P (slab k 64 64)) := by
  rw [show slab k 0 128 = slab k 0 64 ∪ slab k 64 64 from slab_union k 0 64 64]
  exact hP _ _ (slab_disjoint (.inr (.inl le_rfl)))

end Slabs

/-! ## Places and held values -/

section Places

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

/-- Thread `c` holds the elements of `m` at the indices `R`, at any values. -/
def place (c : Thread nD τ) {sp : Space} {s : Shape} {e : EltTy} (m : Memref sig c.2.kind sp s e) (R : Finset s.Idx) : sProp 𝕄 :=
  iprop(∃ Y, own c m R fullShare Y)

variable {c : Thread nD τ} {sp : Space} {s : Shape} {e : EltTy} {m : Memref sig c.2.kind sp s e}

theorem place_of {R : Finset s.Idx} {X : s.Idx → Val e} : (own c m R fullShare X : sProp 𝕄) ⊢ place c m R := by
  unfold place
  iintro H
  iexists X
  iexact H

theorem own_adds (X : s.Idx → Val e) : Adds (fun R => (own c m R fullShare X : sProp 𝕄)) := fun R₁ R₂ h =>
  eq_of (own_split h) (own_join h (fun _ _ => rfl) (fun _ _ => rfl))

theorem place_adds : Adds (fun R => (place c m R : sProp 𝕄)) := fun R₁ R₂ h => by
  classical
  refine eq_of ?_ ?_
  · dsimp only
    unfold place
    iintro ⟨%Y, H⟩
    ihave H := (own_split h) $$ H
    icases H with ⟨H1, H2⟩
    isplitl [H1]
    · iexists Y; iexact H1
    · iexists Y; iexact H2
  · dsimp only
    unfold place
    iintro ⟨⟨%Y, H1⟩, ⟨%Z, H2⟩⟩
    iexists (fun i => if i ∈ R₁ then Y i else Z i)
    iapply (own_join h (X := Y) (X₂ := Z) (fun i hi => (if_pos hi).symm)
      (fun i hi => (if_neg (fun h1 => Finset.disjoint_left.1 h h1 hi)).symm))
    isplitl [H1]
    · iexact H1
    · iexact H2

/-- A whole buffer at some contents is its place. -/
theorem place_whole (b : Ref sig c.2.kind) :
    iprop(∃ f, c.loc b ↦{fullShare} f) = (place c (Memref.whole b) Finset.univ : sProp 𝕄) := by
  refine eq_of ?_ ?_
  · unfold place
    iintro ⟨%f, H⟩
    iexists f
    iapply (own_whole_of b f)
    iexact H
  · unfold place
    iintro ⟨%f, H⟩
    iexists f
    iapply (own_whole_to b f)
    iexact H

end Places

/-! ## The whole result -/

section Result

variable {F : FTy → Type} [FloatOps F] (x : Fin 16 → SA.Idx → F .f32)

/-- Which block of half `k` of device `c` row `r` lies in. -/
def blk (k : Fin 2) (c : Fin 16) (r : ℕ) : Fin 4 :=
  ⟨(if r % 512 / 256 = bit (dim k 0) c then 0 else 2) + (if r % 256 / 128 = bit (dim k 1) c then 0 else 1), by
    split <;> split <;> omega⟩

/-- What device `c`'s result holds at the end. -/
def outv (c : Fin 16) : SA.Idx → F .f32 := fun y =>
  let k : Fin 2 := if (y 0).val < 512 then 0 else 1
  fin x k (blk k c (y 0).val) c y

theorem outv_eq (k : Fin 2) (t : Fin 4) (c : Fin 16) (y : SA.Idx) (hy : y ∈ rowsOf (po k t c) 128) :
    fin x k t c y = outv x c y := by
  rw [mem_rowsOf] at hy
  have h0 : bit (dim k 0) c ≤ 1 := by unfold bit; split <;> omega
  have h1 : bit (dim k 1) c ≤ 1 := by unfold bit; split <;> omega
  have hp : po k t c = 512 * k.val + 256 * (if t.val < 2 then bit (dim k 0) c else 1 - bit (dim k 0) c)
    + 128 * (if t.val % 2 = 0 then bit (dim k 1) c else 1 - bit (dim k 1) c) := rfl
  rw [hp] at hy
  have hk : (if (y 0).val < 512 then (0 : Fin 2) else 1) = k := by
    have := k.isLt
    have := t.isLt
    refine Fin.ext ?_
    split at hy <;> split at hy <;> split <;> simp only [Fin.val_zero, Fin.val_one] <;> omega
  have ht : blk k c (y 0).val = t := by
    have := k.isLt
    have := t.isLt
    refine Fin.ext ?_
    show (if (y 0).val % 512 / 256 = bit (dim k 0) c then 0 else 2) + (if (y 0).val % 256 / 128 = bit (dim k 1) c then 0 else 1) = t.val
    split at hy <;> split at hy <;> split <;> split <;> omega
  show _ = fin x (if (y 0).val < 512 then (0 : Fin 2) else 1) (blk (if (y 0).val < 512 then (0 : Fin 2) else 1) c (y 0).val) c y
  rw [hk, ht]

end Result

end Cert.Geo

end
-- ==== Proof.KernelIdeal.Proto.lean ====
/-
The exchange protocol of the kernel, stated under the rounds library: one lane per transfer (half `k`, slot `s`), a send
and a receive cell for each lane, one barrier cell per device with one duty per direction. Each transfer's source is
handed back by its send cell, its landing is handed over by its receive cell at the values the schedule gives it, and a
device's landing places are handed to its neighbours by the barrier. The rules for a signal, for the barrier wait, for a
transfer and for its two waits follow.
-/
module

public import proofs.«01_k».proof.Proof.Geo
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Own Cert.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A separating product dealt out by a function: each factor goes to the index the function sends it to. -/
theorem deal {M : Type} [URA M] {I J : Type} [DecidableEq I] [Fintype J] [DecidableEq J] (s : Finset I) (f : I → J) (Φ : I → sProp M) :
    bigSep s Φ = bigSep Finset.univ fun j => bigSep s fun i => if f i = j then Φ i else iprop(emp) := by
  induction s using Finset.induction_on with
  | empty => simp only [bigSep_empty]; exact (bigSep_emp_const _).symm
  | insert i s hi ih =>
    rw [bigSep_insert hi, ih]
    simp only [bigSep_insert hi]
    rw [bigSep_sep]
    congr 1
    have e := bigSep_filter Finset.univ (fun j => f i = j) (fun _ => Φ i)
    rw [Finset.filter_eq, if_pos (Finset.mem_univ _), bigSep_singleton] at e
    exact e

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev xM : Memref sig .tc .vmem S1024x512 .f32 := Memref.whole cc0_stg0_0
abbrev outM : Memref sig .tc .vmem S1024x512 .f32 := Memref.whole cc0_stg1_0
abbrev xbM : Memref sig .tc .vmem S1024x512 .bf16 := Memref.whole cc0_scratch0
abbrev agM : Memref sig .tc .vmem S1024x512 .bf16 := Memref.whole cc0_scratch1
abbrev r0M : Memref sig .tc .vmem S2x128x512 .bf16 := Memref.whole cc0_scratch2
abbrev rkM : Memref sig .tc .vmem S2x128x512 .bf16 := Memref.whole cc0_scratch3
abbrev r1M : Memref sig .tc .vmem S2x128x512 .bf16 := Memref.whole cc0_scratch4
abbrev r2M : Memref sig .tc .vmem S2x128x512 .bf16 := Memref.whole cc0_scratch5
abbrev r3M : Memref sig .tc .vmem S2x128x512 .bf16 := Memref.whole cc0_scratch6
abbrev s1M : Memref sig .tc .vmem S2x128x512 .bf16 := Memref.whole cc0_scratch7
abbrev s2M : Memref sig .tc .vmem S2x128x512 .bf16 := Memref.whole cc0_scratch8
abbrev s3M : Memref sig .tc .vmem S2x128x512 .bf16 := Memref.whole cc0_scratch9

/-! ## Lanes and cells -/

/-- A transfer: which half of the array, and which of its fifteen slots. -/
abbrev Lane : Type := Fin 2 × Fin 15

/-- The direction a lane goes along. -/
def ldim (j : Lane) : Fin 4 := dim j.1 ((![0, 0, 0, 1, 1, 2, 2, 3, 3, 1, 1, 0, 0, 0, 0] : Fin 15 → Fin 4) j.2)

/-- The device at the other end of a lane. -/
def peer (j : Lane) (c : Dev nD) : Dev nD := nb (ldim j) c

theorem peer_peer (j : Lane) (c : Dev nD) : peer j (peer j c) = c := nb_nb _ _

set_option backward.proofsInPublic true in
def sendSem (j : Lane) : DmaSem sig := (⟨2 + 15 * j.1.val + j.2.val, by have := j.1.isLt; have := j.2.isLt; omega⟩ : Fin 62)
set_option backward.proofsInPublic true in
def recvSem (j : Lane) : DmaSem sig := (⟨32 + 15 * j.1.val + j.2.val, by have := j.1.isLt; have := j.2.isLt; omega⟩ : Fin 62)

abbrev barS : Sem sig := (SemArray.scalar (sig.barrier 0 rfl) : Sems sig S_).sem

abbrev barCell (c : Dev nD) : GSem nD τ sig := ((c : Thread nD τ), .reg barS)
abbrev sendCell (j : Lane) (c : Dev nD) : GSem nD τ sig := ((c : Thread nD τ), .dma (sendSem j))
abbrev recvCell (j : Lane) (c : Dev nD) : GSem nD τ sig := ((c : Thread nD τ), .dma (recvSem j))

/-- A cell of a device: its barrier cell, or a lane's send (`false`) or receive (`true`) cell. -/
abbrev CI : Type := Option (Bool × Lane)

def csem : CI → SemLoc sig
  | none => .reg barS
  | some (false, j) => .dma (sendSem j)
  | some (true, j) => .dma (recvSem j)

abbrev kcell (ck : Dev nD × CI) : GSem nD τ sig := ((ck.1 : Thread nD τ), csem ck.2)

/-- Which cell of its device a semaphore is. -/
def kind : SemLoc sig → Option CI
  | .reg s => if s = barS then some none else none
  | .dma q =>
    let v : ℕ := Fin.val (n := 62) q
    if v < 2 then none
    else some (some (decide (32 ≤ v), (⟨(v - 2) % 30 / 15, by omega⟩, ⟨(v - 2) % 15, by omega⟩)))

theorem kind_csem (i : CI) : kind (csem i) = some i := by
  rcases i with _ | ⟨b, j⟩
  · rfl
  · cases b <;> (revert j; decide)

theorem csem_inj : Function.Injective csem := fun a b h => by
  have := congrArg kind h
  rw [kind_csem, kind_csem] at this
  exact Option.some.inj this

theorem kcell_inj : Function.Injective kcell := fun a b h => by
  obtain ⟨h1, h2⟩ := Prod.mk.inj h
  exact Prod.ext (Fin.ext (congrArg (fun t : Thread nD τ => t.1.val) h1)) (csem_inj h2)

theorem kind_bar : kind (.reg barS) = some none := kind_csem none
theorem kind_send (j : Lane) : kind (.dma (sendSem j)) = some (some (false, j)) := kind_csem (some (false, j))
theorem kind_recv (j : Lane) : kind (.dma (recvSem j)) = some (some (true, j)) := kind_csem (some (true, j))

/-- The units a lane's transfer credits. -/
def credN (j : Lane) : ℕ :=
  match j.2.val with
  | 0 | 1 => sig.dmaCredit .tc (Kind.tc.table .vmem) r0M.view.buf S64x512 .bf16
  | 2 => sig.dmaCredit .tc (Kind.tc.table .vmem) rkM.view.buf S128x512 .bf16
  | 3 | 4 => sig.dmaCredit .tc (Kind.tc.table .vmem) r1M.view.buf S64x512 .bf16
  | 5 | 6 => sig.dmaCredit .tc (Kind.tc.table .vmem) r2M.view.buf S64x512 .bf16
  | 7 | 8 => sig.dmaCredit .tc (Kind.tc.table .vmem) r3M.view.buf S64x512 .bf16
  | _ => sig.dmaCredit .tc (Kind.tc.table .vmem) agM.view.buf S64x512 .bf16

theorem credN_pos (j : Lane) : 0 < credN j := by
  unfold credN
  split <;> exact sig.dmaCredit_pos _ _ _ _ _ (by decide)

/-! ## Payloads -/

variable (x : Dev nD → SA.Idx → F .f32)

/-- The left half of a full share, and the right half. -/
abbrev lsh : PosShare TreeShare := fullShare.left
abbrev rsh : PosShare TreeShare := fullShare.right

/-- What a lane's send cell hands back: the transfer's source. -/
def sendPay (j : Lane) (c : Dev nD) : sProp 𝕄 :=
  match j.2.val with
  | 0 => own (c : Thread nD τ) xbM (rowsOf (po j.1 3 c) 64) fullShare (accT x 0 c j.1)
  | 1 => own (c : Thread nD τ) xbM (rowsOf (po j.1 3 c + 64) 64) fullShare (accT x 0 c j.1)
  | 2 => own (c : Thread nD τ) xbM (rowsOf (po j.1 2 c) 128) fullShare (accT x 0 c j.1)
  | 3 => own (c : Thread nD τ) s1M (slab j.1 0 64) fullShare (sbuf x 1 1 c)
  | 4 => own (c : Thread nD τ) s1M (slab j.1 64 64) fullShare (sbuf x 1 1 c)
  | 5 => own (c : Thread nD τ) s2M (slab j.1 0 64) fullShare (sbuf x 0 2 c)
  | 6 => own (c : Thread nD τ) s2M (slab j.1 64 64) fullShare (sbuf x 0 2 c)
  | 7 => own (c : Thread nD τ) s3M (slab j.1 0 64) fullShare (sbuf x 0 3 c)
  | 8 => own (c : Thread nD τ) s3M (slab j.1 64 64) fullShare (sbuf x 0 3 c)
  | 9 => own (c : Thread nD τ) agM (rowsOf (po j.1 0 c) 64) lsh (gat x j.1 0 c)
  | 10 => own (c : Thread nD τ) agM (rowsOf (po j.1 0 c + 64) 64) lsh (gat x j.1 0 c)
  | 11 => own (c : Thread nD τ) agM (rowsOf (po j.1 0 c) 64) rsh (gat x j.1 0 c)
  | 12 => own (c : Thread nD τ) agM (rowsOf (po j.1 0 c + 64) 64) rsh (gat x j.1 0 c)
  | 13 => own (c : Thread nD τ) agM (rowsOf (po j.1 1 c) 64) lsh (gat x j.1 1 c)
  | _ => own (c : Thread nD τ) agM (rowsOf (po j.1 1 c + 64) 64) lsh (gat x j.1 1 c)

/-- What a lane's receive cell hands over: the landing, at its values. -/
def recvPay (j : Lane) (c : Dev nD) : sProp 𝕄 :=
  match j.2.val with
  | 0 => own (c : Thread nD τ) r0M (slab j.1 0 64) fullShare (rbuf x 1 0 c)
  | 1 => own (c : Thread nD τ) r0M (slab j.1 64 64) fullShare (rbuf x 1 0 c)
  | 2 => own (c : Thread nD τ) rkM (slab j.1 0 128) fullShare (rbuf x 0 0 c)
  | 3 => own (c : Thread nD τ) r1M (slab j.1 0 64) fullShare (rbuf x 0 1 c)
  | 4 => own (c : Thread nD τ) r1M (slab j.1 64 64) fullShare (rbuf x 0 1 c)
  | 5 => own (c : Thread nD τ) r2M (slab j.1 0 64) fullShare (rbuf x 0 2 c)
  | 6 => own (c : Thread nD τ) r2M (slab j.1 64 64) fullShare (rbuf x 0 2 c)
  | 7 => own (c : Thread nD τ) r3M (slab j.1 0 64) fullShare (rbuf x 0 3 c)
  | 8 => own (c : Thread nD τ) r3M (slab j.1 64 64) fullShare (rbuf x 0 3 c)
  | 9 => own (c : Thread nD τ) agM (rowsOf (po j.1 1 c) 64) fullShare (gat x j.1 1 c)
  | 10 => own (c : Thread nD τ) agM (rowsOf (po j.1 1 c + 64) 64) fullShare (gat x j.1 1 c)
  | 11 => own (c : Thread nD τ) agM (rowsOf (po j.1 2 c) 64) fullShare (gat x j.1 2 c)
  | 12 => own (c : Thread nD τ) agM (rowsOf (po j.1 2 c + 64) 64) fullShare (gat x j.1 2 c)
  | 13 => own (c : Thread nD τ) agM (rowsOf (po j.1 3 c) 64) fullShare (gat x j.1 3 c)
  | _ => own (c : Thread nD τ) agM (rowsOf (po j.1 3 c + 64) 64) fullShare (gat x j.1 3 c)

/-- The place a lane's transfer lands in on device `c`, at any values. -/
def dstPts (j : Lane) (c : Dev nD) : sProp 𝕄 :=
  match j.2.val with
  | 0 => iprop(∃ Y, own (c : Thread nD τ) r0M (slab j.1 0 64) fullShare Y)
  | 1 => iprop(∃ Y, own (c : Thread nD τ) r0M (slab j.1 64 64) fullShare Y)
  | 2 => iprop(∃ Y, own (c : Thread nD τ) rkM (slab j.1 0 128) fullShare Y)
  | 3 => iprop(∃ Y, own (c : Thread nD τ) r1M (slab j.1 0 64) fullShare Y)
  | 4 => iprop(∃ Y, own (c : Thread nD τ) r1M (slab j.1 64 64) fullShare Y)
  | 5 => iprop(∃ Y, own (c : Thread nD τ) r2M (slab j.1 0 64) fullShare Y)
  | 6 => iprop(∃ Y, own (c : Thread nD τ) r2M (slab j.1 64 64) fullShare Y)
  | 7 => iprop(∃ Y, own (c : Thread nD τ) r3M (slab j.1 0 64) fullShare Y)
  | 8 => iprop(∃ Y, own (c : Thread nD τ) r3M (slab j.1 64 64) fullShare Y)
  | 9 => iprop(∃ Y, own (c : Thread nD τ) agM (rowsOf (po j.1 1 c) 64) fullShare Y)
  | 10 => iprop(∃ Y, own (c : Thread nD τ) agM (rowsOf (po j.1 1 c + 64) 64) fullShare Y)
  | 11 => iprop(∃ Y, own (c : Thread nD τ) agM (rowsOf (po j.1 2 c) 64) fullShare Y)
  | 12 => iprop(∃ Y, own (c : Thread nD τ) agM (rowsOf (po j.1 2 c + 64) 64) fullShare Y)
  | 13 => iprop(∃ Y, own (c : Thread nD τ) agM (rowsOf (po j.1 3 c) 64) fullShare Y)
  | _ => iprop(∃ Y, own (c : Thread nD τ) agM (rowsOf (po j.1 3 c + 64) 64) fullShare Y)

/-- What the signal along direction `i` hands the device it reaches: the landing places, on the signalling device, of the
    lanes that go along `i`. -/
def barPay (i : Fin 4) (c : Dev nD) : sProp 𝕄 :=
  bigSep Finset.univ fun j : Lane => if ldim j = i then dstPts (F := F) j c else iprop(emp)

instance sendPay_storable (j : Lane) (c : Dev nD) : BI.Storable (upEmb : UEmb _ 𝕄) (sendPay x j c) := by
  unfold sendPay; split <;> infer_instance
instance recvPay_storable (j : Lane) (c : Dev nD) : BI.Storable (upEmb : UEmb _ 𝕄) (recvPay x j c) := by
  unfold recvPay; split <;> infer_instance
instance dstPts_storable (j : Lane) (c : Dev nD) : BI.Storable (upEmb : UEmb _ 𝕄) (dstPts (F := F) j c) := by
  unfold dstPts; split <;> infer_instance
instance barPay_storable (i : Fin 4) (c : Dev nD) : BI.Storable (upEmb : UEmb _ 𝕄) (barPay (F := F) i c) := by
  have h (j : Lane) : BI.Storable (upEmb : UEmb _ 𝕄) (if ldim j = i then dstPts (F := F) j c else iprop(emp)) := by
    split <;> infer_instance
  unfold barPay; infer_instance

/-! ## The schedule -/

def dutiesOf : Option CI → Finset (Fin 4)
  | none => ∅
  | some none => Finset.univ
  | some (some _) => {0}

def amountOf : Option CI → ℕ
  | some (some (_, j)) => credN j
  | _ => 1

def payOf (c : Dev nD) (d : Fin 4) : Option CI → sProp 𝕄
  | some none => barPay d (nb d c)
  | some (some (false, j)) => sendPay x j c
  | some (some (true, j)) => recvPay x j c
  | none => iprop(emp)

/-- One round: a barrier cell has a duty of one unit for each direction, a send or receive cell the one duty of its
    transfer's credit. -/
def rd : Rounds.Schedule (GSem nD τ sig) (Fin 4) 𝕄 where
  duties g r := if r = 0 ∧ g.1.2 = .tc then dutiesOf (kind g.2) else ∅
  unitless _ := False
  amount g _ _ := amountOf (kind g.2)
  payload g _ d := payOf x g.1.1 d (kind g.2)
  amount_pos g _ _ _ := by
    unfold amountOf
    split
    · exact credN_pos _
    · exact Nat.one_pos

instance rd_payload_storable (g : GSem nD τ sig) (r : ℕ) (d : Fin 4) :
    BI.Storable (upEmb : UEmb _ 𝕄) ((rd x).payload g r d) := by
  show BI.Storable upEmb (payOf x g.1.1 d (kind g.2))
  unfold payOf
  split <;> infer_instance

section Sched
variable (c : Dev nD) (j : Lane)

theorem duties_bar : (rd x).duties (barCell c) 0 = Finset.univ := by
  dsimp only [rd]; rw [if_pos ⟨rfl, rfl⟩, kind_bar]; rfl
theorem duties_send : (rd x).duties (sendCell j c) 0 = {0} := by
  dsimp only [rd]; rw [if_pos ⟨rfl, rfl⟩, kind_send]; rfl
theorem duties_recv : (rd x).duties (recvCell j c) 0 = {0} := by
  dsimp only [rd]; rw [if_pos ⟨rfl, rfl⟩, kind_recv]; rfl
theorem duties_later (g : GSem nD τ sig) : ∀ r, 1 ≤ r → (rd x).duties g r = ∅ :=
  fun r hr => if_neg fun h => by omega

theorem amount_bar (d : Fin 4) : (rd x).amount (barCell c) 0 d = 1 := by
  show amountOf (kind (.reg barS)) = 1
  rw [kind_bar]; rfl
theorem amount_send (d : Fin 4) : (rd x).amount (sendCell j c) 0 d = credN j := by
  show amountOf (kind (.dma (sendSem j))) = _
  rw [kind_send]; rfl
theorem amount_recv (d : Fin 4) : (rd x).amount (recvCell j c) 0 d = credN j := by
  show amountOf (kind (.dma (recvSem j))) = _
  rw [kind_recv]; rfl

theorem expect_bar : (rd x).expect (barCell c) 0 = 4 := by
  unfold Schedule.expect Schedule.amountOf
  rw [duties_bar, Finset.sum_congr rfl fun d _ => amount_bar x c d, Finset.sum_const, Finset.card_univ, Fintype.card_fin, smul_eq_mul]
theorem expect_send : (rd x).expect (sendCell j c) 0 = credN j := by
  unfold Schedule.expect Schedule.amountOf; rw [duties_send, Finset.sum_singleton, amount_send]
theorem expect_recv : (rd x).expect (recvCell j c) 0 = credN j := by
  unfold Schedule.expect Schedule.amountOf; rw [duties_recv, Finset.sum_singleton, amount_recv]

theorem payload_bar (d : Fin 4) : (rd x).payload (barCell c) 0 d = barPay d (nb d c) := by
  show payOf x c d (kind (.reg barS)) = _
  rw [kind_bar]; rfl
theorem payload_send (d : Fin 4) : (rd x).payload (sendCell j c) 0 d = sendPay x j c := by
  show payOf x c d (kind (.dma (sendSem j))) = _
  rw [kind_send]; rfl
theorem payload_recv (d : Fin 4) : (rd x).payload (recvCell j c) 0 d = recvPay x j c := by
  show payOf x c d (kind (.dma (recvSem j))) = _
  rw [kind_recv]; rfl

theorem rest_send : bigSep ((rd x).duties (sendCell j c) 0 \ ∅) (fun d => (rd x).payload (sendCell j c) 0 d) = sendPay x j c := by
  rw [Finset.sdiff_empty, duties_send, bigSep_singleton, payload_send]
theorem rest_recv : bigSep ((rd x).duties (recvCell j c) 0 \ ∅) (fun d => (rd x).payload (recvCell j c) 0 d) = recvPay x j c := by
  rw [Finset.sdiff_empty, duties_recv, bigSep_singleton, payload_recv]

/-- All the barrier cell hands over: the landing places at the other end of every lane. -/
theorem rest_bar : bigSep ((rd x).duties (barCell c) 0 \ ∅) (fun d => (rd x).payload (barCell c) 0 d)
    = bigSep Finset.univ fun j : Lane => dstPts (F := F) j (peer j c) := by
  rw [Finset.sdiff_empty, duties_bar]
  have h : ∀ d : Fin 4, (rd x).payload (barCell c) 0 d
      = bigSep Finset.univ fun j : Lane => if ldim j = d then dstPts (F := F) j (peer j c) else iprop(emp) := by
    intro d
    rw [payload_bar]
    unfold barPay
    refine bigSep_congr fun j _ => ?_
    by_cases hj : ldim j = d
    · rw [if_pos hj, if_pos hj, peer, hj]
    · rw [if_neg hj, if_neg hj]
  rw [bigSep_congr fun d _ => h d]
  exact (deal Finset.univ ldim _).symm

end Sched

/-! ## What a device owes, and the levels -/

/-- The order in which a device starts its transfers. -/
def order : List Lane :=
  [(0, 0), (1, 0), (0, 1), (1, 1), (0, 2), (1, 2), (0, 3), (1, 3), (0, 4), (1, 4), (0, 5), (1, 5), (0, 6), (1, 6), (0, 7), (1, 7),
   (0, 8), (1, 8), (1, 9), (1, 11), (0, 9), (0, 11), (1, 10), (1, 12), (0, 10), (0, 12), (1, 13), (0, 13), (1, 14), (0, 14)]

/-- A lane's place in that order. -/
def pos (j : Lane) : ℕ := order.idxOf j

/-- The credits device `c` owes for the transfers of `l`. -/
def debt (c : Dev nD) (l : List Lane) : CellTallies nD τ sig Unit :=
  (l.map fun j => tallyAt (recvCell j (peer j c)) () (credN j)).sum

/-- The units it owes its neighbours' barrier cells along `l`. -/
def debtB (c : Dev nD) (l : List (Fin 4)) : CellTallies nD τ sig Unit :=
  (l.map fun i => tallyAt (barCell (nb i c)) () 1).sum

theorem debt_cons (c : Dev nD) (j : Lane) (l : List Lane) :
    debt c (j :: l) = debt c l + tallyAt (recvCell j (peer j c)) () (credN j) := by
  unfold debt; rw [List.map_cons, List.sum_cons, add_comm]

theorem debtB_cons (c : Dev nD) (i : Fin 4) (l : List (Fin 4)) (O : CellTallies nD τ sig Unit) :
    O + debtB c (i :: l) = (O + debtB c l) + tallyAt (barCell (nb i c)) () 1 := by
  unfold debtB; rw [List.map_cons, List.sum_cons, add_assoc, add_comm (tallyAt _ _ _)]

def L (g : GSem nD τ sig) : Finset Unit := if g.1.2 = .tc then {()} else ∅

/-- Barrier cells at level 1, a lane's receive cell at 2 and its place in the order, everything else at 0. -/
def lv (g : GSem nD τ sig) (_ : Unit) : ℕ :=
  match kind g.2 with
  | some none => 1
  | some (some (true, j)) => 2 + pos j
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar]
theorem lv_send (j : Lane) (c : Dev nD) : lv (sendCell j c) () = 0 := by unfold lv; rw [kind_send]
theorem lv_recv (j : Lane) (c : Dev nD) : lv (recvCell j c) () = 2 + pos j := by unfold lv; rw [kind_recv]

theorem tallyAt_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem debt_pos {c : Dev nD} {l : List Lane} {g : GSem nD τ sig} {u : Unit} (h : 0 < debt c l g u) :
    ∃ j ∈ l, g = recvCell j (peer j c) := by
  induction l with
  | nil => exact absurd h (Nat.lt_irrefl 0)
  | cons j l ih =>
    rw [debt_cons, Pi.add_apply, Finsupp.add_apply] at h
    by_cases h1 : 0 < tallyAt (recvCell j (peer j c)) () (credN j) g u
    · exact ⟨j, List.mem_cons_self, tallyAt_pos h1⟩
    · obtain ⟨j', hj', e⟩ := ih (by omega)
      exact ⟨j', List.mem_cons_of_mem _ hj', e⟩

theorem debtB_pos {c : Dev nD} {l : List (Fin 4)} {g : GSem nD τ sig} {u : Unit} (h : 0 < debtB c l g u) :
    ∃ i ∈ l, g = barCell (nb i c) := by
  induction l with
  | nil => exact absurd h (Nat.lt_irrefl 0)
  | cons i l ih =>
    have hc := debtB_cons c i l 0
    rw [zero_add, zero_add] at hc
    rw [hc, Pi.add_apply, Finsupp.add_apply] at h
    by_cases h1 : 0 < tallyAt (barCell (nb i c)) () 1 g u
    · exact ⟨i, List.mem_cons_self, tallyAt_pos h1⟩
    · obtain ⟨i', hi', e⟩ := ih (by omega)
      exact ⟨i', List.mem_cons_of_mem _ hi', e⟩

/-- A wait on a cell below every receive cell still owed is allowed. -/
theorem mayWait_of (c : Dev nD) (sm : SemLoc sig) (l : List Lane) (h : ∀ j ∈ l, lv ((c : Thread nD τ), sm) () < 2 + pos j) :
    (levAts L lv : sProp 𝕄) ⊢ MayWait (c : Thread nD τ) sm () (debt c l) := by
  refine MayOwe.of_cut (L := L) (lev := lv) (lv ((c : Thread nD τ), sm) ())
    (fun p hp => by rw [Finset.mem_singleton.mp hp, L_tc]; exact Finset.mem_singleton_self _) ?_
    (fun p hp => by rw [Finset.mem_singleton.mp hp]) ?_
  · intro g u hg
    obtain ⟨j, hj, rfl⟩ := debt_pos hg
    exact Finset.mem_singleton_self _
  · intro g u hg
    obtain ⟨j, hj, rfl⟩ := debt_pos hg
    rw [lv_recv]
    exact h j hj

/-! ## Ghost state -/

/-- What every device knows: each cell's invariant, that each cell has reached round 0, and the levels. -/
def recs (K : Dev nD × CI → ℕ) : sProp 𝕄 :=
  iprop((bigSep Finset.univ fun ck : Dev nD × CI => cellInv ER (rd x) (K ck) (kcell ck))
    ∗ (bigSep Finset.univ fun ck : Dev nD × CI => reached ER (kcell ck) 0) ∗ levAts L lv)

instance recs_persistent (K : Dev nD × CI → ℕ) : BI.Persistent (recs x K) := by unfold recs; infer_instance

variable (K : Dev nD × CI → ℕ)

theorem recs_inv (c : Dev nD) (i : CI) : recs x K ⊢ cellInv ER (rd x) (K (c, i)) (kcell (c, i)) := by
  have h : (bigSep Finset.univ fun ck : Dev nD × CI => cellInv ER (rd x) (K ck) (kcell ck)) ⊢ cellInv ER (rd x) (K (c, i)) (kcell (c, i)) :=
    bigSep_elim (Finset.mem_univ ((c, i) : Dev nD × CI))
  unfold recs
  iintro ⟨H, -, -⟩
  iapply h
  iexact H

theorem recs_reached (c : Dev nD) (i : CI) : recs x K ⊢ reached ER (kcell (c, i)) 0 := by
  have h : (bigSep Finset.univ fun ck : Dev nD × CI => (reached ER (kcell ck) 0 : sProp 𝕄)) ⊢ reached ER (kcell (c, i)) 0 :=
    bigSep_elim (Finset.mem_univ ((c, i) : Dev nD × CI))
  unfold recs
  iintro ⟨-, H, -⟩
  iapply h
  iexact H

/-- A wait on a cell below every receive cell still owed is allowed, from what every device knows. -/
theorem recs_mayWait (c : Dev nD) (sm : SemLoc sig) (l : List Lane) (h : ∀ j ∈ l, lv ((c : Thread nD τ), sm) () < 2 + pos j) :
    recs x K ⊢ MayWait (c : Thread nD τ) sm () (debt c l) := by
  unfold recs
  iintro ⟨-, -, H⟩
  iapply (mayWait_of c sm l h)
  iexact H

/-- A lane before its transfer, this device's side. -/
def idle (j : Lane) (c : Dev nD) : sProp 𝕄 :=
  iprop(atPos ER (sendCell j c) 0 ∅ 0 ∗ atPos ER (recvCell j c) 0 ∅ 0 ∗ cred (tallyAt (recvCell j c) () (credN j))
    ∗ dutyTok ER (sendCell j c) 0 0 ∗ dutyTok ER (recvCell j (peer j c)) 0 0)

/-- A lane before its transfer, with the place at the other end. -/
def ready (j : Lane) (c : Dev nD) : sProp 𝕄 := iprop(idle j c ∗ dstPts j (peer j c))

/-- A lane whose transfer has been started. -/
def fly (j : Lane) (c : Dev nD) : sProp 𝕄 :=
  iprop(atPos ER (sendCell j c) 0 ∅ 0 ∗ atPos ER (recvCell j c) 0 ∅ 0 ∗ cred (tallyAt (recvCell j c) () (credN j))
    ∗ cred (tallyAt (sendCell j c) () (credN j)))

/-- A lane whose transfer's source is back. -/
def half (j : Lane) (c : Dev nD) : sProp 𝕄 :=
  iprop(semVal (sendCell j c) 0 ∗ sendPay x j c ∗ atPos ER (recvCell j c) 0 ∅ 0 ∗ cred (tallyAt (recvCell j c) () (credN j)))

/-- A lane whose two transfers, out and in, are over; what came in is apart. -/
def gone (j : Lane) (c : Dev nD) : sProp 𝕄 :=
  iprop(semVal (sendCell j c) 0 ∗ semVal (recvCell j c) 0 ∗ sendPay x j c)

/-- What is left of what came in on a lane once it has been used: half a share of it where the other half was sent on. -/
def left (j : Lane) (c : Dev nD) : sProp 𝕄 :=
  match j.2.val with
  | 9 => own (c : Thread nD τ) agM (rowsOf (po j.1 1 c) 64) rsh (gat x j.1 1 c)
  | 10 => own (c : Thread nD τ) agM (rowsOf (po j.1 1 c + 64) 64) rsh (gat x j.1 1 c)
  | _ => recvPay x j c

/-- Device `c` owes `O`. -/
def owe (c : Dev nD) (O : CellTallies nD τ sig Unit) : sProp 𝕄 := iprop(∃ W, owes (c : Thread nD τ) O W)

/-- The lanes of `l` are still to be used, in that order, and their credits are owed. -/
def pend (l : List Lane) (c : Dev nD) : sProp 𝕄 := iprop(bigSepL l (fun j => ready (F := F) j c) ∗ owe c (debt c l))

/-- The lanes of `l` are over. -/
def over (l : List Lane) (c : Dev nD) : sProp 𝕄 := bigSepL l fun j => iprop(gone x j c ∗ left x j c)

theorem over_cons {j : Lane} {l : List Lane} {c : Dev nD} :
    iprop(over x l c ∗ gone x j c ∗ left x j c) ⊢ over x (j :: l) c := by
  unfold over
  have h : (bigSepL (j :: l) fun j => iprop(gone x j c ∗ left x j c))
      = iprop((gone x j c ∗ left x j c) ∗ bigSepL l fun j => iprop(gone x j c ∗ left x j c)) := bigSepL_cons _ _ _
  rw [h]
  iintro ⟨Ho, Hg, Hl⟩
  isplitr [Ho]
  · isplitl [Hg]; · iexact Hg
    iexact Hl
  · iexact Ho

abbrev 𝒱₀ : Variants := Variants.none

section Rules

variable {α : Type} {Q : α → sProp (MT nD τ sig Unit (Elt F) ℕ UU ℕ)} (c : Dev nD)

/-- A signal along direction `i` hands over this device's landing places of the lanes along `i`. -/
theorem wp_sig (i : Fin 4) (l : List (Fin 4)) (ll : List Lane) {n : Dev nD} (hn : n = nb i c) {sm : Sem sig} (hsm : sm = barS)
    {am : ℕ} (ham : am = 1) {k : PUnit → Prog (TpuEff nD τ sig (Elt F) Λ₀ .tc) α} :
    iprop(recs x K ∗ dutyTok ER (barCell (nb i c)) 0 i ∗ barPay (F := F) i c ∗ owe c (debt c ll + debtB c (i :: l)))
      ⊢ iprop((owe c (debt c ll + debtB c l) -∗ wp frame (wpE (defs₀ (F := F)) 𝒱₀ c none) Set.univ (k ⟨⟩) Q)
        -∗ wp frame (wpE (defs₀ (F := F)) 𝒱₀ c none) Set.univ (.op (.semSignal (Dev.tc n : Thread nD τ) sm am) k) Q) := by
  subst hn hsm ham
  unfold owe
  iintro ⟨#HR, Ht, HP, ⟨%W, HO⟩⟩ Hk
  iapply (Rounds.wp_signal 𝒱₀ ER (rd x) (c : Thread nD τ) none (dst := (nb i c : Thread nD τ)) (κ := K (nb i c, none))
      (d := i) (by rw [duties_bar]; exact Finset.mem_univ _) ((amount_bar x (nb i c) i).trans (by decide)) () (debt c ll + debtB c l)
      (debtB_cons c i l _))
    $$ [HO Ht HP]
  · isplitr
    · iapply (recs_inv x K (nb i c) none); iexact HR
    isplitl [HO]; · iexact HO
    isplitl [Ht]; · iexact Ht
    isplitl [HP]
    · rw [payload_bar, nb_nb]; iexact HP
    · iapply (recs_reached x K (nb i c) none); iexact HR
  iintro HO
  iapply Hk
  iexists W
  iexact HO

/-- The barrier wait brings the landing places at the other end of every lane. -/
theorem wp_bar (l : List Lane) {sm : Sem sig} (hsm : sm = barS) {am : ℕ} (ham : am = 4)
    {k : PUnit → Prog (TpuEff nD τ sig (Elt F) Λ₀ .tc) α} :
    iprop(recs x K ∗ cred (tallyAt (barCell c) () 4) ∗ atPos ER (barCell c) 0 ∅ 0 ∗ owe c (debt c l))
      ⊢ iprop((semVal (barCell c) 0 ∗ (bigSep Finset.univ fun j : Lane => dstPts (F := F) j (peer j c)) ∗ owe c (debt c l)
          -∗ wp frame (wpE (defs₀ (F := F)) 𝒱₀ c none) Set.univ (k ⟨⟩) Q)
        -∗ wp frame (wpE (defs₀ (F := F)) 𝒱₀ c none) Set.univ (.op (.semWait sm am) k) Q) := by
  subst hsm ham
  have hbar := recs_inv x K c none
  have hlev := (recs_mayWait x K c (.reg barS) l (fun j _ => by rw [lv_bar]; omega))
  unfold owe
  iintro ⟨#HR, HC, Ha, ⟨%W, HO⟩⟩ Hk
  iapply (Rounds.wp_wait_rest_token 𝒱₀ ER (rd x) (c : Thread nD τ) none (κ := K (c, none))
      (wpE_semWait_eq 𝒱₀ (c : Thread nD τ) none Set.univ) (Set.mem_univ _) () (O := debt c l) (W := W) (R := 0) (m := 0) (T := ∅)
      (by rw [expect_bar])) $$ [HC HO Ha]
  · isplitr; · iapply hbar; iexact HR
    isplitl [HC]; · iexact HC
    isplitl [HO]; · iexact HO
    isplitr
    · iapply hlev; iexact HR
    iexact Ha
  iintro ⟨HO, Ha, -, Hpay⟩
  ihave Hp := (Entails.of_eq (rest_bar x c)) $$ Hpay
  ihave #HI := hbar $$ HR
  imod (Rounds.cell_close ER (rd x) (Set.mem_univ _) (fun h => h) (R := 0 + 1) (duties_later x (barCell c))) $$ [Ha] with Hz
  · isplitr; · iexact HI
    iexact Ha
  iapply Hk
  isplitl [Hz]; · iexact Hz
  isplitl [Hp]; · iexact Hp
  iexists _
  iexact HO

/-- A transfer on lane `j`, the first of those pending. -/
theorem wp_snd (j : Lane) (l : List Lane) {s : Shape} {src : Memref sig .tc .vmem s .bf16} {n : Dev nD} (hn : n = peer j c)
    {dst : Memref sig (Dev.tc n : Thread nD τ).2.kind .vmem s .bf16} {X : s.Idx → F .bf16} {q : PosShare TreeShare}
    {sS sR : DmaSem sig} (hsS : sS = sendSem j) (hsR : sR = recvSem j)
    (hN : dst.view.dmaCredit = credN j)
    (hS : sendPay x j c ⊣⊢ owns (c : Thread nD τ) src q X)
    (hD : dstPts (F := F) j (peer j c) ⊢ ∃ Y, owns (Dev.tc n : Thread nD τ) dst fullShare Y)
    (hR : owns (Dev.tc n : Thread nD τ) dst fullShare X ⊢ recvPay x j (peer j c))
    {hsc : dst.view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} :
    iprop(recs x K ∗ sendPay x j c ∗ pend (j :: l) c)
      ⊢ iprop((fly j c ∗ pend l c -∗ wp frame (wpE (defs₀ (F := F)) 𝒱₀ c none) Set.univ (k ⟨⟩) Q)
        -∗ wp frame (wpE (defs₀ (F := F)) 𝒱₀ (c : Thread nD τ) none) Set.univ
            (.op (.enqueueDma src (.remote (Dev.tc n : Thread nD τ) dst (.dma sS) hsc) (.dma sR) hsrc hdst hsem) k) Q) := by
  subst hn hsS hsR
  have hpos := credN_pos j
  have h1 := recs_inv x K c (some (false, j))
  have h2 := recs_inv x K (peer j c) (some (true, j))
  have h3 := recs_reached x K c (some (false, j))
  have h4 := recs_reached x K (peer j c) (some (true, j))
  have hl : (bigSepL (j :: l) fun j => ready (F := F) j c) = iprop(ready (F := F) j c ∗ bigSepL l fun j => ready (F := F) j c) :=
    bigSepL_cons _ _ _
  unfold pend
  rw [hl]
  unfold ready idle owe fly
  iintro ⟨#HR, Hs, ⟨⟨⟨HaS, HaR, HcR, HtS, HtR⟩, Hd⟩, Hl⟩, ⟨%W, HO⟩⟩ Hk
  ihave Hd := hD $$ Hd
  ihave Hs := hS.1 $$ Hs
  unfold owns
  icases Hs with ⟨%fs, %hfs, Hs⟩
  icases Hd with ⟨%Y, %fd, %hfd, Hd⟩
  iapply (Rounds.wp_send_pointsTo 𝒱₀ ER (rd x) (c : Thread nD τ) none (κ₁ := K (c, some (false, j))) (κ₂ := K (peer j c, some (true, j)))
    (r₁ := 0) (r₂ := 0) (d₁ := 0) (d₂ := 0) (fd := fd) (fs := fs) (q := q)
    (by rw [duties_send]; exact Finset.mem_singleton_self _) (by rw [duties_recv]; exact Finset.mem_singleton_self _)
    () () (credN j) (by exact hN) (amount_send x c j 0) (amount_recv x (peer j c) j 0) (debt c l) (debt_cons c j l) (W := W)
    (by
      rw [payload_send]
      refine BIBase.Entails.trans ?_ hS.2
      unfold owns
      iintro H
      iexists fs
      isplitr; · ipureintro; exact hfs
      iexact H)
    (by
      rw [payload_recv]
      refine BIBase.Entails.trans ?_ hR
      unfold owns
      iintro H
      iexists _
      isplitr
      rotate_left
      · iexact H
      · ipureintro
        rw [View.read_write_univ, hfs])) $$ [Hs Hd HO HtS HtR]
  · isplitr; · iapply h1; iexact HR
    isplitr; · iapply h2; iexact HR
    isplitl [Hs]; · iexact Hs
    isplitl [Hd]; · iexact Hd
    isplitl [HO]; · iexact HO
    isplitl [HtS]; · iexact HtS
    isplitr; · iapply h3; iexact HR
    isplitl [HtR]; · iexact HtR
    iapply h4; iexact HR
  iintro ⟨HcS, HO⟩
  iapply Hk
  isplitl [HaS HaR HcR HcS]
  · isplitl [HaS]; · iexact HaS
    isplitl [HaR]; · iexact HaR
    isplitl [HcR]; · iexact HcR
    iexact HcS
  isplitl [Hl]; · iexact Hl
  iexists W
  iexact HO

/-- The wait for a transfer's source. -/
theorem wp_wsnd (j : Lane) (l : List Lane) {s s' : Shape} {a : Memref sig .tc .vmem s' .bf16} {b : Memref sig .tc .vmem s .bf16}
    {sm : DmaSem sig} (hsm : sm = sendSem j) (hN : b.view.dmaCredit = credN j) {ha : a.view.WordExact} {hb : b.view.WordExact}
    {k : PUnit → Prog (TpuEff nD τ sig (Elt F) Λ₀ .tc) α} :
    iprop(recs x K ∗ fly j c ∗ pend l c)
      ⊢ iprop((half x j c ∗ pend l c -∗ wp frame (wpE (defs₀ (F := F)) 𝒱₀ c none) Set.univ (k ⟨⟩) Q)
        -∗ wp frame (wpE (defs₀ (F := F)) 𝒱₀ (c : Thread nD τ) none) Set.univ (.op (.waitDma2 sm a b ha hb) k) Q) := by
  subst hsm
  have hi := recs_inv x K c (some (false, j))
  have hlev := (recs_mayWait x K c (.dma (sendSem j)) l (fun j' _ => by rw [lv_send]; omega))
  unfold pend owe fly half
  iintro ⟨#HR, ⟨HaS, HaR, HcR, HcS⟩, Hl, ⟨%W, HO⟩⟩ Hk
  rw [← hN]
  iapply (Rounds.wp_wait_rest_token 𝒱₀ ER (rd x) (c : Thread nD τ) none (κ := K (c, some (false, j)))
      (wpE_waitDma2_eq 𝒱₀ (c : Thread nD τ) none Set.univ) (Set.mem_univ _) () (O := debt c l) (W := W) (R := 0) (m := 0) (T := ∅)
      (by rw [expect_send, hN, Nat.zero_add])) $$ [HcS HO HaS]
  · isplitr; · iapply hi; iexact HR
    isplitl [HcS]; · iexact HcS
    isplitl [HO]; · iexact HO
    isplitr; · iapply hlev; iexact HR
    iexact HaS
  iintro ⟨HO, HaS, -, Hpay⟩
  ihave Hp := (Entails.of_eq (rest_send x c j)) $$ Hpay
  ihave #HI := hi $$ HR
  imod (Rounds.cell_close ER (rd x) (Set.mem_univ _) (fun h => h) (R := 0 + 1) (duties_later x (sendCell j c))) $$ [HaS] with Hz
  · isplitr; · iexact HI
    iexact HaS
  iapply Hk
  isplitr [Hl HO]
  · isplitl [Hz]; · iexact Hz
    isplitl [Hp]; · iexact Hp
    isplitl [HaR]; · iexact HaR
    iexact HcR
  isplitl [Hl]; · iexact Hl
  iexists _
  iexact HO

/-- The wait for what comes in on a lane. -/
theorem wp_wrcv (j : Lane) (l : List Lane) (hl : ∀ j' ∈ l, pos j < pos j') {s s' : Shape} {a : Memref sig .tc .vmem s' .bf16}
    {b : Memref sig .tc .vmem s .bf16} {sm : DmaSem sig} (hsm : sm = recvSem j) (hN : b.view.dmaCredit = credN j)
    {ha : a.view.WordExact} {hb : b.view.WordExact} {k : PUnit → Prog (TpuEff nD τ sig (Elt F) Λ₀ .tc) α} :
    iprop(recs x K ∗ half x j c ∗ pend l c)
      ⊢ iprop((gone x j c ∗ recvPay x j c ∗ pend l c -∗ wp frame (wpE (defs₀ (F := F)) 𝒱₀ c none) Set.univ (k ⟨⟩) Q)
        -∗ wp frame (wpE (defs₀ (F := F)) 𝒱₀ (c : Thread nD τ) none) Set.univ (.op (.waitDma2 sm a b ha hb) k) Q) := by
  subst hsm
  have hi := recs_inv x K c (some (true, j))
  have hlev := (recs_mayWait x K c (.dma (recvSem j)) l (fun j' h => by rw [lv_recv]; have := hl j' h; omega))
  unfold pend owe half gone
  iintro ⟨#HR, ⟨HzS, HpS, HaR, HcR⟩, Hl, ⟨%W, HO⟩⟩ Hk
  rw [← hN]
  iapply (Rounds.wp_wait_rest_token 𝒱₀ ER (rd x) (c : Thread nD τ) none (κ := K (c, some (true, j)))
      (wpE_waitDma2_eq 𝒱₀ (c : Thread nD τ) none Set.univ) (Set.mem_univ _) () (O := debt c l) (W := W) (R := 0) (m := 0) (T := ∅)
      (by rw [expect_recv, hN, Nat.zero_add])) $$ [HcR HO HaR]
  · isplitr; · iapply hi; iexact HR
    isplitl [HcR]; · iexact HcR
    isplitl [HO]; · iexact HO
    isplitr; · iapply hlev; iexact HR
    iexact HaR
  iintro ⟨HO, HaR, -, Hpay⟩
  ihave Hp := (Entails.of_eq (rest_recv x c j)) $$ Hpay
  ihave #HI := hi $$ HR
  imod (Rounds.cell_close ER (rd x) (Set.mem_univ _) (fun h => h) (R := 0 + 1) (duties_later x (recvCell j c))) $$ [HaR] with Hz
  · isplitr; · iexact HI
    iexact HaR
  iapply Hk
  isplitl [HzS HpS Hz]
  · isplitl [HzS]; · iexact HzS
    isplitl [Hz]; · iexact Hz
    iexact HpS
  isplitl [Hp]; · iexact Hp
  isplitl [Hl]; · iexact Hl
  iexists _
  iexact HO

end Rules

end Cert.KernelIdealProof

end
-- ==== Proof.KernelIdeal.Lanes.lean ====
/-
The program's device numbers, offsets and semaphores in the protocol's terms, and the rule for a transfer in its three
shapes: a band sent to a slab, a slab to a slab, a band to a band.
-/
module

public import proofs.«01_k».proof.Proof.KernelIdeal.Proto

@[expose] public section

noncomputable section

namespace Cert.KernelIdealProof

open Cert.KernelIdeal Cert.KernelIdeal.Gen Cert.Own Cert.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The devices named -/

theorem dev1_eq (c : Dev nD) : (⟨k0_dev1 c, k0_dev1_lt c⟩ : Dev nD) = nb 0 c := by revert c; decide
theorem dev2_eq (c : Dev nD) : (⟨k0_dev2 c, k0_dev2_lt c⟩ : Dev nD) = nb 1 c := by revert c; decide
theorem dev3_eq (c : Dev nD) : (⟨k0_dev3 c, k0_dev3_lt c⟩ : Dev nD) = nb 2 c := by revert c; decide
theorem dev4_eq (c : Dev nD) : (⟨k0_dev4 c, k0_dev4_lt c⟩ : Dev nD) = nb 3 c := by revert c; decide
theorem dev5_eq (c : Dev nD) : (⟨k0_dev5 c, k0_dev5_lt c⟩ : Dev nD) = peer (0, 0) c := by revert c; decide
theorem dev6_eq (c : Dev nD) : (⟨k0_dev6 c, k0_dev6_lt c⟩ : Dev nD) = peer (1, 0) c := by revert c; decide
theorem dev7_eq (c : Dev nD) : (⟨k0_dev7 c, k0_dev7_lt c⟩ : Dev nD) = peer (0, 1) c := by revert c; decide
theorem dev8_eq (c : Dev nD) : (⟨k0_dev8 c, k0_dev8_lt c⟩ : Dev nD) = peer (1, 1) c := by revert c; decide
theorem dev9_eq (c : Dev nD) : (⟨k0_dev9 c, k0_dev9_lt c⟩ : Dev nD) = peer (0, 2) c := by revert c; decide
theorem dev10_eq (c : Dev nD) : (⟨k0_dev10 c, k0_dev10_lt c⟩ : Dev nD) = peer (1, 2) c := by revert c; decide
theorem dev11_eq (c : Dev nD) : (⟨k0_dev11 c, k0_dev11_lt c⟩ : Dev nD) = peer (0, 3) c := by revert c; decide
theorem dev12_eq (c : Dev nD) : (⟨k0_dev12 c, k0_dev12_lt c⟩ : Dev nD) = peer (1, 3) c := by revert c; decide
theorem dev13_eq (c : Dev nD) : (⟨k0_dev13 c, k0_dev13_lt c⟩ : Dev nD) = peer (0, 4) c := by revert c; decide
theorem dev14_eq (c : Dev nD) : (⟨k0_dev14 c, k0_dev14_lt c⟩ : Dev nD) = peer (1, 4) c := by revert c; decide
theorem dev15_eq (c : Dev nD) : (⟨k0_dev15 c, k0_dev15_lt c⟩ : Dev nD) = peer (0, 5) c := by revert c; decide
theorem dev16_eq (c : Dev nD) : (⟨k0_dev16 c, k0_dev16_lt c⟩ : Dev nD) = peer (1, 5) c := by revert c; decide
theorem dev17_eq (c : Dev nD) : (⟨k0_dev17 c, k0_dev17_lt c⟩ : Dev nD) = peer (0, 6) c := by revert c; decide
theorem dev18_eq (c : Dev nD) : (⟨k0_dev18 c, k0_dev18_lt c⟩ : Dev nD) = peer (1, 6) c := by revert c; decide
theorem dev19_eq (c : Dev nD) : (⟨k0_dev19 c, k0_dev19_lt c⟩ : Dev nD) = peer (0, 7) c := by revert c; decide
theorem dev20_eq (c : Dev nD) : (⟨k0_dev20 c, k0_dev20_lt c⟩ : Dev nD) = peer (1, 7) c := by revert c; decide
theorem dev21_eq (c : Dev nD) : (⟨k0_dev21 c, k0_dev21_lt c⟩ : Dev nD) = peer (0, 8) c := by revert c; decide
theorem dev22_eq (c : Dev nD) : (⟨k0_dev22 c, k0_dev22_lt c⟩ : Dev nD) = peer (1, 8) c := by revert c; decide
theorem dev23_eq (c : Dev nD) : (⟨k0_dev23 c, k0_dev23_lt c⟩ : Dev nD) = peer (1, 9) c := by revert c; decide
theorem dev24_eq (c : Dev nD) : (⟨k0_dev24 c, k0_dev24_lt c⟩ : Dev nD) = peer (1, 11) c := by revert c; decide
theorem dev25_eq (c : Dev nD) : (⟨k0_dev25 c, k0_dev25_lt c⟩ : Dev nD) = peer (0, 9) c := by revert c; decide
theorem dev26_eq (c : Dev nD) : (⟨k0_dev26 c, k0_dev26_lt c⟩ : Dev nD) = peer (0, 11) c := by revert c; decide
theorem dev27_eq (c : Dev nD) : (⟨k0_dev27 c, k0_dev27_lt c⟩ : Dev nD) = peer (1, 10) c := by revert c; decide
theorem dev28_eq (c : Dev nD) : (⟨k0_dev28 c, k0_dev28_lt c⟩ : Dev nD) = peer (1, 12) c := by revert c; decide
theorem dev29_eq (c : Dev nD) : (⟨k0_dev29 c, k0_dev29_lt c⟩ : Dev nD) = peer (0, 10) c := by revert c; decide
theorem dev30_eq (c : Dev nD) : (⟨k0_dev30 c, k0_dev30_lt c⟩ : Dev nD) = peer (0, 12) c := by revert c; decide
theorem dev31_eq (c : Dev nD) : (⟨k0_dev31 c, k0_dev31_lt c⟩ : Dev nD) = peer (1, 13) c := by revert c; decide
theorem dev32_eq (c : Dev nD) : (⟨k0_dev32 c, k0_dev32_lt c⟩ : Dev nD) = peer (0, 13) c := by revert c; decide
theorem dev33_eq (c : Dev nD) : (⟨k0_dev33 c, k0_dev33_lt c⟩ : Dev nD) = peer (1, 14) c := by revert c; decide
theorem dev34_eq (c : Dev nD) : (⟨k0_dev34 c, k0_dev34_lt c⟩ : Dev nD) = peer (0, 14) c := by revert c; decide

/-! ## The offsets -/

theorem off3_0 (c : Dev nD) : k0_off3 c 0#32 = ![po 0 3 c, 0] := by revert c; decide +kernel
theorem off3_64 (c : Dev nD) : k0_off3 c 64#32 = ![po 0 3 c + 64, 0] := by revert c; decide +kernel
theorem off4_0 (c : Dev nD) : k0_off4 c 0#32 = ![po 1 3 c, 0] := by revert c; decide +kernel
theorem off4_64 (c : Dev nD) : k0_off4 c 64#32 = ![po 1 3 c + 64, 0] := by revert c; decide +kernel
theorem off7_0 (c : Dev nD) : k0_off7 c 0#32 = ![po 0 1 c, 0] := by revert c; decide +kernel
theorem off7_64 (c : Dev nD) : k0_off7 c 64#32 = ![po 0 1 c + 64, 0] := by revert c; decide +kernel
theorem off8_0 (c : Dev nD) : k0_off8 c 0#32 = ![po 1 1 c, 0] := by revert c; decide +kernel
theorem off8_64 (c : Dev nD) : k0_off8 c 64#32 = ![po 1 1 c + 64, 0] := by revert c; decide +kernel
theorem off11_0 (c : Dev nD) : k0_off11 c 0#32 = ![po 0 0 c, 0] := by revert c; decide +kernel
theorem off11_64 (c : Dev nD) : k0_off11 c 64#32 = ![po 0 0 c + 64, 0] := by revert c; decide +kernel
theorem off12_0 (c : Dev nD) : k0_off12 c 0#32 = ![po 1 0 c, 0] := by revert c; decide +kernel
theorem off12_64 (c : Dev nD) : k0_off12 c 64#32 = ![po 1 0 c + 64, 0] := by revert c; decide +kernel
theorem off14_0 (c : Dev nD) : k0_off14 c 0#32 = ![po 0 0 c, 0] := by revert c; decide +kernel
theorem off14_64 (c : Dev nD) : k0_off14 c 64#32 = ![po 0 0 c + 64, 0] := by revert c; decide +kernel
theorem off13_0 (c : Dev nD) : k0_off13 c 0#32 = ![po 1 0 c, 0] := by revert c; decide +kernel
theorem off13_64 (c : Dev nD) : k0_off13 c 64#32 = ![po 1 0 c + 64, 0] := by revert c; decide +kernel
theorem off16_0 (c : Dev nD) : k0_off16 c 0#32 = ![po 0 1 c, 0] := by revert c; decide +kernel
theorem off16_64 (c : Dev nD) : k0_off16 c 64#32 = ![po 0 1 c + 64, 0] := by revert c; decide +kernel
theorem off15_0 (c : Dev nD) : k0_off15 c 0#32 = ![po 1 1 c, 0] := by revert c; decide +kernel
theorem off15_64 (c : Dev nD) : k0_off15 c 64#32 = ![po 1 1 c + 64, 0] := by revert c; decide +kernel
theorem off19_0 (c : Dev nD) : k0_off19 c 0#32 = ![po 0 2 c, 0] := by revert c; decide +kernel
theorem off19_64 (c : Dev nD) : k0_off19 c 64#32 = ![po 0 2 c + 64, 0] := by revert c; decide +kernel
theorem off20_0 (c : Dev nD) : k0_off20 c 0#32 = ![po 1 2 c, 0] := by revert c; decide +kernel
theorem off20_64 (c : Dev nD) : k0_off20 c 64#32 = ![po 1 2 c + 64, 0] := by revert c; decide +kernel
theorem off21_0 (c : Dev nD) : k0_off21 c 0#32 = ![po 0 3 c, 0] := by revert c; decide +kernel
theorem off21_64 (c : Dev nD) : k0_off21 c 64#32 = ![po 0 3 c + 64, 0] := by revert c; decide +kernel
theorem off22_0 (c : Dev nD) : k0_off22 c 0#32 = ![po 1 3 c, 0] := by revert c; decide +kernel
theorem off22_64 (c : Dev nD) : k0_off22 c 64#32 = ![po 1 3 c + 64, 0] := by revert c; decide +kernel
theorem off5_eq (c : Dev nD) : k0_off5 c = ![po 0 2 c, 0] := by revert c; decide +kernel
theorem off6_eq (c : Dev nD) : k0_off6 c = ![po 1 2 c, 0] := by revert c; decide +kernel
theorem off9_eq (c : Dev nD) : k0_off9 c = ![po 0 0 c, 0] := by revert c; decide +kernel
theorem off10_eq (c : Dev nD) : k0_off10 c = ![po 1 0 c, 0] := by revert c; decide +kernel
theorem off17_eq (c : Dev nD) : k0_off17 c = ![po 0 1 c, 0] := by revert c; decide +kernel
theorem off18_eq (c : Dev nD) : k0_off18 c = ![po 1 1 c, 0] := by revert c; decide +kernel

/-- Where the 256 rows start that half `k` sends off in the first exchange. -/
def so (k : Fin 2) (c : Fin 16) : ℕ := 512 * k.val + 256 * (1 - bit (dim k 0) c)

theorem off1_eq (c : Dev nD) : k0_off1 c = ![so 0 c, 0] := by revert c; decide +kernel
theorem off2_eq (c : Dev nD) : k0_off2 c = ![so 1 c, 0] := by revert c; decide +kernel

/-! ## The semaphores -/

section
variable {j : Lane} {inb : ∀ a, (![j.1.val, j.2.val] : Fin 2 → ℕ) a + S1x1.size a ≤ S2x15.size a}
theorem sendSem_eq : ((cc0_scratch10.slice (Rect.unit (s := S2x15) ![j.1.val, j.2.val] S1x1.size inb)).squeeze S_ squeezes_S1x1_S_).sem = sendSem j := by
  revert j; decide
theorem recvSem_eq : ((cc0_scratch11.slice (Rect.unit (s := S2x15) ![j.1.val, j.2.val] S1x1.size inb)).squeeze S_ squeezes_S1x1_S_).sem = recvSem j := by
  revert j; decide
end

/-! ## The transfers -/

section Rules

variable (x : Dev nD → SA.Idx → F .f32) (K : Dev nD × CI → ℕ)
variable {α : Type} {Q : α → sProp (MT nD τ sig Unit (Elt F) ℕ UU ℕ)} (c : Dev nD)

/-- A transfer from a band to a slab. -/
theorem wp_snd_rs (j : Lane) (l₀ l : List Lane) (hl : l₀ = j :: l) (k : Fin 2) (n : ℕ) {mS : Memref sig .tc .vmem SA .bf16}
    {mD : Memref sig .tc .vmem SB .bf16} {o h : ℕ} {q : PosShare TreeShare} {X : SA.Idx → F .bf16} {X' : SB.Idx → F .bf16}
    {d : Dev nD} (hd : d = peer j c) {sS sR : DmaSem sig} (hsS : sS = sendSem j) (hsR : sR = recvSem j)
    {off : Fin 2 → ℕ} {inb : ∀ a, off a + (⟨2, ![n, 512]⟩ : Shape).size a ≤ SA.size a}
    {hr : ∀ a, (Rect.unit (s := SA) off (⟨2, ![n, 512]⟩ : Shape).size inb).stride a = 1}
    {off' : Fin 3 → ℕ} {inb' : ∀ a, off' a + (⟨3, ![1, n, 512]⟩ : Shape).size a ≤ SB.size a}
    {hr' : ∀ a, (Rect.unit (s := SB) off' (⟨3, ![1, n, 512]⟩ : Shape).size inb').stride a = 1}
    {hs' : (Rect.unit (s := SB) off' (⟨3, ![1, n, 512]⟩ : Shape).size inb').shape.Squeezes (⟨2, ![n, 512]⟩ : Shape)}
    (ho : off = ![o, 0]) (ho' : off' = ![k.val, h, 0])
    (hN : View.dmaCredit (Memref.view (sig := sig) (κ := .tc) ((mD.slice (Rect.unit (s := SB) off' (⟨3, ![1, n, 512]⟩ : Shape).size inb') hr').squeeze (⟨2, ![n, 512]⟩ : Shape) hs')) = credN j)
    (hS : sendPay x j c = own (c : Thread nD τ) mS (rowsOf o n) q X)
    (hD : dstPts (F := F) j (peer j c) = iprop(∃ Y, own (peer j c : Thread nD τ) mD (slab k h n) fullShare Y))
    (hR : recvPay x j (peer j c) = own (peer j c : Thread nD τ) mD (slab k h n) fullShare X')
    (hv : rowV X o n = sqV X' k h n)
    {hsc : (Memref.view (sig := sig) (κ := (Dev.tc d : Thread nD τ).2.kind) ((mD.slice (Rect.unit (s := SB) off' (⟨3, ![1, n, 512]⟩ : Shape).size inb') hr').squeeze (⟨2, ![n, 512]⟩ : Shape) hs')).ref.isScScratch = false}
    {hsrc : View.WordExact (Memref.view (sig := sig) (κ := .tc) (mS.slice (Rect.unit (s := SA) off (⟨2, ![n, 512]⟩ : Shape).size inb) hr))}
    {hdst : View.WordExact (Memref.view (sig := sig) (κ := (Dev.tc d : Thread nD τ).2.kind) ((mD.slice (Rect.unit (s := SB) off' (⟨3, ![1, n, 512]⟩ : Shape).size inb') hr').squeeze (⟨2, ![n, 512]⟩ : Shape) hs'))}
    {hsem : DmaTarget.Typed .vmem (.dma sR) (.remote (Dev.tc d : Thread nD τ) ((mD.slice (Rect.unit (s := SB) off' (⟨3, ![1, n, 512]⟩ : Shape).size inb') hr').squeeze (⟨2, ![n, 512]⟩ : Shape) hs') (.dma sS) hsc)}
    {kt : PUnit → Prog (TpuEff nD τ sig (Elt F) Λ₀ .tc) α} :
    recs x K ⊢ iprop(own (c : Thread nD τ) mS (rowsOf o n) q X -∗ pend l₀ c -∗ (fly j c ∗ pend l c -∗ wp frame (wpE (defs₀ (F := F)) 𝒱₀ c none) Set.univ (kt ⟨⟩) Q)
        -∗ wp frame (wpE (defs₀ (F := F)) 𝒱₀ (c : Thread nD τ) none) Set.univ
            (.op (.enqueueDma (mS.slice (Rect.unit (s := SA) off (⟨2, ![n, 512]⟩ : Shape).size inb) hr) (.remote (Dev.tc d : Thread nD τ) ((mD.slice (Rect.unit (s := SB) off' (⟨3, ![1, n, 512]⟩ : Shape).size inb') hr').squeeze (⟨2, ![n, 512]⟩ : Shape) hs') (.dma sS) hsc) (.dma sR) hsrc hdst hsem) kt) Q) := by
  subst hd hl
  iintro #HR HS HP
  iapply (wp_snd x K c j l rfl hsS hsR hN (X := rowV X o n) (q := q) (hsc := hsc) (hsrc := hsrc) (hdst := hdst) (hsem := hsem) (k := kt) (Q := Q)
    (by rw [hS]; exact own_rows_slice ho)
    (by rw [hD]; iintro ⟨%Y, H⟩; iexists _; iapply ((own_slab_squeeze ho').1); iexact H)
    (by rw [hR, hv]; exact (own_slab_squeeze ho').2))
  isplitr; · iexact HR
  isplitl [HS]; · rw [hS]; iexact HS
  iexact HP

/-- A transfer from a slab to a slab. -/
theorem wp_snd_ss (j : Lane) (l₀ l : List Lane) (hl : l₀ = j :: l) (k : Fin 2) (n : ℕ) {mS : Memref sig .tc .vmem SB .bf16}
    {mD : Memref sig .tc .vmem SB .bf16} {o h : ℕ} {q : PosShare TreeShare} {X : SB.Idx → F .bf16} {X' : SB.Idx → F .bf16}
    {d : Dev nD} (hd : d = peer j c) {sS sR : DmaSem sig} (hsS : sS = sendSem j) (hsR : sR = recvSem j)
    {off : Fin 3 → ℕ} {inb : ∀ a, off a + (⟨3, ![1, n, 512]⟩ : Shape).size a ≤ SB.size a}
    {hr : ∀ a, (Rect.unit (s := SB) off (⟨3, ![1, n, 512]⟩ : Shape).size inb).stride a = 1}
    {hs : (Rect.unit (s := SB) off (⟨3, ![1, n, 512]⟩ : Shape).size inb).shape.Squeezes (⟨2, ![n, 512]⟩ : Shape)}
    {off' : Fin 3 → ℕ} {inb' : ∀ a, off' a + (⟨3, ![1, n, 512]⟩ : Shape).size a ≤ SB.size a}
    {hr' : ∀ a, (Rect.unit (s := SB) off' (⟨3, ![1, n, 512]⟩ : Shape).size inb').stride a = 1}
    {hs' : (Rect.unit (s := SB) off' (⟨3, ![1, n, 512]⟩ : Shape).size inb').shape.Squeezes (⟨2, ![n, 512]⟩ : Shape)}
    (ho : off = ![k.val, o, 0]) (ho' : off' = ![k.val, h, 0])
    (hN : View.dmaCredit (Memref.view (sig := sig) (κ := .tc) ((mD.slice (Rect.unit (s := SB) off' (⟨3, ![1, n, 512]⟩ : Shape).size inb') hr').squeeze (⟨2, ![n, 512]⟩ : Shape) hs')) = credN j)
    (hS : sendPay x j c = own (c : Thread nD τ) mS (slab k o n) q X)
    (hD : dstPts (F := F) j (peer j c) = iprop(∃ Y, own (peer j c : Thread nD τ) mD (slab k h n) fullShare Y))
    (hR : recvPay x j (peer j c) = own (peer j c : Thread nD τ) mD (slab k h n) fullShare X')
    (hv : sqV X k o n = sqV X' k h n)
    {hsc : (Memref.view (sig := sig) (κ := (Dev.tc d : Thread nD τ).2.kind) ((mD.slice (Rect.unit (s := SB) off' (⟨3, ![1, n, 512]⟩ : Shape).size inb') hr').squeeze (⟨2, ![n, 512]⟩ : Shape) hs')).ref.isScScratch = false}
    {hsrc : View.WordExact (Memref.view (sig := sig) (κ := .tc) ((mS.slice (Rect.unit (s := SB) off (⟨3, ![1, n, 512]⟩ : Shape).size inb) hr).squeeze (⟨2, ![n, 512]⟩ : Shape) hs))}
    {hdst : View.WordExact (Memref.view (sig := sig) (κ := (Dev.tc d : Thread nD τ).2.kind) ((mD.slice (Rect.unit (s := SB) off' (⟨3, ![1, n, 512]⟩ : Shape).size inb') hr').squeeze (⟨2, ![n, 512]⟩ : Shape) hs'))}
    {hsem : DmaTarget.Typed .vmem (.dma sR) (.remote (Dev.tc d : Thread nD τ) ((mD.slice (Rect.unit (s := SB) off' (⟨3, ![1, n, 512]⟩ : Shape).size inb') hr').squeeze (⟨2, ![n, 512]⟩ : Shape) hs') (.dma sS) hsc)}
    {kt : PUnit → Prog (TpuEff nD τ sig (Elt F) Λ₀ .tc) α} :
    recs x K ⊢ iprop(own (c : Thread nD τ) mS (slab k o n) q X -∗ pend l₀ c -∗ (fly j c ∗ pend l c -∗ wp frame (wpE (defs₀ (F := F)) 𝒱₀ c none) Set.univ (kt ⟨⟩) Q)
        -∗ wp frame (wpE (defs₀ (F := F)) 𝒱₀ (c : Thread nD τ) none) Set.univ
            (.op (.enqueueDma ((mS.slice (Rect.unit (s := SB) off (⟨3, ![1, n, 512]⟩ : Shape).size inb) hr).squeeze (⟨2, ![n, 512]⟩ : Shape) hs) (.remote (Dev.tc d : Thread nD τ) ((mD.slice (Rect.unit (s := SB) off' (⟨3, ![1, n, 512]⟩ : Shape).size inb') hr').squeeze (⟨2, ![n, 512]⟩ : Shape) hs') (.dma sS) hsc) (.dma sR) hsrc hdst hsem) kt) Q) := by
  subst hd hl
  iintro #HR HS HP
  iapply (wp_snd x K c j l rfl hsS hsR hN (X := sqV X k o n) (q := q) (hsc := hsc) (hsrc := hsrc) (hdst := hdst) (hsem := hsem) (k := kt) (Q := Q)
    (by rw [hS]; exact own_slab_squeeze ho)
    (by rw [hD]; iintro ⟨%Y, H⟩; iexists _; iapply ((own_slab_squeeze ho').1); iexact H)
    (by rw [hR, hv]; exact (own_slab_squeeze ho').2))
  isplitr; · iexact HR
  isplitl [HS]; · rw [hS]; iexact HS
  iexact HP

/-- A transfer from a band to a band. -/
theorem wp_snd_rr (j : Lane) (l₀ l : List Lane) (hl : l₀ = j :: l) (n : ℕ) {mS : Memref sig .tc .vmem SA .bf16}
    {mD : Memref sig .tc .vmem SA .bf16} {o h : ℕ} {q : PosShare TreeShare} {X : SA.Idx → F .bf16} {X' : SA.Idx → F .bf16}
    {d : Dev nD} (hd : d = peer j c) {sS sR : DmaSem sig} (hsS : sS = sendSem j) (hsR : sR = recvSem j)
    {off : Fin 2 → ℕ} {inb : ∀ a, off a + (⟨2, ![n, 512]⟩ : Shape).size a ≤ SA.size a}
    {hr : ∀ a, (Rect.unit (s := SA) off (⟨2, ![n, 512]⟩ : Shape).size inb).stride a = 1}
    {off' : Fin 2 → ℕ} {inb' : ∀ a, off' a + (⟨2, ![n, 512]⟩ : Shape).size a ≤ SA.size a}
    {hr' : ∀ a, (Rect.unit (s := SA) off' (⟨2, ![n, 512]⟩ : Shape).size inb').stride a = 1}
    (ho : off = ![o, 0]) (ho' : off' = ![h, 0])
    (hN : View.dmaCredit (Memref.view (sig := sig) (κ := .tc) (mD.slice (Rect.unit (s := SA) off' (⟨2, ![n, 512]⟩ : Shape).size inb') hr')) = credN j)
    (hS : sendPay x j c = own (c : Thread nD τ) mS (rowsOf o n) q X)
    (hD : dstPts (F := F) j (peer j c) = iprop(∃ Y, own (peer j c : Thread nD τ) mD (rowsOf h n) fullShare Y))
    (hR : recvPay x j (peer j c) = own (peer j c : Thread nD τ) mD (rowsOf h n) fullShare X')
    (hv : rowV X o n = rowV X' h n)
    {hsc : (Memref.view (sig := sig) (κ := (Dev.tc d : Thread nD τ).2.kind) (mD.slice (Rect.unit (s := SA) off' (⟨2, ![n, 512]⟩ : Shape).size inb') hr')).ref.isScScratch = false}
    {hsrc : View.WordExact (Memref.view (sig := sig) (κ := .tc) (mS.slice (Rect.unit (s := SA) off (⟨2, ![n, 512]⟩ : Shape).size inb) hr))}
    {hdst : View.WordExact (Memref.view (sig := sig) (κ := (Dev.tc d : Thread nD τ).2.kind) (mD.slice (Rect.unit (s := SA) off' (⟨2, ![n, 512]⟩ : Shape).size inb') hr'))}
    {hsem : DmaTarget.Typed .vmem (.dma sR) (.remote (Dev.tc d : Thread nD τ) (mD.slice (Rect.unit (s := SA) off' (⟨2, ![n, 512]⟩ : Shape).size inb') hr') (.dma sS) hsc)}
    {kt : PUnit → Prog (TpuEff nD τ sig (Elt F) Λ₀ .tc) α} :
    recs x K ⊢ iprop(own (c : Thread nD τ) mS (rowsOf o n) q X -∗ pend l₀ c -∗ (fly j c ∗ pend l c -∗ wp frame (wpE (defs₀ (F := F)) 𝒱₀ c none) Set.univ (kt ⟨⟩) Q)
        -∗ wp frame (wpE (defs₀ (F := F)) 𝒱₀ (c : Thread nD τ) none) Set.univ
            (.op (.enqueueDma (mS.slice (Rect.unit (s := SA) off (⟨2, ![n, 512]⟩ : Shape).size inb) hr) (.remote (Dev.tc d : Thread nD τ) (mD.slice (Rect.unit (s := SA) off' (⟨2, ![n, 512]⟩ : Shape).size inb') hr') (.dma sS) hsc) (.dma sR) hsrc hdst hsem) kt) Q) := by
  subst hd hl
  iintro #HR HS HP
  iapply (wp_snd x K c j l rfl hsS hsR hN (X := rowV X o n) (q := q) (hsc := hsc) (hsrc := hsrc) (hdst := hdst) (hsem := hsem) (k := kt) (Q := Q)
    (by rw [hS]; exact own_rows_slice ho)
    (by rw [hD]; iintro ⟨%Y, H⟩; iexists _; iapply ((own_rows_slice ho').1); iexact H)
    (by rw [hR, hv]; exact (own_rows_slice ho').2))
  isplitr; · iexact HR
  isplitl [HS]; · rw [hS]; iexact HS
  iexact HP

/-- A signal, its premises one by one. -/
theorem wp_sg (i : Fin 4) (l : List (Fin 4)) (ll : List Lane) {n : Dev nD} (hn : n = nb i c) {sm : Sem sig} (hsm : sm = barS)
    {am : ℕ} (ham : am = 1) {k : PUnit → Prog (TpuEff nD τ sig (Elt F) Λ₀ .tc) α} :
    recs x K ⊢ iprop(dutyTok ER (barCell (nb i c)) 0 i -∗ barPay (F := F) i c -∗ owe c (debt c ll + debtB c (i :: l))
        -∗ (owe c (debt c ll + debtB c l) -∗ wp frame (wpE (defs₀ (F := F)) 𝒱₀ c none) Set.univ (k ⟨⟩) Q)
        -∗ wp frame (wpE (defs₀ (F := F)) 𝒱₀ c none) Set.univ (.op (.semSignal (Dev.tc n : Thread nD τ) sm am) k) Q) := by
  iintro #HR Ht HP HO
  iapply (wp_sig x K c i l ll hn hsm ham)
  isplitr; · iexact HR
  isplitl [Ht]; · iexact Ht
  isplitl [HP]; · iexact HP
  iexact HO

theorem debtB_nil : debtB c [] = 0 := rfl

/-- The barrier wait, its premises one by one. -/
theorem wp_br (l : List Lane) {sm : Sem sig} (hsm : sm = barS) {am : ℕ} (ham : am = 4)
    {k : PUnit → Prog (TpuEff nD τ sig (Elt F) Λ₀ .tc) α} :
    recs x K ⊢ iprop(cred (tallyAt (barCell c) () 4) -∗ atPos ER (barCell c) 0 ∅ 0 -∗ owe c (debt c l)
      -∗ (semVal (barCell c) 0 ∗ (bigSep Finset.univ fun j : Lane => dstPts (F := F) j (peer j c)) ∗ owe c (debt c l)
          -∗ wp frame (wpE (defs₀ (F := F)) 𝒱₀ c none) Set.univ (k ⟨⟩) Q)
      -∗ wp frame (wpE (defs₀ (F := F)) 𝒱₀ c none) Set.univ (.op (.semWait sm am) k) Q) := by
  iintro #HR HC Ha HO
  iapply (wp_bar x K c l hsm ham)
  isplitr; · iexact HR
  isplitl [HC]; · iexact HC
  isplitl [Ha]; · iexact Ha
  iexact HO

/-- The wait for a transfer's source, its premises one by one. -/
theorem wp_ws (j : Lane) (l : List Lane) {s s' : Shape} {a : Memref sig .tc .vmem s' .bf16} {b : Memref sig .tc .vmem s .bf16}
    {sm : DmaSem sig} (hsm : sm = sendSem j) (hN : b.view.dmaCredit = credN j) {ha : a.view.WordExact} {hb : b.view.WordExact}
    {k : PUnit → Prog (TpuEff nD τ sig (Elt F) Λ₀ .tc) α} :
    recs x K ⊢ iprop(fly j c -∗ pend l c
        -∗ (half x j c ∗ pend l c -∗ wp frame (wpE (defs₀ (F := F)) 𝒱₀ c none) Set.univ (k ⟨⟩) Q)
        -∗ wp frame (wpE (defs₀ (F := F)) 𝒱₀ (c : Thread nD τ) none) Set.univ (.op (.waitDma2 sm a b ha hb) k) Q) := by
  iintro #HR HF HP
  iapply (wp_wsnd x K c j l hsm hN)
  isplitr; · iexact HR
  isplitl [HF]; · iexact HF
  iexact HP

/-- The wait for what comes in on a lane, its premises one by one. -/
theorem wp_wr (j : Lane) (l : List Lane) (hl : ∀ j' ∈ l, pos j < pos j') {P : sProp (MT nD τ sig Unit (Elt F) ℕ UU ℕ)} (hP : recvPay x j c = P)
    {s s' : Shape} {a : Memref sig .tc .vmem s' .bf16}
    {b : Memref sig .tc .vmem s .bf16} {sm : DmaSem sig} (hsm : sm = recvSem j) (hN : b.view.dmaCredit = credN j)
    {ha : a.view.WordExact} {hb : b.view.WordExact} {k : PUnit → Prog (TpuEff nD τ sig (Elt F) Λ₀ .tc) α} :
    recs x K ⊢ iprop(half x j c -∗ pend l c
        -∗ (gone x j c ∗ P ∗ pend l c -∗ wp frame (wpE (defs₀ (F := F)) 𝒱₀ c none) Set.univ (k ⟨⟩) Q)
        -∗ wp frame (wpE (defs₀ (F := F)) 𝒱₀ (c : Thread nD τ) none) Set.univ (.op (.waitDma2 sm a b ha hb) k) Q) := by
  subst hP
  iintro #HR HF HP
  iapply (wp_wrcv x K c j l hl hsm hN)
  isplitr; · iexact HR
  isplitl [HF]; · iexact HF
  iexact HP

end Rules

/-! ## The payloads spelt out -/

section Payloads

variable (x : Dev nD → SA.Idx → F .f32) (k : Fin 2) (c : Dev nD)

theorem recvPay_0 : recvPay x (k, 0) c = own (c : Thread nD τ) r0M (slab k 0 64) fullShare (rbuf x 1 0 c) := rfl
theorem left_0 : left x (k, 0) c = own (c : Thread nD τ) r0M (slab k 0 64) fullShare (rbuf x 1 0 c) := rfl
theorem recvPay_1 : recvPay x (k, 1) c = own (c : Thread nD τ) r0M (slab k 64 64) fullShare (rbuf x 1 0 c) := rfl
theorem left_1 : left x (k, 1) c = own (c : Thread nD τ) r0M (slab k 64 64) fullShare (rbuf x 1 0 c) := rfl
theorem recvPay_2 : recvPay x (k, 2) c = own (c : Thread nD τ) rkM (slab k 0 128) fullShare (rbuf x 0 0 c) := rfl
theorem left_2 : left x (k, 2) c = own (c : Thread nD τ) rkM (slab k 0 128) fullShare (rbuf x 0 0 c) := rfl
theorem recvPay_3 : recvPay x (k, 3) c = own (c : Thread nD τ) r1M (slab k 0 64) fullShare (rbuf x 0 1 c) := rfl
theorem left_3 : left x (k, 3) c = own (c : Thread nD τ) r1M (slab k 0 64) fullShare (rbuf x 0 1 c) := rfl
theorem recvPay_4 : recvPay x (k, 4) c = own (c : Thread nD τ) r1M (slab k 64 64) fullShare (rbuf x 0 1 c) := rfl
theorem left_4 : left x (k, 4) c = own (c : Thread nD τ) r1M (slab k 64 64) fullShare (rbuf x 0 1 c) := rfl
theorem recvPay_5 : recvPay x (k, 5) c = own (c : Thread nD τ) r2M (slab k 0 64) fullShare (rbuf x 0 2 c) := rfl
theorem left_5 : left x (k, 5) c = own (c : Thread nD τ) r2M (slab k 0 64) fullShare (rbuf x 0 2 c) := rfl
theorem recvPay_6 : recvPay x (k, 6) c = own (c : Thread nD τ) r2M (slab k 64 64) fullShare (rbuf x 0 2 c) := rfl
theorem left_6 : left x (k, 6) c = own (c : Thread nD τ) r2M (slab k 64 64) fullShare (rbuf x 0 2 c) := rfl
theorem recvPay_7 : recvPay x (k, 7) c = own (c : Thread nD τ) r3M (slab k 0 64) fullShare (rbuf x 0 3 c) := rfl
theorem left_7 : left x (k, 7) c = own (c : Thread nD τ) r3M (slab k 0 64) fullShare (rbuf x 0 3 c) := rfl
theorem recvPay_8 : recvPay x (k, 8) c = own (c : Thread nD τ) r3M (slab k 64 64) fullShare (rbuf x 0 3 c) := rfl
theorem left_8 : left x (k, 8) c = own (c : Thread nD τ) r3M (slab k 64 64) fullShare (rbuf x 0 3 c) := rfl
theorem recvPay_9 : recvPay x (k, 9) c = own (c : Thread nD τ) agM (rowsOf (po k 1 c) 64) fullShare (gat x k 1 c) := rfl
theorem left_9 : left x (k, 9) c = own (c : Thread nD τ) agM (rowsOf (po k 1 c) 64) rsh (gat x k 1 c) := rfl
theorem recvPay_10 : recvPay x (k, 10) c = own (c : Thread nD τ) agM (rowsOf (po k 1 c + 64) 64) fullShare (gat x k 1 c) := rfl
theorem left_10 : left x (k, 10) c = own (c : Thread nD τ) agM (rowsOf (po k 1 c + 64) 64) rsh (gat x k 1 c) := rfl
theorem recvPay_11 : recvPay x (k, 11) c = own (c : Thread nD τ) agM (rowsOf (po k 2 c) 64) fullShare (gat x k 2 c) := rfl
theorem left_11 : left x (k, 11) c = own (c : Thread nD τ) agM (rowsOf (po k 2 c) 64) fullShare (gat x k 2 c) := rfl
theorem recvPay_12 : recvPay x (k, 12) c = own (c : Thread nD τ) agM (rowsOf (po k 2 c + 64) 64) fullShare (gat x k 2 c) := rfl
theorem left_12 : left x (k, 12) c = own (c : Thread nD τ) agM (rowsOf (po k 2 c + 64) 64) fullShare (gat x k 2 c) := rfl
theorem recvPay_13 : recvPay x (k, 13) c = own (c : Thread nD τ) agM (rowsOf (po k 3 c) 64) fullShare (gat x k 3 c) := rfl
theorem left_13 : left x (k, 13) c = own (c : Thread nD τ) agM (rowsOf (po k 3 c) 64) fullShare (gat x k 3 c) := rfl
theorem recvPay_14 : recvPay x (k, 14) c = own (c : Thread nD τ) agM (rowsOf (po k 3 c + 64) 64) fullShare (gat x k 3 c) := rfl
theorem left_14 : left x (k, 14) c = own (c : Thread nD τ) agM (rowsOf (po k 3 c + 64) 64) fullShare (gat x k 3 c) := rfl
theorem sendPay_0 : sendPay x (k, 0) c = own (c : Thread nD τ) xbM (rowsOf (po k 3 c) 64) fullShare (accT x 0 c k) := rfl
theorem sendPay_1 : sendPay x (k, 1) c = own (c : Thread nD τ) xbM (rowsOf (po k 3 c + 64) 64) fullShare (accT x 0 c k) := rfl
theorem sendPay_2 : sendPay x (k, 2) c = own (c : Thread nD τ) xbM (rowsOf (po k 2 c) 128) fullShare (accT x 0 c k) := rfl
theorem sendPay_3 : sendPay x (k, 3) c = own (c : Thread nD τ) s1M (slab k 0 64) fullShare (sbuf x 1 1 c) := rfl
theorem sendPay_4 : sendPay x (k, 4) c = own (c : Thread nD τ) s1M (slab k 64 64) fullShare (sbuf x 1 1 c) := rfl
theorem sendPay_5 : sendPay x (k, 5) c = own (c : Thread nD τ) s2M (slab k 0 64) fullShare (sbuf x 0 2 c) := rfl
theorem sendPay_6 : sendPay x (k, 6) c = own (c : Thread nD τ) s2M (slab k 64 64) fullShare (sbuf x 0 2 c) := rfl
theorem sendPay_7 : sendPay x (k, 7) c = own (c : Thread nD τ) s3M (slab k 0 64) fullShare (sbuf x 0 3 c) := rfl
theorem sendPay_8 : sendPay x (k, 8) c = own (c : Thread nD τ) s3M (slab k 64 64) fullShare (sbuf x 0 3 c) := rfl
theorem sendPay_9 : sendPay x (k, 9) c = own (c : Thread nD τ) agM (rowsOf (po k 0 c) 64) lsh (gat x k 0 c) := rfl
theorem sendPay_10 : sendPay x (k, 10) c = own (c : Thread nD τ) agM (rowsOf (po k 0 c + 64) 64) lsh (gat x k 0 c) := rfl
theorem sendPay_11 : sendPay x (k, 11) c = own (c : Thread nD τ) agM (rowsOf (po k 0 c) 64) rsh (gat x k 0 c) := rfl
theorem sendPay_12 : sendPay x (k, 12) c = own (c : Thread nD τ) agM (rowsOf (po k 0 c + 64) 64) rsh (gat x k 0 c) := rfl
theorem sendPay_13 : sendPay x (k, 13) c = own (c : Thread nD τ) agM (rowsOf (po k 1 c) 64) lsh (gat x k 1 c) := rfl
theorem sendPay_14 : sendPay x (k, 14) c = own (c : Thread nD τ) agM (rowsOf (po k 1 c + 64) 64) lsh (gat x k 1 c) := rfl

/-- A lane that has been used joins those that are over. -/
theorem over_put {j : Lane} {l : List Lane} {P : sProp (MT nD τ sig Unit (Elt F) ℕ UU ℕ)} (hP : left x j c = P) :
    over x l c ⊢ iprop(gone x j c -∗ P -∗ over x (j :: l) c) := by
  subst hP
  iintro Ho Hg Hl
  iapply (over_cons x)
  isplitl [Ho]; · iexact Ho
  isplitl [Hg]; · iexact Hg
  iexact Hl

end Payloads

/-! ## The values sent and received -/

section Values

variable (x : Dev nD → SA.Idx → F .f32) (k : Fin 2) (c : Dev nD) {h n : ℕ}

/-- A sent band is what the partner's buffer receives. -/
theorem val_rs (s : ℕ) (t t' : Fin 4) (hpo : po k t' (nb (dim k (Fin.ofNat 4 s)) c) = po k t c) (hh : h + n ≤ 128) :
    rowV (accT x s c k) (po k t c + h) n = sqV (rbuf x t' s (nb (dim k (Fin.ofNat 4 s)) c)) k h n := by
  unfold rbuf
  rw [sqV_buf _ _ _ hh]
  unfold recT
  rw [nb_nb, hpo]

/-- A sent slab is what the partner's buffer receives. -/
theorem val_ss (s : ℕ) (t t' : Fin 4) (hpo : po k t' (nb (dim k (Fin.ofNat 4 s)) c) = po k t c) (hh : h + n ≤ 128) :
    sqV (sbuf x t s c) k h n = sqV (rbuf x t' s (nb (dim k (Fin.ofNat 4 s)) c)) k h n := by
  unfold sbuf
  rw [sqV_buf _ _ _ hh]
  exact val_rs x k c s t t' hpo hh

/-- A sent gathered band is what the partner receives. -/
theorem val_rr (d t t' : Fin 4) (how : owner k t' (nb d c) = owner k t c) {o o' : ℕ} (ho : o' = o) :
    rowV (gat x k t c) o n = rowV (gat x k t' (nb d c)) o' n := by
  unfold gat
  rw [how, ho]

/-- A received band added to the partial sums. -/
theorem step_add (s : ℕ) (t : Fin 4) (hh : h + n ≤ 128) (hc : (⟨3, ![1, n, 512]⟩ : Shape).ShapeCasts ⟨2, ![n, 512]⟩)
    (hb : FTy.bits .bf16 < FTy.bits .f32) :
    addf (rowV (acc x k s c) (po k t c + h) n) (extf .f32 (shapeCast ⟨2, ![n, 512]⟩ (slabV (rbuf x t s c) k h n) hc) hb)
      = rowV (acc x k (s + 1) c) (po k t c + h) n := by
  unfold rbuf
  rw [cast_slabV _ _ _ hh]
  rfl

/-- The partial sums rounded into the next exchange's buffer. -/
theorem step_send (s : ℕ) (t : Fin 4) (hh : h + n ≤ 128) (hc : (⟨2, ![n, 512]⟩ : Shape).ShapeCasts ⟨3, ![1, n, 512]⟩)
    (hb : FTy.bits .bf16 < FTy.bits .f32) :
    shapeCast ⟨3, ![1, n, 512]⟩ (truncf .bf16 (rowV (acc x k s c) (po k t c + h) n) hb) hc = slabV (sbuf x t s c) k h n := by
  unfold sbuf
  rw [← cast_rowV _ _ _ hh hc]
  rfl

/-- The two steps in one. -/
theorem step_both (s : ℕ) (t : Fin 4) (hh : h + n ≤ 128) (hc : (⟨3, ![1, n, 512]⟩ : Shape).ShapeCasts ⟨2, ![n, 512]⟩)
    (hb : FTy.bits .bf16 < FTy.bits .f32) (hc' : (⟨2, ![n, 512]⟩ : Shape).ShapeCasts ⟨3, ![1, n, 512]⟩)
    (hb' : FTy.bits .bf16 < FTy.bits .f32) :
    shapeCast ⟨3, ![1, n, 512]⟩ (truncf .bf16 (addf (rowV (acc x k s c) (po k t c + h) n)
        (extf .f32 (shapeCast ⟨2, ![n, 512]⟩ (slabV (rbuf x t s c) k h n) hc) hb)) hb') hc' = slabV (sbuf x t (s + 1) c) k h n := by
  rw [step_add x k c s t hh]
  exact step_send x k c (s + 1) t hh hc' hb'

end Values

/-! ## The transfers that gather -/

section Gather

theorem pp_9 (k : Fin 2) (c : Dev nD) : po k 1 (peer (k, 9) c) = po k 0 c := po_nb1_1 k c
theorem pw_9 (k : Fin 2) (c : Dev nD) : owner k 1 (peer (k, 9) c) = owner k 0 c := nb_nb _ _
theorem credN_9 (k : Fin 2) : sig.dmaCredit .tc (Kind.tc.table .vmem) agM.view.buf S64x512 .bf16 = credN (k, 9) := rfl
theorem dst_9 (k : Fin 2) (c : Dev nD) : dstPts (F := F) (k, 9) c = iprop(∃ Y, own (c : Thread nD τ) agM (rowsOf (po k 1 c) 64) fullShare Y) := rfl
theorem pp_10 (k : Fin 2) (c : Dev nD) : po k 1 (peer (k, 10) c) + 64 = po k 0 c + 64 := congrArg (· + 64) (po_nb1_1 k c)
theorem pw_10 (k : Fin 2) (c : Dev nD) : owner k 1 (peer (k, 10) c) = owner k 0 c := nb_nb _ _
theorem credN_10 (k : Fin 2) : sig.dmaCredit .tc (Kind.tc.table .vmem) agM.view.buf S64x512 .bf16 = credN (k, 10) := rfl
theorem dst_10 (k : Fin 2) (c : Dev nD) : dstPts (F := F) (k, 10) c = iprop(∃ Y, own (c : Thread nD τ) agM (rowsOf (po k 1 c + 64) 64) fullShare Y) := rfl
theorem pp_11 (k : Fin 2) (c : Dev nD) : po k 2 (peer (k, 11) c) = po k 0 c := po_nb0_2 k c
theorem pw_11 (k : Fin 2) (c : Dev nD) : owner k 2 (peer (k, 11) c) = owner k 0 c := nb_nb _ _
theorem credN_11 (k : Fin 2) : sig.dmaCredit .tc (Kind.tc.table .vmem) agM.view.buf S64x512 .bf16 = credN (k, 11) := rfl
theorem dst_11 (k : Fin 2) (c : Dev nD) : dstPts (F := F) (k, 11) c = iprop(∃ Y, own (c : Thread nD τ) agM (rowsOf (po k 2 c) 64) fullShare Y) := rfl
theorem pp_12 (k : Fin 2) (c : Dev nD) : po k 2 (peer (k, 12) c) + 64 = po k 0 c + 64 := congrArg (· + 64) (po_nb0_2 k c)
theorem pw_12 (k : Fin 2) (c : Dev nD) : owner k 2 (peer (k, 12) c) = owner k 0 c := nb_nb _ _
theorem credN_12 (k : Fin 2) : sig.dmaCredit .tc (Kind.tc.table .vmem) agM.view.buf S64x512 .bf16 = credN (k, 12) := rfl
theorem dst_12 (k : Fin 2) (c : Dev nD) : dstPts (F := F) (k, 12) c = iprop(∃ Y, own (c : Thread nD τ) agM (rowsOf (po k 2 c + 64) 64) fullShare Y) := rfl
theorem pp_13 (k : Fin 2) (c : Dev nD) : po k 3 (peer (k, 13) c) = po k 1 c := po_nb0_3 k c
theorem pw_13 (k : Fin 2) (c : Dev nD) : owner k 3 (peer (k, 13) c) = owner k 1 c := congrArg (nb (dim k 1)) (nb_nb _ _)
theorem credN_13 (k : Fin 2) : sig.dmaCredit .tc (Kind.tc.table .vmem) agM.view.buf S64x512 .bf16 = credN (k, 13) := rfl
theorem dst_13 (k : Fin 2) (c : Dev nD) : dstPts (F := F) (k, 13) c = iprop(∃ Y, own (c : Thread nD τ) agM (rowsOf (po k 3 c) 64) fullShare Y) := rfl
theorem pp_14 (k : Fin 2) (c : Dev nD) : po k 3 (peer (k, 14) c) + 64 = po k 1 c + 64 := congrArg (· + 64) (po_nb0_3 k c)
theorem pw_14 (k : Fin 2) (c : Dev nD) : owner k 3 (peer (k, 14) c) = owner k 1 c := congrArg (nb (dim k 1)) (nb_nb _ _)
theorem credN_14 (k : Fin 2) : sig.dmaCredit .tc (Kind.tc.table .vmem) agM.view.buf S64x512 .bf16 = credN (k, 14) := rfl
theorem dst_14 (k : Fin 2) (c : Dev nD) : dstPts (F := F) (k, 14) c = iprop(∃ Y, own (c : Thread nD τ) agM (rowsOf (po k 3 c + 64) 64) fullShare Y) := rfl

variable (x : Dev nD → SA.Idx → F .f32) (K : Dev nD × CI → ℕ) (c : Dev nD) {α : Type} {Q : α → sProp (MT nD τ sig Unit (Elt F) ℕ UU ℕ)}

/-- A transfer of a gathered band, at the same rows on both sides. -/
theorem wp_snd_ag (j : Lane) (l₀ l : List Lane) (hl : l₀ = j :: l) (k : Fin 2) (t t' : Fin 4) {o o' : ℕ} {q : PosShare TreeShare}
    (hpo : o' = o) (hown : owner k t' (peer j c) = owner k t c)
    {d : Dev nD} (hd : d = peer j c) {sS sR : DmaSem sig} (hsS : sS = sendSem j) (hsR : sR = recvSem j)
    {off : Fin 2 → ℕ} {inb : ∀ a, off a + (⟨2, ![64, 512]⟩ : Shape).size a ≤ SA.size a}
    {hr : ∀ a, (Rect.unit (s := SA) off (⟨2, ![64, 512]⟩ : Shape).size inb).stride a = 1}
    {inb' : ∀ a, off a + (⟨2, ![64, 512]⟩ : Shape).size a ≤ SA.size a}
    {hr' : ∀ a, (Rect.unit (s := SA) off (⟨2, ![64, 512]⟩ : Shape).size inb').stride a = 1}
    (ho : off = ![o, 0])
    (hN : sig.dmaCredit .tc (Kind.tc.table .vmem) agM.view.buf S64x512 .bf16 = credN j)
    (hS : sendPay x j c = own (c : Thread nD τ) agM (rowsOf o 64) q (gat x k t c))
    (hD : dstPts (F := F) j (peer j c) = iprop(∃ Y, own (peer j c : Thread nD τ) agM (rowsOf o' 64) fullShare Y))
    (hR : recvPay x j (peer j c) = own (peer j c : Thread nD τ) agM (rowsOf o' 64) fullShare (gat x k t' (peer j c)))
    {hsc : (Memref.view (sig := sig) (κ := (Dev.tc d : Thread nD τ).2.kind) (agM.slice (Rect.unit (s := SA) off (⟨2, ![64, 512]⟩ : Shape).size inb') hr')).ref.isScScratch = false}
    {hsrc : View.WordExact (Memref.view (sig := sig) (κ := .tc) (agM.slice (Rect.unit (s := SA) off (⟨2, ![64, 512]⟩ : Shape).size inb) hr))}
    {hdst : View.WordExact (Memref.view (sig := sig) (κ := .tc) (agM.slice (Rect.unit (s := SA) off (⟨2, ![64, 512]⟩ : Shape).size inb') hr'))}
    {hsem : DmaTarget.Typed .vmem (.dma sR) (.remote (Dev.tc d : Thread nD τ) (agM.slice (Rect.unit (s := SA) off (⟨2, ![64, 512]⟩ : Shape).size inb') hr') (.dma sS) hsc)}
    {kt : PUnit → Prog (TpuEff nD τ sig (Elt F) Λ₀ .tc) α} :
    recs x K ⊢ iprop(own (c : Thread nD τ) agM (rowsOf o 64) q (gat x k t c) -∗ pend l₀ c -∗ (fly j c ∗ pend l c -∗ wp frame (wpE (defs₀ (F := F)) 𝒱₀ c none) Set.univ (kt ⟨⟩) Q)
        -∗ wp frame (wpE (defs₀ (F := F)) 𝒱₀ (c : Thread nD τ) none) Set.univ
            (.op (.enqueueDma (agM.slice (Rect.unit (s := SA) off (⟨2, ![64, 512]⟩ : Shape).size inb) hr) (.remote (Dev.tc d : Thread nD τ) (agM.slice (Rect.unit (s := SA) off (⟨2, ![64, 512]⟩ : Shape).size inb') hr') (.dma sS) hsc) (.dma sR) hsrc hdst hsem) kt) Q) :=
  wp_snd_rr x K c j l₀ l hl 64 hd hsS hsR ho (ho.trans (congrArg (fun z => (![z, 0] : Fin 2 → ℕ)) hpo.symm)) hN hS hD hR
    (by unfold gat; rw [hown, hpo])

end Gather

end Cert.KernelIdealProof

end
-- ==== Proof.KernelIdeal.BodyA.lean ====
/-
The body's first parts: the signals, the rounding of the rows to send, the barrier wait, and the transfers of the first
exchange.
-/
module

public import proofs.«01_k».proof.Proof.KernelIdeal.Lanes

@[expose] public section

noncomputable section

namespace Cert.KernelIdealProof

open Cert.KernelIdeal Cert.KernelIdeal.Gen Cert.Own Cert.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Held places -/

/-- A slab of 64 rows of an exchange buffer, at any values. -/
def anyB (m : Memref sig .tc .vmem SB .bf16) (k : Fin 2) (h : ℕ) (c : Dev nD) : sProp 𝕄 :=
  iprop(∃ Y, own (c : Thread nD τ) m (slab k h 64) fullShare Y)

/-- A band of `n` rows of a buffer, at any values. -/
def anyA {e : EltTy} (m : Memref sig .tc .vmem SA e) (o n : ℕ) (c : Dev nD) : sProp 𝕄 :=
  iprop(∃ Y, own (c : Thread nD τ) m (rowsOf o n) fullShare Y)

/-- The device's block of the argument. -/
def ownX (x : Dev nD → SA.Idx → F .f32) (c : Dev nD) : sProp 𝕄 := own (c : Thread nD τ) xM Finset.univ fullShare (x c)

/-- A band of the rounded rows to send off in the first exchange. -/
abbrev ownS (x : Dev nD → SA.Idx → F .f32) (k : Fin 2) (o n : ℕ) (c : Dev nD) : sProp 𝕄 :=
  own (c : Thread nD τ) xbM (rowsOf o n) fullShare (accT x 0 c k)

section Body

variable (x : Dev nD → SA.Idx → F .f32) (K : Dev nD × CI → ℕ) (c : Dev nD)

theorem part1 {Q : (Σ' (d0 : Dev nD) (v23 : BitVec 32) (v24 : BitVec 32) (v27 : BitVec 32) (v30 : BitVec 32) (v33 : BitVec 32) (v36 : BitVec 32), BitVec 32) → sProp (MT nD τ sig Unit (Elt F) ℕ UU ℕ)} :
    iprop(∀ v23 v24 v27 v30 v33 v36 v, Q ⟨c, v23, v24, v27, v30, v33, v36, v⟩)
      ⊢ wp frame (wpE (defs₀ (F := F)) 𝒱₀ (c : Thread nD τ) none) Set.univ (k0_part1 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11) Q := by
  rw [k0_part1_eq_skeleton]; unfold k0_part1_skel
  simp only [Prog.lift, Prog.bind_op, Prog.bind_ret, Prog.pure_eq_ret, wp_deviceId, wp_ret]
  iintro H
  imodintro
  iapply H

theorem part2 (v23 v24 v27 v30 v33 v36 v : BitVec 32)
    {Q : (Σ' (v39 : BitVec 32) (v44 : BitVec 32) (v46 : BitVec 32) (v49 : BitVec 32) (v54 : BitVec 32) (v56 : BitVec 32), Sems sig S_) → sProp (MT nD τ sig Unit (Elt F) ℕ UU ℕ)} :
    iprop(recs x K ∗ (dutyTok ER (barCell (nb 0 c)) 0 0 ∗ barPay (F := F) 0 c) ∗ (dutyTok ER (barCell (nb 1 c)) 0 1 ∗ barPay (F := F) 1 c)
        ∗ (dutyTok ER (barCell (nb 2 c)) 0 2 ∗ barPay (F := F) 2 c) ∗ (dutyTok ER (barCell (nb 3 c)) 0 3 ∗ barPay (F := F) 3 c)
        ∗ owe c (debt c order + debtB c [0, 1, 2, 3])
        ∗ (∀ v39 v44 v46 v49 v54 v56, owe c (debt c order) -∗ Q ⟨v39, v44, v46, v49, v54, v56, SemArray.scalar (sig.barrier 0 rfl)⟩))
      ⊢ wp frame (wpE (defs₀ (F := F)) 𝒱₀ (c : Thread nD τ) none) Set.univ (k0_part2 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v23 v24 v27 v30 v33 v36 v) Q := by
  rw [k0_part2_eq_skeleton]; unfold k0_part2_skel
  simp only [semSignalWord, Prog.lift, Prog.bind_op, Prog.bind_ret, Prog.pure_eq_ret]
  iintro ⟨#HR, ⟨Ht0, Hp0⟩, ⟨Ht1, Hp1⟩, ⟨Ht2, Hp2⟩, ⟨Ht3, Hp3⟩, HO, Hk⟩
  iapply (wp_sg x K c 0 [1, 2, 3] order (dev1_eq c) rfl (by decide)) $$ HR Ht0 Hp0 HO
  iintro HO
  iapply (wp_sg x K c 1 [2, 3] order (dev2_eq c) rfl (by decide)) $$ HR Ht1 Hp1 HO
  iintro HO
  iapply (wp_sg x K c 2 [3] order (dev3_eq c) rfl (by decide)) $$ HR Ht2 Hp2 HO
  iintro HO
  iapply (wp_sg x K c 3 [] order (dev4_eq c) rfl (by decide)) $$ HR Ht3 Hp3 HO
  iintro HO
  rw [debtB_nil, add_zero, wp_ret]
  imodintro
  iapply Hk
  iexact HO

/-- The 256 rows sent off in the first exchange, as the sources of its three transfers. -/
theorem xb_split (k : Fin 2) :
    (own (c : Thread nD τ) xbM (rowsOf (so k c) 256) fullShare (accT x 0 c k) : sProp 𝕄)
      ⊢ iprop(ownS x k (po k 3 c) 64 c ∗ ownS x k (po k 3 c + 64) 64 c ∗ ownS x k (po k 2 c) 128 c) := by
  have h : (so k c = po k 3 c ∧ so k c + 128 = po k 2 c) ∨ (so k c = po k 2 c ∧ so k c + 128 = po k 3 c) := by
    have h1 : bit (dim k 0) c ≤ 1 := by revert k c; decide
    have h2 : bit (dim k 1) c ≤ 1 := by revert k c; decide
    have e3 : po k 3 c = 512 * k.val + 256 * (1 - bit (dim k 0) c) + 128 * (1 - bit (dim k 1) c) := rfl
    have e2 : po k 2 c = 512 * k.val + 256 * (1 - bit (dim k 0) c) + 128 * bit (dim k 1) c := rfl
    have e : so k c = 512 * k.val + 256 * (1 - bit (dim k 0) c) := rfl
    omega
  have hset : rowsOf (so k c) 256 = rowsOf (po k 3 c) (64 + 64) ∪ rowsOf (po k 2 c) 128 := by
    ext y
    rw [Finset.mem_union, mem_rowsOf, mem_rowsOf, mem_rowsOf]
    omega
  have hd : Disjoint (rowsOf (po k 3 c) (64 + 64)) (rowsOf (po k 2 c) 128) :=
    rows_disjoint (by omega)
  rw [hset]
  iintro H
  ihave H := (own_split hd) $$ H
  icases H with ⟨H3, H2⟩
  ihave H3 := own_rows_split $$ H3
  icases H3 with ⟨H0, H1⟩
  isplitl [H0]; · iexact H0
  isplitl [H1]; · iexact H1
  iexact H2

theorem pay2_eq (k : Fin 2) (o : ℕ) : k0_pay2 (rowV (x c) o 256) = rowV (accT x 0 c k) o 256 := by
  unfold k0_pay2; simp only [shapeCast_self]; rfl
theorem pay3_eq (k : Fin 2) (o : ℕ) : k0_pay3 (rowV (x c) o 256) = rowV (accT x 0 c k) o 256 := by
  unfold k0_pay3; simp only [shapeCast_self]; rfl

/-- Idle lanes and the places at their other ends are lanes ready for use. -/
theorem pend_intro :
    iprop((bigSep Finset.univ fun j : Lane => idle (F := F) j c) ∗ (bigSep Finset.univ fun j : Lane => dstPts (F := F) j (peer j c))
        ∗ owe c (debt c order)) ⊢ pend (F := F) order c := by
  have h : (bigSep Finset.univ fun j : Lane => ready (F := F) j c) = bigSepL order fun j => ready (F := F) j c :=
    bigSep_univ_eq_bigSepL order (by decide +kernel) (by decide +kernel) _
  have h2 : (bigSep Finset.univ fun j : Lane => ready (F := F) j c)
      = iprop((bigSep Finset.univ fun j : Lane => idle (F := F) j c) ∗ (bigSep Finset.univ fun j : Lane => dstPts (F := F) j (peer j c))) :=
    bigSep_sep _ _ _
  unfold pend
  rw [← h, h2]
  iintro ⟨H1, H2, H3⟩
  isplitr [H3]
  · isplitl [H1]; · iexact H1
    iexact H2
  · iexact H3

theorem part3 (v23 v24 v27 v39 v49 : BitVec 32) {Q : PUnit → sProp (MT nD τ sig Unit (Elt F) ℕ UU ℕ)} :
    iprop(recs x K ∗ ownX x c ∗ anyA xbM (so 0 c) 256 c ∗ anyA xbM (so 1 c) 256 c
        ∗ cred (tallyAt (barCell c) () 4) ∗ atPos ER (barCell c) 0 ∅ 0 ∗ owe c (debt c order)
        ∗ (bigSep Finset.univ fun j : Lane => idle (F := F) j c)
        ∗ (semVal (barCell c) 0 ∗ ownX x c ∗ ownS x 0 (po 0 3 c + 64) 64 c ∗ ownS x 0 (po 0 2 c) 128 c ∗ ownS x 1 (po 1 3 c) 64 c ∗ ownS x 1 (po 1 3 c + 64) 64 c
            ∗ ownS x 1 (po 1 2 c) 128 c ∗ fly (0, 0) c ∗ pend (order.drop 1) c -∗ Q ⟨⟩))
      ⊢ wp frame (wpE (defs₀ (F := F)) 𝒱₀ (c : Thread nD τ) none) Set.univ (k0_part3 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v23 v24 v27 v39 v49
          (SemArray.scalar (sig.barrier 0 rfl))) Q := by
  rw [k0_part3_eq_skeleton]; unfold k0_part3_skel
  simp only [semWaitWord, Prog.lift, Prog.bind_op, Prog.bind_ret, Prog.pure_eq_ret]
  unfold ownX anyA
  iintro ⟨#HR, HX, ⟨%Y0, H0⟩, ⟨%Y1, H1⟩, HC, Ha, HO, HI, Hk⟩
  iapply (wp_load_rows 𝒱₀ none Set.univ (so 0 c) 256 (off1_eq c) (Finset.subset_univ _)) $$ HX; iintro HX
  iapply (wp_load_rows 𝒱₀ none Set.univ (so 0 c) 256 (off1_eq c) (Finset.Subset.refl _)) $$ H0; iintro H0
  iapply (wp_store_rows 𝒱₀ none Set.univ (so 0 c) 256 (accT x 0 c 0) (off1_eq c) (pay2_eq x c 0 _)) $$ H0; iintro H0
  iapply (wp_load_rows 𝒱₀ none Set.univ (so 1 c) 256 (off2_eq c) (Finset.subset_univ _)) $$ HX; iintro HX
  iapply (wp_load_rows 𝒱₀ none Set.univ (so 1 c) 256 (off2_eq c) (Finset.Subset.refl _)) $$ H1; iintro H1
  iapply (wp_store_rows 𝒱₀ none Set.univ (so 1 c) 256 (accT x 0 c 1) (off2_eq c) (pay3_eq x c 1 _)) $$ H1; iintro H1
  ihave H0 := (xb_split x c 0) $$ H0
  ihave H1 := (xb_split x c 1) $$ H1
  icases H0 with ⟨H00, H01, H02⟩
  icases H1 with ⟨H10, H11, H12⟩
  iapply (wp_br x K c order rfl (by decide)) $$ HR HC Ha HO
  iintro ⟨Hz, HD, HO⟩
  ihave HP := (pend_intro c) $$ [HI HD HO]
  · isplitl [HI]; · iexact HI
    isplitl [HD]; · iexact HD
    iexact HO
  iapply (wp_snd_rs x K c (0, 0) order (order.drop 1) rfl 0 64 (dev5_eq c) sendSem_eq recvSem_eq (off3_0 c) rfl rfl rfl rfl rfl
    (val_rs x 0 c 0 3 1 (po_nb0_1 0 c) (h := 0) (by decide))) $$ HR H00 HP
  iintro ⟨HF, HP⟩
  rw [wp_ret]
  imodintro
  iapply Hk
  iframe

end Body

end Cert.KernelIdealProof

end
-- ==== Proof.KernelIdeal.BodyB.lean ====
/-
The body's parts from the first transfers through the exchanges of partial sums: what each part takes and gives back.
-/
module

public import proofs.«01_k».proof.Proof.KernelIdeal.BodyA

@[expose] public section

noncomputable section

namespace Cert.KernelIdealProof

open Cert.KernelIdeal Cert.KernelIdeal.Gen Cert.Own Cert.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A band held at known values. -/
abbrev heldA {e : EltTy} (m : Memref sig .tc .vmem SA e) (o n : ℕ) (q : PosShare TreeShare) (X : SA.Idx → Elt F e) (c : Dev nD) :
    sProp 𝕄 := own (c : Thread nD τ) m (rowsOf o n) q X

/-- A slab held at known values. -/
abbrev heldB (m : Memref sig .tc .vmem SB .bf16) (k : Fin 2) (h n : ℕ) (X : SB.Idx → F .bf16) (c : Dev nD) : sProp 𝕄 :=
  own (c : Thread nD τ) m (slab k h n) fullShare X

section Body

variable (x : Dev nD → SA.Idx → F .f32) (K : Dev nD × CI → ℕ) (c : Dev nD)

theorem part4 (v23 v24 v27 v30 v39 v49 : BitVec 32) {Q : BitVec 32 → sProp (MT nD τ sig Unit (Elt F) ℕ UU ℕ)} :
    recs x K ⊢ iprop(pend (order.drop 1) c
        -∗ ownS x 1 (po 1 3 c) 64 c
        -∗ ownS x 0 (po 0 3 c + 64) 64 c
        -∗ (∀ r, pend (order.drop 3) c
            ∗ fly (1, 0) c
            ∗ fly (0, 1) c -∗ Q r)
      -∗ wp frame (wpE (defs₀ (F := F)) 𝒱₀ (c : Thread nD τ) none) Set.univ (k0_part4 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v23 v24 v27 v30 v39 v49) Q) := by
  rw [k0_part4_eq_skeleton]; unfold k0_part4_skel
  simp only [Prog.lift, Prog.bind_op, Prog.bind_ret, Prog.pure_eq_ret]
  iintro #HR HP B_1_0 B_0_1 Hk
  iapply (wp_snd_rs x K c (1, 0) (order.drop 1) (order.drop 2) rfl 1 64 (dev6_eq c) sendSem_eq recvSem_eq (off4_0 c) rfl rfl rfl rfl rfl
    (val_rs x 1 c 0 3 1 (po_nb0_1 1 c) (h := 0) (by decide))) $$ HR B_1_0 HP
  iintro ⟨F_1_0, HP⟩
  iapply (wp_snd_rs x K c (0, 1) (order.drop 2) (order.drop 3) rfl 0 64 (dev7_eq c) sendSem_eq recvSem_eq (off3_64 c) rfl rfl rfl rfl rfl
    (val_rs x 0 c 0 3 1 (po_nb0_1 0 c) (h := 64) (by decide))) $$ HR B_0_1 HP
  iintro ⟨F_0_1, HP⟩
  rw [wp_ret]
  imodintro
  iapply Hk
  isplitl [HP]; · iexact HP
  isplitl [F_1_0]; · iexact F_1_0
  iexact F_0_1

theorem part5 (v23 v24 v27 v30 v39 v49 v125 : BitVec 32) {Q : PUnit → sProp (MT nD τ sig Unit (Elt F) ℕ UU ℕ)} :
    recs x K ⊢ iprop(pend (order.drop 3) c
        -∗ ownS x 1 (po 1 3 c + 64) 64 c
        -∗ ownS x 0 (po 0 2 c) 128 c
        -∗ ownS x 1 (po 1 2 c) 128 c
        -∗ (pend (order.drop 6) c
            ∗ fly (1, 1) c
            ∗ fly (0, 2) c
            ∗ fly (1, 2) c -∗ Q ⟨⟩)
      -∗ wp frame (wpE (defs₀ (F := F)) 𝒱₀ (c : Thread nD τ) none) Set.univ (k0_part5 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v23 v24 v27 v30 v39 v49 v125) Q) := by
  rw [k0_part5_eq_skeleton]; unfold k0_part5_skel
  simp only [Prog.lift, Prog.bind_op, Prog.bind_ret, Prog.pure_eq_ret]
  iintro #HR HP B_1_1 B_0_2 B_1_2 Hk
  iapply (wp_snd_rs x K c (1, 1) (order.drop 3) (order.drop 4) rfl 1 64 (dev8_eq c) sendSem_eq recvSem_eq (off4_64 c) rfl rfl rfl rfl rfl
    (val_rs x 1 c 0 3 1 (po_nb0_1 1 c) (h := 64) (by decide))) $$ HR B_1_1 HP
  iintro ⟨F_1_1, HP⟩
  iapply (wp_snd_rs x K c (0, 2) (order.drop 4) (order.drop 5) rfl 0 128 (dev9_eq c) sendSem_eq recvSem_eq (off5_eq c) rfl rfl rfl rfl rfl
    (val_rs x 0 c 0 2 0 (po_nb0_0 0 c) (h := 0) (by decide))) $$ HR B_0_2 HP
  iintro ⟨F_0_2, HP⟩
  iapply (wp_snd_rs x K c (1, 2) (order.drop 5) (order.drop 6) rfl 1 128 (dev10_eq c) sendSem_eq recvSem_eq (off6_eq c) rfl rfl rfl rfl rfl
    (val_rs x 1 c 0 2 0 (po_nb0_0 1 c) (h := 0) (by decide))) $$ HR B_1_2 HP
  iintro ⟨F_1_2, HP⟩
  rw [wp_ret]
  imodintro
  iapply Hk
  isplitl [HP]; · iexact HP
  isplitl [F_1_1]; · iexact F_1_1
  isplitl [F_0_2]; · iexact F_0_2
  iexact F_1_2

theorem part6 (l : List Lane) (v27 v44 : BitVec 32) {Q : BitVec 32 → sProp (MT nD τ sig Unit (Elt F) ℕ UU ℕ)} :
    recs x K ⊢ iprop(pend (order.drop 6) c
        -∗ fly (0, 0) c
        -∗ ownX x c
        -∗ anyB s1M 0 0 c
        -∗ over x l c
        -∗ (∀ r, ownX x c
            ∗ pend (order.drop 6) c
            ∗ heldB s1M 0 0 64 (sbuf x 1 1 c) c
            ∗ over x ((0, 0) :: l) c -∗ Q r)
      -∗ wp frame (wpE (defs₀ (F := F)) 𝒱₀ (c : Thread nD τ) none) Set.univ (k0_part6 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v44) Q) := by
  rw [k0_part6_eq_skeleton]; unfold k0_part6_skel
  simp only [Prog.lift, Prog.bind_op, Prog.bind_ret, Prog.pure_eq_ret]
  unfold ownX anyB
  iintro #HR HP F_0_0 HX ⟨%YS1_0_0, S1_0_0⟩ HO Hk
  iapply (wp_ws x K c (0, 0) (order.drop 6) sendSem_eq rfl) $$ HR F_0_0 HP; iintro ⟨H_0_0, HP⟩
  iapply (wp_wr x K c (0, 0) (order.drop 6) (by decide) (recvPay_0 x 0 c) recvSem_eq rfl) $$ HR H_0_0 HP; iintro ⟨G_0_0, V_0_0, HP⟩
  iapply (wp_load_rows 𝒱₀ none Set.univ (po 0 1 c) 64 (off7_0 c) (Finset.subset_univ _)) $$ HX; iintro HX
  iapply (wp_load_slab 𝒱₀ none Set.univ 0 0 64 rfl (Finset.Subset.refl _)) $$ V_0_0; iintro V_0_0
  iapply (wp_load_slab 𝒱₀ none Set.univ 0 0 64 rfl (Finset.Subset.refl _)) $$ S1_0_0; iintro S1_0_0
  iapply (wp_store_slab 𝒱₀ none Set.univ 0 0 64 (sbuf x 1 1 c) rfl
    (by unfold k0_pay4; simp only [shapeCast_self]; exact step_both x 0 c 0 1 (h := 0) (by decide) _ _ _ _)) $$ S1_0_0; iintro S1_0_0
  ihave HO := (over_put x c (left_0 x 0 c)) $$ HO G_0_0 V_0_0
  rw [wp_ret]
  imodintro
  iapply Hk
  isplitl [HX]; · iexact HX
  isplitl [HP]; · iexact HP
  isplitl [S1_0_0]; · iexact S1_0_0
  iexact HO

theorem part7 (l : List Lane) (v30 v54 : BitVec 32) {Q : (Σ' (v205 : FVec F S64x512 .f32), FVec F S64x512 .bf16) → sProp (MT nD τ sig Unit (Elt F) ℕ UU ℕ)} :
    recs x K ⊢ iprop(pend (order.drop 6) c
        -∗ heldB s1M 0 0 64 (sbuf x 1 1 c) c
        -∗ fly (1, 0) c
        -∗ ownX x c
        -∗ over x l c
        -∗ (ownX x c
            ∗ pend (order.drop 7) c
            ∗ over x ((1, 0) :: l) c
            ∗ fly (0, 3) c -∗ Q ⟨(k0_pay5 (rowV (x c) (po 1 1 c) 64)), (k0_pay6 (slabV (rbuf x 1 0 c) 1 0 64))⟩)
      -∗ wp frame (wpE (defs₀ (F := F)) 𝒱₀ (c : Thread nD τ) none) Set.univ (k0_part7 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v30 v54 c7) Q) := by
  rw [k0_part7_eq_skeleton]; unfold k0_part7_skel
  simp only [Prog.lift, Prog.bind_op, Prog.bind_ret, Prog.pure_eq_ret]
  unfold ownX
  iintro #HR HP S1_0_0 F_1_0 HX HO Hk
  iapply (wp_snd_ss x K c (0, 3) (order.drop 6) (order.drop 7) rfl 0 64 (dev11_eq c) sendSem_eq recvSem_eq rfl rfl rfl rfl rfl rfl
    (val_ss x 0 c 1 1 0 (po_nb1_0 0 c) (h := 0) (by decide))) $$ HR S1_0_0 HP
  iintro ⟨F_0_3, HP⟩
  iapply (wp_ws x K c (1, 0) (order.drop 7) sendSem_eq rfl) $$ HR F_1_0 HP; iintro ⟨H_1_0, HP⟩
  iapply (wp_wr x K c (1, 0) (order.drop 7) (by decide) (recvPay_0 x 1 c) recvSem_eq rfl) $$ HR H_1_0 HP; iintro ⟨G_1_0, V_1_0, HP⟩
  iapply (wp_load_rows 𝒱₀ none Set.univ (po 1 1 c) 64 (off8_0 c) (Finset.subset_univ _)) $$ HX; iintro HX
  iapply (wp_load_slab 𝒱₀ none Set.univ 1 0 64 rfl (Finset.Subset.refl _)) $$ V_1_0; iintro V_1_0
  ihave HO := (over_put x c (left_0 x 1 c)) $$ HO G_1_0 V_1_0
  rw [wp_ret]
  imodintro
  iapply Hk
  isplitl [HX]; · iexact HX
  isplitl [HP]; · iexact HP
  isplitl [HO]; · iexact HO
  iexact F_0_3

theorem part8 (v27 : BitVec 32) {Q : PUnit → sProp (MT nD τ sig Unit (Elt F) ℕ UU ℕ)} :
    recs x K ⊢ iprop(anyB s1M 1 0 c
        -∗ pend (order.drop 7) c
        -∗ fly (0, 1) c
        -∗ (pend (order.drop 8) c
            ∗ fly (1, 3) c
            ∗ half x (0, 1) c -∗ Q ⟨⟩)
      -∗ wp frame (wpE (defs₀ (F := F)) 𝒱₀ (c : Thread nD τ) none) Set.univ (k0_part8 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 (k0_pay5 (rowV (x c) (po 1 1 c) 64)) (k0_pay6 (slabV (rbuf x 1 0 c) 1 0 64))) Q) := by
  rw [k0_part8_eq_skeleton]; unfold k0_part8_skel
  simp only [Prog.lift, Prog.bind_op, Prog.bind_ret, Prog.pure_eq_ret]
  unfold anyB
  iintro #HR ⟨%YS1_1_0, S1_1_0⟩ HP F_0_1 Hk
  iapply (wp_load_slab 𝒱₀ none Set.univ 1 0 64 rfl (Finset.Subset.refl _)) $$ S1_1_0; iintro S1_1_0
  iapply (wp_store_slab 𝒱₀ none Set.univ 1 0 64 (sbuf x 1 1 c) rfl
    (by unfold k0_pay7 k0_pay5 k0_pay6; simp only [shapeCast_self]; exact step_both x 1 c 0 1 (h := 0) (by decide) _ _ _ _)) $$ S1_1_0; iintro S1_1_0
  iapply (wp_snd_ss x K c (1, 3) (order.drop 7) (order.drop 8) rfl 1 64 (dev12_eq c) sendSem_eq recvSem_eq rfl rfl rfl rfl rfl rfl
    (val_ss x 1 c 1 1 0 (po_nb1_0 1 c) (h := 0) (by decide))) $$ HR S1_1_0 HP
  iintro ⟨F_1_3, HP⟩
  iapply (wp_ws x K c (0, 1) (order.drop 8) sendSem_eq rfl) $$ HR F_0_1 HP; iintro ⟨H_0_1, HP⟩
  rw [wp_ret]
  imodintro
  iapply Hk
  isplitl [HP]; · iexact HP
  isplitl [F_1_3]; · iexact F_1_3
  iexact H_0_1

theorem part9 (l : List Lane) (v30 v44 : BitVec 32) {Q : PUnit → sProp (MT nD τ sig Unit (Elt F) ℕ UU ℕ)} :
    recs x K ⊢ iprop(pend (order.drop 8) c
        -∗ half x (0, 1) c
        -∗ ownX x c
        -∗ anyB s1M 0 64 c
        -∗ over x l c
        -∗ (ownX x c
            ∗ pend (order.drop 9) c
            ∗ over x ((0, 1) :: l) c
            ∗ fly (0, 4) c -∗ Q ⟨⟩)
      -∗ wp frame (wpE (defs₀ (F := F)) 𝒱₀ (c : Thread nD τ) none) Set.univ (k0_part9 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v30 v44) Q) := by
  rw [k0_part9_eq_skeleton]; unfold k0_part9_skel
  simp only [Prog.lift, Prog.bind_op, Prog.bind_ret, Prog.pure_eq_ret]
  unfold ownX anyB
  iintro #HR HP H_0_1 HX ⟨%YS1_0_64, S1_0_64⟩ HO Hk
  iapply (wp_wr x K c (0, 1) (order.drop 8) (by decide) (recvPay_1 x 0 c) recvSem_eq rfl) $$ HR H_0_1 HP; iintro ⟨G_0_1, V_0_1, HP⟩
  iapply (wp_load_rows 𝒱₀ none Set.univ (po 0 1 c + 64) 64 (off7_64 c) (Finset.subset_univ _)) $$ HX; iintro HX
  iapply (wp_load_slab 𝒱₀ none Set.univ 0 64 64 rfl (Finset.Subset.refl _)) $$ V_0_1; iintro V_0_1
  iapply (wp_load_slab 𝒱₀ none Set.univ 0 64 64 rfl (Finset.Subset.refl _)) $$ S1_0_64; iintro S1_0_64
  iapply (wp_store_slab 𝒱₀ none Set.univ 0 64 64 (sbuf x 1 1 c) rfl
    (by unfold k0_pay8; simp only [shapeCast_self]; exact step_both x 0 c 0 1 (h := 64) (by decide) _ _ _ _)) $$ S1_0_64; iintro S1_0_64
  ihave HO := (over_put x c (left_1 x 0 c)) $$ HO G_0_1 V_0_1
  iapply (wp_snd_ss x K c (0, 4) (order.drop 8) (order.drop 9) rfl 0 64 (dev13_eq c) sendSem_eq recvSem_eq rfl rfl rfl rfl rfl rfl
    (val_ss x 0 c 1 1 0 (po_nb1_0 0 c) (h := 64) (by decide))) $$ HR S1_0_64 HP
  iintro ⟨F_0_4, HP⟩
  rw [wp_ret]
  imodintro
  iapply Hk
  isplitl [HX]; · iexact HX
  isplitl [HP]; · iexact HP
  isplitl [HO]; · iexact HO
  iexact F_0_4

theorem part10 (l : List Lane) (v27 v30 v54 : BitVec 32) {Q : PUnit → sProp (MT nD τ sig Unit (Elt F) ℕ UU ℕ)} :
    recs x K ⊢ iprop(pend (order.drop 9) c
        -∗ fly (1, 1) c
        -∗ ownX x c
        -∗ anyB s1M 1 64 c
        -∗ over x l c
        -∗ (ownX x c
            ∗ pend (order.drop 9) c
            ∗ heldB s1M 1 64 64 (sbuf x 1 1 c) c
            ∗ over x ((1, 1) :: l) c -∗ Q ⟨⟩)
      -∗ wp frame (wpE (defs₀ (F := F)) 𝒱₀ (c : Thread nD τ) none) Set.univ (k0_part10 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v30 v54) Q) := by
  rw [k0_part10_eq_skeleton]; unfold k0_part10_skel
  simp only [Prog.lift, Prog.bind_op, Prog.bind_ret, Prog.pure_eq_ret]
  unfold ownX anyB
  iintro #HR HP F_1_1 HX ⟨%YS1_1_64, S1_1_64⟩ HO Hk
  iapply (wp_ws x K c (1, 1) (order.drop 9) sendSem_eq rfl) $$ HR F_1_1 HP; iintro ⟨H_1_1, HP⟩
  iapply (wp_wr x K c (1, 1) (order.drop 9) (by decide) (recvPay_1 x 1 c) recvSem_eq rfl) $$ HR H_1_1 HP; iintro ⟨G_1_1, V_1_1, HP⟩
  iapply (wp_load_rows 𝒱₀ none Set.univ (po 1 1 c + 64) 64 (off8_64 c) (Finset.subset_univ _)) $$ HX; iintro HX
  iapply (wp_load_slab 𝒱₀ none Set.univ 1 64 64 rfl (Finset.Subset.refl _)) $$ V_1_1; iintro V_1_1
  iapply (wp_load_slab 𝒱₀ none Set.univ 1 64 64 rfl (Finset.Subset.refl _)) $$ S1_1_64; iintro S1_1_64
  iapply (wp_store_slab 𝒱₀ none Set.univ 1 64 64 (sbuf x 1 1 c) rfl
    (by unfold k0_pay9; simp only [shapeCast_self]; exact step_both x 1 c 0 1 (h := 64) (by decide) _ _ _ _)) $$ S1_1_64; iintro S1_1_64
  ihave HO := (over_put x c (left_1 x 1 c)) $$ HO G_1_1 V_1_1
  rw [wp_ret]
  imodintro
  iapply Hk
  isplitl [HX]; · iexact HX
  isplitl [HP]; · iexact HP
  isplitl [S1_1_64]; · iexact S1_1_64
  iexact HO

theorem part11 (l : List Lane) (v27 v46 : BitVec 32) {Q : PUnit → sProp (MT nD τ sig Unit (Elt F) ℕ UU ℕ)} :
    recs x K ⊢ iprop(pend (order.drop 9) c
        -∗ heldB s1M 1 64 64 (sbuf x 1 1 c) c
        -∗ fly (0, 2) c
        -∗ ownX x c
        -∗ anyA outM (po 0 0 c) 128 c
        -∗ over x l c
        -∗ (ownX x c
            ∗ pend (order.drop 10) c
            ∗ over x ((0, 2) :: l) c
            ∗ fly (1, 4) c
            ∗ heldA outM (po 0 0 c) 64 fullShare (acc x 0 1 c) c
            ∗ heldA outM (po 0 0 c + 64) 64 fullShare (acc x 0 1 c) c -∗ Q ⟨⟩)
      -∗ wp frame (wpE (defs₀ (F := F)) 𝒱₀ (c : Thread nD τ) none) Set.univ (k0_part11 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v46) Q) := by
  rw [k0_part11_eq_skeleton]; unfold k0_part11_skel
  simp only [Prog.lift, Prog.bind_op, Prog.bind_ret, Prog.pure_eq_ret]
  unfold ownX anyA
  iintro #HR HP S1_1_64 F_0_2 HX ⟨%YO_0_0, O_0_0⟩ HO Hk
  iapply (wp_snd_ss x K c (1, 4) (order.drop 9) (order.drop 10) rfl 1 64 (dev14_eq c) sendSem_eq recvSem_eq rfl rfl rfl rfl rfl rfl
    (val_ss x 1 c 1 1 0 (po_nb1_0 1 c) (h := 64) (by decide))) $$ HR S1_1_64 HP
  iintro ⟨F_1_4, HP⟩
  iapply (wp_ws x K c (0, 2) (order.drop 10) sendSem_eq rfl) $$ HR F_0_2 HP; iintro ⟨H_0_2, HP⟩
  iapply (wp_wr x K c (0, 2) (order.drop 10) (by decide) (recvPay_2 x 0 c) recvSem_eq rfl) $$ HR H_0_2 HP; iintro ⟨G_0_2, V_0_2, HP⟩
  iapply (wp_load_rows 𝒱₀ none Set.univ (po 0 0 c) 128 (off9_eq c) (Finset.subset_univ _)) $$ HX; iintro HX
  iapply (wp_load_slab 𝒱₀ none Set.univ 0 0 128 rfl (Finset.Subset.refl _)) $$ V_0_2; iintro V_0_2
  iapply (wp_load_rows 𝒱₀ none Set.univ (po 0 0 c) 128 (off9_eq c) (Finset.Subset.refl _)) $$ O_0_0; iintro O_0_0
  iapply (wp_store_rows 𝒱₀ none Set.univ (po 0 0 c) 128 (acc x 0 1 c) (off9_eq c)
    (by unfold k0_pay10; simp only [shapeCast_self]; exact step_add x 0 c 0 0 (h := 0) (by decide) _ _)) $$ O_0_0; iintro O_0_0
  ihave HO := (over_put x c (left_2 x 0 c)) $$ HO G_0_2 V_0_2
  ihave O_0_0 := (own_rows_split (n := 64) (n' := 64)) $$ O_0_0; icases O_0_0 with ⟨O_0_0_0, O_0_0_64⟩
  rw [wp_ret]
  imodintro
  iapply Hk
  isplitl [HX]; · iexact HX
  isplitl [HP]; · iexact HP
  isplitl [HO]; · iexact HO
  isplitl [F_1_4]; · iexact F_1_4
  isplitl [O_0_0_0]; · iexact O_0_0_0
  iexact O_0_0_64

theorem part12 (l : List Lane) (v30 v56 : BitVec 32) {Q : PUnit → sProp (MT nD τ sig Unit (Elt F) ℕ UU ℕ)} :
    recs x K ⊢ iprop(pend (order.drop 10) c
        -∗ fly (1, 2) c
        -∗ ownX x c
        -∗ anyA outM (po 1 0 c) 128 c
        -∗ over x l c
        -∗ (ownX x c
            ∗ pend (order.drop 10) c
            ∗ over x ((1, 2) :: l) c
            ∗ heldA outM (po 1 0 c) 64 fullShare (acc x 1 1 c) c
            ∗ heldA outM (po 1 0 c + 64) 64 fullShare (acc x 1 1 c) c -∗ Q ⟨⟩)
      -∗ wp frame (wpE (defs₀ (F := F)) 𝒱₀ (c : Thread nD τ) none) Set.univ (k0_part12 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v30 v56) Q) := by
  rw [k0_part12_eq_skeleton]; unfold k0_part12_skel
  simp only [Prog.lift, Prog.bind_op, Prog.bind_ret, Prog.pure_eq_ret]
  unfold ownX anyA
  iintro #HR HP F_1_2 HX ⟨%YO_1_0, O_1_0⟩ HO Hk
  iapply (wp_ws x K c (1, 2) (order.drop 10) sendSem_eq rfl) $$ HR F_1_2 HP; iintro ⟨H_1_2, HP⟩
  iapply (wp_wr x K c (1, 2) (order.drop 10) (by decide) (recvPay_2 x 1 c) recvSem_eq rfl) $$ HR H_1_2 HP; iintro ⟨G_1_2, V_1_2, HP⟩
  iapply (wp_load_rows 𝒱₀ none Set.univ (po 1 0 c) 128 (off10_eq c) (Finset.subset_univ _)) $$ HX; iintro HX
  iapply (wp_load_slab 𝒱₀ none Set.univ 1 0 128 rfl (Finset.Subset.refl _)) $$ V_1_2; iintro V_1_2
  iapply (wp_load_rows 𝒱₀ none Set.univ (po 1 0 c) 128 (off10_eq c) (Finset.Subset.refl _)) $$ O_1_0; iintro O_1_0
  iapply (wp_store_rows 𝒱₀ none Set.univ (po 1 0 c) 128 (acc x 1 1 c) (off10_eq c)
    (by unfold k0_pay11; simp only [shapeCast_self]; exact step_add x 1 c 0 0 (h := 0) (by decide) _ _)) $$ O_1_0; iintro O_1_0
  ihave HO := (over_put x c (left_2 x 1 c)) $$ HO G_1_2 V_1_2
  ihave O_1_0 := (own_rows_split (n := 64) (n' := 64)) $$ O_1_0; icases O_1_0 with ⟨O_1_0_0, O_1_0_64⟩
  rw [wp_ret]
  imodintro
  iapply Hk
  isplitl [HX]; · iexact HX
  isplitl [HP]; · iexact HP
  isplitl [HO]; · iexact HO
  isplitl [O_1_0_0]; · iexact O_1_0_0
  iexact O_1_0_64

theorem part13 (l : List Lane) (v30 v33 v46 : BitVec 32) {Q : PUnit → sProp (MT nD τ sig Unit (Elt F) ℕ UU ℕ)} :
    recs x K ⊢ iprop(pend (order.drop 10) c
        -∗ fly (0, 3) c
        -∗ heldA outM (po 0 0 c) 64 fullShare (acc x 0 1 c) c
        -∗ anyB s2M 0 0 c
        -∗ over x l c
        -∗ (pend (order.drop 10) c
            ∗ heldB s2M 0 0 64 (sbuf x 0 2 c) c
            ∗ over x ((0, 3) :: l) c
            ∗ heldA outM (po 0 0 c) 64 fullShare (acc x 0 2 c) c -∗ Q ⟨⟩)
      -∗ wp frame (wpE (defs₀ (F := F)) 𝒱₀ (c : Thread nD τ) none) Set.univ (k0_part13 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v30 v33 v46) Q) := by
  rw [k0_part13_eq_skeleton]; unfold k0_part13_skel
  simp only [Prog.lift, Prog.bind_op, Prog.bind_ret, Prog.pure_eq_ret]
  unfold anyB
  iintro #HR HP F_0_3 O_0_0_0 ⟨%YS2_0_0, S2_0_0⟩ HO Hk
  iapply (wp_ws x K c (0, 3) (order.drop 10) sendSem_eq rfl) $$ HR F_0_3 HP; iintro ⟨H_0_3, HP⟩
  iapply (wp_wr x K c (0, 3) (order.drop 10) (by decide) (recvPay_3 x 0 c) recvSem_eq rfl) $$ HR H_0_3 HP; iintro ⟨G_0_3, V_0_3, HP⟩
  iapply (wp_load_rows 𝒱₀ none Set.univ (po 0 0 c) 64 (off11_0 c) (Finset.Subset.refl _)) $$ O_0_0_0; iintro O_0_0_0
  iapply (wp_load_slab 𝒱₀ none Set.univ 0 0 64 rfl (Finset.Subset.refl _)) $$ V_0_3; iintro V_0_3
  iapply (wp_load_rows 𝒱₀ none Set.univ (po 0 0 c) 64 (off11_0 c) (Finset.Subset.refl _)) $$ O_0_0_0; iintro O_0_0_0
  iapply (wp_store_rows 𝒱₀ none Set.univ (po 0 0 c) 64 (acc x 0 2 c) (off11_0 c)
    (by unfold k0_pay12; simp only [shapeCast_self]; exact step_add x 0 c 1 0 (h := 0) (by decide) _ _)) $$ O_0_0_0; iintro O_0_0_0
  iapply (wp_load_slab 𝒱₀ none Set.univ 0 0 64 rfl (Finset.Subset.refl _)) $$ S2_0_0; iintro S2_0_0
  iapply (wp_store_slab 𝒱₀ none Set.univ 0 0 64 (sbuf x 0 2 c) rfl
    (by unfold k0_pay13 k0_pay12; simp only [shapeCast_self]; exact step_both x 0 c 1 0 (h := 0) (by decide) _ _ _ _)) $$ S2_0_0; iintro S2_0_0
  ihave HO := (over_put x c (left_3 x 0 c)) $$ HO G_0_3 V_0_3
  rw [wp_ret]
  imodintro
  iapply Hk
  isplitl [HP]; · iexact HP
  isplitl [S2_0_0]; · iexact S2_0_0
  isplitl [HO]; · iexact HO
  iexact O_0_0_0

theorem part14 (v27 v56 : BitVec 32) {Q : FVec F S64x512 .f32 → sProp (MT nD τ sig Unit (Elt F) ℕ UU ℕ)} :
    recs x K ⊢ iprop(pend (order.drop 10) c
        -∗ heldB s2M 0 0 64 (sbuf x 0 2 c) c
        -∗ fly (1, 3) c
        -∗ heldA outM (po 1 0 c) 64 fullShare (acc x 1 1 c) c
        -∗ (pend (order.drop 11) c
            ∗ heldA outM (po 1 0 c) 64 fullShare (acc x 1 1 c) c
            ∗ fly (0, 5) c
            ∗ gone x (1, 3) c
            ∗ heldB r1M 1 0 64 (rbuf x 0 1 c) c -∗ Q (k0_pay14 (rowV (acc x 1 1 c) (po 1 0 c) 64)))
      -∗ wp frame (wpE (defs₀ (F := F)) 𝒱₀ (c : Thread nD τ) none) Set.univ (k0_part14 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v56) Q) := by
  rw [k0_part14_eq_skeleton]; unfold k0_part14_skel
  simp only [Prog.lift, Prog.bind_op, Prog.bind_ret, Prog.pure_eq_ret]
  iintro #HR HP S2_0_0 F_1_3 O_1_0_0 Hk
  iapply (wp_snd_ss x K c (0, 5) (order.drop 10) (order.drop 11) rfl 0 64 (dev15_eq c) sendSem_eq recvSem_eq rfl rfl rfl rfl rfl rfl
    (val_ss x 0 c 2 0 0 (po_nb2_0 0 c) (h := 0) (by decide))) $$ HR S2_0_0 HP
  iintro ⟨F_0_5, HP⟩
  iapply (wp_ws x K c (1, 3) (order.drop 11) sendSem_eq rfl) $$ HR F_1_3 HP; iintro ⟨H_1_3, HP⟩
  iapply (wp_wr x K c (1, 3) (order.drop 11) (by decide) (recvPay_3 x 1 c) recvSem_eq rfl) $$ HR H_1_3 HP; iintro ⟨G_1_3, V_1_3, HP⟩
  iapply (wp_load_rows 𝒱₀ none Set.univ (po 1 0 c) 64 (off12_0 c) (Finset.Subset.refl _)) $$ O_1_0_0; iintro O_1_0_0
  rw [wp_ret]
  imodintro
  iapply Hk
  isplitl [HP]; · iexact HP
  isplitl [O_1_0_0]; · iexact O_1_0_0
  isplitl [F_0_5]; · iexact F_0_5
  isplitl [G_1_3]; · iexact G_1_3
  iexact V_1_3

theorem part15 (l : List Lane) (v36 v56 : BitVec 32) {Q : PUnit → sProp (MT nD τ sig Unit (Elt F) ℕ UU ℕ)} :
    recs x K ⊢ iprop(heldB r1M 1 0 64 (rbuf x 0 1 c) c
        -∗ heldA outM (po 1 0 c) 64 fullShare (acc x 1 1 c) c
        -∗ anyB s2M 1 0 c
        -∗ over x l c
        -∗ gone x (1, 3) c
        -∗ pend (order.drop 11) c
        -∗ fly (0, 4) c
        -∗ (pend (order.drop 12) c
            ∗ over x ((1, 3) :: l) c
            ∗ heldA outM (po 1 0 c) 64 fullShare (acc x 1 2 c) c
            ∗ fly (1, 5) c
            ∗ half x (0, 4) c -∗ Q ⟨⟩)
      -∗ wp frame (wpE (defs₀ (F := F)) 𝒱₀ (c : Thread nD τ) none) Set.univ (k0_part15 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v36 v56 (k0_pay14 (rowV (acc x 1 1 c) (po 1 0 c) 64))) Q) := by
  rw [k0_part15_eq_skeleton]; unfold k0_part15_skel
  simp only [Prog.lift, Prog.bind_op, Prog.bind_ret, Prog.pure_eq_ret]
  unfold anyB
  iintro #HR V_1_3 O_1_0_0 ⟨%YS2_1_0, S2_1_0⟩ HO G_1_3 HP F_0_4 Hk
  iapply (wp_load_slab 𝒱₀ none Set.univ 1 0 64 rfl (Finset.Subset.refl _)) $$ V_1_3; iintro V_1_3
  iapply (wp_load_rows 𝒱₀ none Set.univ (po 1 0 c) 64 (off12_0 c) (Finset.Subset.refl _)) $$ O_1_0_0; iintro O_1_0_0
  iapply (wp_store_rows 𝒱₀ none Set.univ (po 1 0 c) 64 (acc x 1 2 c) (off12_0 c)
    (by unfold k0_pay15 k0_pay14; simp only [shapeCast_self]; exact step_add x 1 c 1 0 (h := 0) (by decide) _ _)) $$ O_1_0_0; iintro O_1_0_0
  iapply (wp_load_slab 𝒱₀ none Set.univ 1 0 64 rfl (Finset.Subset.refl _)) $$ S2_1_0; iintro S2_1_0
  iapply (wp_store_slab 𝒱₀ none Set.univ 1 0 64 (sbuf x 0 2 c) rfl
    (by unfold k0_pay16 k0_pay15 k0_pay14; simp only [shapeCast_self]; exact step_both x 1 c 1 0 (h := 0) (by decide) _ _ _ _)) $$ S2_1_0; iintro S2_1_0
  ihave HO := (over_put x c (left_3 x 1 c)) $$ HO G_1_3 V_1_3
  iapply (wp_snd_ss x K c (1, 5) (order.drop 11) (order.drop 12) rfl 1 64 (dev16_eq c) sendSem_eq recvSem_eq rfl rfl rfl rfl rfl rfl
    (val_ss x 1 c 2 0 0 (po_nb2_0 1 c) (h := 0) (by decide))) $$ HR S2_1_0 HP
  iintro ⟨F_1_5, HP⟩
  iapply (wp_ws x K c (0, 4) (order.drop 12) sendSem_eq rfl) $$ HR F_0_4 HP; iintro ⟨H_0_4, HP⟩
  rw [wp_ret]
  imodintro
  iapply Hk
  isplitl [HP]; · iexact HP
  isplitl [HO]; · iexact HO
  isplitl [O_1_0_0]; · iexact O_1_0_0
  isplitl [F_1_5]; · iexact F_1_5
  iexact H_0_4

theorem part16 (l : List Lane) (v30 v33 v46 : BitVec 32) {Q : PUnit → sProp (MT nD τ sig Unit (Elt F) ℕ UU ℕ)} :
    recs x K ⊢ iprop(pend (order.drop 12) c
        -∗ half x (0, 4) c
        -∗ heldA outM (po 0 0 c + 64) 64 fullShare (acc x 0 1 c) c
        -∗ anyB s2M 0 64 c
        -∗ over x l c
        -∗ (pend (order.drop 12) c
            ∗ heldB s2M 0 64 64 (sbuf x 0 2 c) c
            ∗ over x ((0, 4) :: l) c
            ∗ heldA outM (po 0 0 c + 64) 64 fullShare (acc x 0 2 c) c -∗ Q ⟨⟩)
      -∗ wp frame (wpE (defs₀ (F := F)) 𝒱₀ (c : Thread nD τ) none) Set.univ (k0_part16 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v30 v33 v46) Q) := by
  rw [k0_part16_eq_skeleton]; unfold k0_part16_skel
  simp only [Prog.lift, Prog.bind_op, Prog.bind_ret, Prog.pure_eq_ret]
  unfold anyB
  iintro #HR HP H_0_4 O_0_0_64 ⟨%YS2_0_64, S2_0_64⟩ HO Hk
  iapply (wp_wr x K c (0, 4) (order.drop 12) (by decide) (recvPay_4 x 0 c) recvSem_eq rfl) $$ HR H_0_4 HP; iintro ⟨G_0_4, V_0_4, HP⟩
  iapply (wp_load_rows 𝒱₀ none Set.univ (po 0 0 c + 64) 64 (off11_64 c) (Finset.Subset.refl _)) $$ O_0_0_64; iintro O_0_0_64
  iapply (wp_load_slab 𝒱₀ none Set.univ 0 64 64 rfl (Finset.Subset.refl _)) $$ V_0_4; iintro V_0_4
  iapply (wp_load_rows 𝒱₀ none Set.univ (po 0 0 c + 64) 64 (off11_64 c) (Finset.Subset.refl _)) $$ O_0_0_64; iintro O_0_0_64
  iapply (wp_store_rows 𝒱₀ none Set.univ (po 0 0 c + 64) 64 (acc x 0 2 c) (off11_64 c)
    (by unfold k0_pay17; simp only [shapeCast_self]; exact step_add x 0 c 1 0 (h := 64) (by decide) _ _)) $$ O_0_0_64; iintro O_0_0_64
  iapply (wp_load_slab 𝒱₀ none Set.univ 0 64 64 rfl (Finset.Subset.refl _)) $$ S2_0_64; iintro S2_0_64
  iapply (wp_store_slab 𝒱₀ none Set.univ 0 64 64 (sbuf x 0 2 c) rfl
    (by unfold k0_pay18 k0_pay17; simp only [shapeCast_self]; exact step_both x 0 c 1 0 (h := 64) (by decide) _ _ _ _)) $$ S2_0_64; iintro S2_0_64
  ihave HO := (over_put x c (left_4 x 0 c)) $$ HO G_0_4 V_0_4
  rw [wp_ret]
  imodintro
  iapply Hk
  isplitl [HP]; · iexact HP
  isplitl [S2_0_64]; · iexact S2_0_64
  isplitl [HO]; · iexact HO
  iexact O_0_0_64

theorem part17 (l : List Lane) (v27 v56 : BitVec 32) {Q : (Σ' (v468 : FVec F S64x512 .f32), FVec F S64x512 .bf16) → sProp (MT nD τ sig Unit (Elt F) ℕ UU ℕ)} :
    recs x K ⊢ iprop(pend (order.drop 12) c
        -∗ heldB s2M 0 64 64 (sbuf x 0 2 c) c
        -∗ fly (1, 4) c
        -∗ heldA outM (po 1 0 c + 64) 64 fullShare (acc x 1 1 c) c
        -∗ over x l c
        -∗ (pend (order.drop 13) c
            ∗ over x ((1, 4) :: l) c
            ∗ heldA outM (po 1 0 c + 64) 64 fullShare (acc x 1 1 c) c
            ∗ fly (0, 6) c -∗ Q ⟨(k0_pay19 (rowV (acc x 1 1 c) (po 1 0 c + 64) 64)), (k0_pay20 (slabV (rbuf x 0 1 c) 1 64 64))⟩)
      -∗ wp frame (wpE (defs₀ (F := F)) 𝒱₀ (c : Thread nD τ) none) Set.univ (k0_part17 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v56) Q) := by
  rw [k0_part17_eq_skeleton]; unfold k0_part17_skel
  simp only [Prog.lift, Prog.bind_op, Prog.bind_ret, Prog.pure_eq_ret]
  iintro #HR HP S2_0_64 F_1_4 O_1_0_64 HO Hk
  iapply (wp_snd_ss x K c (0, 6) (order.drop 12) (order.drop 13) rfl 0 64 (dev17_eq c) sendSem_eq recvSem_eq rfl rfl rfl rfl rfl rfl
    (val_ss x 0 c 2 0 0 (po_nb2_0 0 c) (h := 64) (by decide))) $$ HR S2_0_64 HP
  iintro ⟨F_0_6, HP⟩
  iapply (wp_ws x K c (1, 4) (order.drop 13) sendSem_eq rfl) $$ HR F_1_4 HP; iintro ⟨H_1_4, HP⟩
  iapply (wp_wr x K c (1, 4) (order.drop 13) (by decide) (recvPay_4 x 1 c) recvSem_eq rfl) $$ HR H_1_4 HP; iintro ⟨G_1_4, V_1_4, HP⟩
  iapply (wp_load_rows 𝒱₀ none Set.univ (po 1 0 c + 64) 64 (off12_64 c) (Finset.Subset.refl _)) $$ O_1_0_64; iintro O_1_0_64
  iapply (wp_load_slab 𝒱₀ none Set.univ 1 64 64 rfl (Finset.Subset.refl _)) $$ V_1_4; iintro V_1_4
  ihave HO := (over_put x c (left_4 x 1 c)) $$ HO G_1_4 V_1_4
  rw [wp_ret]
  imodintro
  iapply Hk
  isplitl [HP]; · iexact HP
  isplitl [HO]; · iexact HO
  isplitl [O_1_0_64]; · iexact O_1_0_64
  iexact F_0_6

theorem part18 (v36 v56 : BitVec 32) {Q : PUnit → sProp (MT nD τ sig Unit (Elt F) ℕ UU ℕ)} :
    recs x K ⊢ iprop(heldA outM (po 1 0 c + 64) 64 fullShare (acc x 1 1 c) c
        -∗ anyB s2M 1 64 c
        -∗ pend (order.drop 13) c
        -∗ fly (0, 5) c
        -∗ (pend (order.drop 14) c
            ∗ heldA outM (po 1 0 c + 64) 64 fullShare (acc x 1 2 c) c
            ∗ fly (1, 6) c
            ∗ half x (0, 5) c -∗ Q ⟨⟩)
      -∗ wp frame (wpE (defs₀ (F := F)) 𝒱₀ (c : Thread nD τ) none) Set.univ (k0_part18 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v36 v56 (k0_pay19 (rowV (acc x 1 1 c) (po 1 0 c + 64) 64)) (k0_pay20 (slabV (rbuf x 0 1 c) 1 64 64))) Q) := by
  rw [k0_part18_eq_skeleton]; unfold k0_part18_skel
  simp only [Prog.lift, Prog.bind_op, Prog.bind_ret, Prog.pure_eq_ret]
  unfold anyB
  iintro #HR O_1_0_64 ⟨%YS2_1_64, S2_1_64⟩ HP F_0_5 Hk
  iapply (wp_load_rows 𝒱₀ none Set.univ (po 1 0 c + 64) 64 (off12_64 c) (Finset.Subset.refl _)) $$ O_1_0_64; iintro O_1_0_64
  iapply (wp_store_rows 𝒱₀ none Set.univ (po 1 0 c + 64) 64 (acc x 1 2 c) (off12_64 c)
    (by unfold k0_pay21 k0_pay19 k0_pay20; simp only [shapeCast_self]; exact step_add x 1 c 1 0 (h := 64) (by decide) _ _)) $$ O_1_0_64; iintro O_1_0_64
  iapply (wp_load_slab 𝒱₀ none Set.univ 1 64 64 rfl (Finset.Subset.refl _)) $$ S2_1_64; iintro S2_1_64
  iapply (wp_store_slab 𝒱₀ none Set.univ 1 64 64 (sbuf x 0 2 c) rfl
    (by unfold k0_pay22 k0_pay21 k0_pay19 k0_pay20; simp only [shapeCast_self]; exact step_both x 1 c 1 0 (h := 64) (by decide) _ _ _ _)) $$ S2_1_64; iintro S2_1_64
  iapply (wp_snd_ss x K c (1, 6) (order.drop 13) (order.drop 14) rfl 1 64 (dev18_eq c) sendSem_eq recvSem_eq rfl rfl rfl rfl rfl rfl
    (val_ss x 1 c 2 0 0 (po_nb2_0 1 c) (h := 64) (by decide))) $$ HR S2_1_64 HP
  iintro ⟨F_1_6, HP⟩
  iapply (wp_ws x K c (0, 5) (order.drop 14) sendSem_eq rfl) $$ HR F_0_5 HP; iintro ⟨H_0_5, HP⟩
  rw [wp_ret]
  imodintro
  iapply Hk
  isplitl [HP]; · iexact HP
  isplitl [O_1_0_64]; · iexact O_1_0_64
  isplitl [F_1_6]; · iexact F_1_6
  iexact H_0_5

theorem part19 (l : List Lane) (v33 v36 v46 : BitVec 32) {Q : PUnit → sProp (MT nD τ sig Unit (Elt F) ℕ UU ℕ)} :
    recs x K ⊢ iprop(pend (order.drop 14) c
        -∗ half x (0, 5) c
        -∗ heldA outM (po 0 0 c) 64 fullShare (acc x 0 2 c) c
        -∗ anyB s3M 0 0 c
        -∗ over x l c
        -∗ (pend (order.drop 14) c
            ∗ heldB s3M 0 0 64 (sbuf x 0 3 c) c
            ∗ over x ((0, 5) :: l) c
            ∗ heldA outM (po 0 0 c) 64 fullShare (acc x 0 3 c) c -∗ Q ⟨⟩)
      -∗ wp frame (wpE (defs₀ (F := F)) 𝒱₀ (c : Thread nD τ) none) Set.univ (k0_part19 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v33 v36 v46) Q) := by
  rw [k0_part19_eq_skeleton]; unfold k0_part19_skel
  simp only [Prog.lift, Prog.bind_op, Prog.bind_ret, Prog.pure_eq_ret]
  unfold anyB
  iintro #HR HP H_0_5 O_0_0_0 ⟨%YS3_0_0, S3_0_0⟩ HO Hk
  iapply (wp_wr x K c (0, 5) (order.drop 14) (by decide) (recvPay_5 x 0 c) recvSem_eq rfl) $$ HR H_0_5 HP; iintro ⟨G_0_5, V_0_5, HP⟩
  iapply (wp_load_rows 𝒱₀ none Set.univ (po 0 0 c) 64 (off11_0 c) (Finset.Subset.refl _)) $$ O_0_0_0; iintro O_0_0_0
  iapply (wp_load_slab 𝒱₀ none Set.univ 0 0 64 rfl (Finset.Subset.refl _)) $$ V_0_5; iintro V_0_5
  iapply (wp_load_rows 𝒱₀ none Set.univ (po 0 0 c) 64 (off11_0 c) (Finset.Subset.refl _)) $$ O_0_0_0; iintro O_0_0_0
  iapply (wp_store_rows 𝒱₀ none Set.univ (po 0 0 c) 64 (acc x 0 3 c) (off11_0 c)
    (by unfold k0_pay23; simp only [shapeCast_self]; exact step_add x 0 c 2 0 (h := 0) (by decide) _ _)) $$ O_0_0_0; iintro O_0_0_0
  iapply (wp_load_slab 𝒱₀ none Set.univ 0 0 64 rfl (Finset.Subset.refl _)) $$ S3_0_0; iintro S3_0_0
  iapply (wp_store_slab 𝒱₀ none Set.univ 0 0 64 (sbuf x 0 3 c) rfl
    (by unfold k0_pay24 k0_pay23; simp only [shapeCast_self]; exact step_both x 0 c 2 0 (h := 0) (by decide) _ _ _ _)) $$ S3_0_0; iintro S3_0_0
  ihave HO := (over_put x c (left_5 x 0 c)) $$ HO G_0_5 V_0_5
  rw [wp_ret]
  imodintro
  iapply Hk
  isplitl [HP]; · iexact HP
  isplitl [S3_0_0]; · iexact S3_0_0
  isplitl [HO]; · iexact HO
  iexact O_0_0_0

theorem part20 (l : List Lane) (v36 v56 : BitVec 32) {Q : FVec F S64x512 .f32 → sProp (MT nD τ sig Unit (Elt F) ℕ UU ℕ)} :
    recs x K ⊢ iprop(pend (order.drop 14) c
        -∗ heldB s3M 0 0 64 (sbuf x 0 3 c) c
        -∗ fly (1, 5) c
        -∗ heldA outM (po 1 0 c) 64 fullShare (acc x 1 2 c) c
        -∗ over x l c
        -∗ (pend (order.drop 15) c
            ∗ over x ((1, 5) :: l) c
            ∗ heldA outM (po 1 0 c) 64 fullShare (acc x 1 2 c) c
            ∗ fly (0, 7) c -∗ Q (k0_pay25 (rowV (acc x 1 2 c) (po 1 0 c) 64) (slabV (rbuf x 0 2 c) 1 0 64)))
      -∗ wp frame (wpE (defs₀ (F := F)) 𝒱₀ (c : Thread nD τ) none) Set.univ (k0_part20 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v36 v56) Q) := by
  rw [k0_part20_eq_skeleton]; unfold k0_part20_skel
  simp only [Prog.lift, Prog.bind_op, Prog.bind_ret, Prog.pure_eq_ret]
  iintro #HR HP S3_0_0 F_1_5 O_1_0_0 HO Hk
  iapply (wp_snd_ss x K c (0, 7) (order.drop 14) (order.drop 15) rfl 0 64 (dev19_eq c) sendSem_eq recvSem_eq rfl rfl rfl rfl rfl rfl
    (val_ss x 0 c 3 0 0 (po_nb3_0 0 c) (h := 0) (by decide))) $$ HR S3_0_0 HP
  iintro ⟨F_0_7, HP⟩
  iapply (wp_ws x K c (1, 5) (order.drop 15) sendSem_eq rfl) $$ HR F_1_5 HP; iintro ⟨H_1_5, HP⟩
  iapply (wp_wr x K c (1, 5) (order.drop 15) (by decide) (recvPay_5 x 1 c) recvSem_eq rfl) $$ HR H_1_5 HP; iintro ⟨G_1_5, V_1_5, HP⟩
  iapply (wp_load_rows 𝒱₀ none Set.univ (po 1 0 c) 64 (off12_0 c) (Finset.Subset.refl _)) $$ O_1_0_0; iintro O_1_0_0
  iapply (wp_load_slab 𝒱₀ none Set.univ 1 0 64 rfl (Finset.Subset.refl _)) $$ V_1_5; iintro V_1_5
  ihave HO := (over_put x c (left_5 x 1 c)) $$ HO G_1_5 V_1_5
  rw [wp_ret]
  imodintro
  iapply Hk
  isplitl [HP]; · iexact HP
  isplitl [HO]; · iexact HO
  isplitl [O_1_0_0]; · iexact O_1_0_0
  iexact F_0_7

end Body

end Cert.KernelIdealProof

end
-- ==== Proof.KernelIdeal.BodyC.lean ====
/-
The body's parts from the third exchange on, with the gathering: what each part takes and gives back.
-/
module

public import proofs.«01_k».proof.Proof.KernelIdeal.BodyB

@[expose] public section

noncomputable section

namespace Cert.KernelIdealProof

open Cert.KernelIdeal Cert.KernelIdeal.Gen Cert.Own Cert.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body

variable (x : Dev nD → SA.Idx → F .f32) (K : Dev nD × CI → ℕ) (c : Dev nD)

theorem part21 (v33 v56 : BitVec 32) {Q : PUnit → sProp (MT nD τ sig Unit (Elt F) ℕ UU ℕ)} :
    recs x K ⊢ iprop(heldA outM (po 1 0 c) 64 fullShare (acc x 1 2 c) c
        -∗ anyB s3M 1 0 c
        -∗ pend (order.drop 15) c
        -∗ fly (0, 6) c
        -∗ (pend (order.drop 16) c
            ∗ heldA outM (po 1 0 c) 64 fullShare (acc x 1 3 c) c
            ∗ fly (1, 7) c
            ∗ half x (0, 6) c -∗ Q ⟨⟩)
      -∗ wp frame (wpE (defs₀ (F := F)) 𝒱₀ (c : Thread nD τ) none) Set.univ (k0_part21 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v33 v56 (k0_pay25 (rowV (acc x 1 2 c) (po 1 0 c) 64) (slabV (rbuf x 0 2 c) 1 0 64))) Q) := by
  rw [k0_part21_eq_skeleton]; unfold k0_part21_skel
  simp only [Prog.lift, Prog.bind_op, Prog.bind_ret, Prog.pure_eq_ret]
  unfold anyB
  iintro #HR O_1_0_0 ⟨%YS3_1_0, S3_1_0⟩ HP F_0_6 Hk
  iapply (wp_load_rows 𝒱₀ none Set.univ (po 1 0 c) 64 (off12_0 c) (Finset.Subset.refl _)) $$ O_1_0_0; iintro O_1_0_0
  iapply (wp_store_rows 𝒱₀ none Set.univ (po 1 0 c) 64 (acc x 1 3 c) (off12_0 c)
    (by unfold k0_pay25; simp only [shapeCast_self]; exact step_add x 1 c 2 0 (h := 0) (by decide) _ _)) $$ O_1_0_0; iintro O_1_0_0
  iapply (wp_load_slab 𝒱₀ none Set.univ 1 0 64 rfl (Finset.Subset.refl _)) $$ S3_1_0; iintro S3_1_0
  iapply (wp_store_slab 𝒱₀ none Set.univ 1 0 64 (sbuf x 0 3 c) rfl
    (by unfold k0_pay26 k0_pay25; simp only [shapeCast_self]; exact step_both x 1 c 2 0 (h := 0) (by decide) _ _ _ _)) $$ S3_1_0; iintro S3_1_0
  iapply (wp_snd_ss x K c (1, 7) (order.drop 15) (order.drop 16) rfl 1 64 (dev20_eq c) sendSem_eq recvSem_eq rfl rfl rfl rfl rfl rfl
    (val_ss x 1 c 3 0 0 (po_nb3_0 1 c) (h := 0) (by decide))) $$ HR S3_1_0 HP
  iintro ⟨F_1_7, HP⟩
  iapply (wp_ws x K c (0, 6) (order.drop 16) sendSem_eq rfl) $$ HR F_0_6 HP; iintro ⟨H_0_6, HP⟩
  rw [wp_ret]
  imodintro
  iapply Hk
  isplitl [HP]; · iexact HP
  isplitl [O_1_0_0]; · iexact O_1_0_0
  isplitl [F_1_7]; · iexact F_1_7
  iexact H_0_6

theorem part22 (l : List Lane) (v33 v36 v46 : BitVec 32) {Q : PUnit → sProp (MT nD τ sig Unit (Elt F) ℕ UU ℕ)} :
    recs x K ⊢ iprop(pend (order.drop 16) c
        -∗ half x (0, 6) c
        -∗ heldA outM (po 0 0 c + 64) 64 fullShare (acc x 0 2 c) c
        -∗ anyB s3M 0 64 c
        -∗ over x l c
        -∗ (pend (order.drop 16) c
            ∗ heldB s3M 0 64 64 (sbuf x 0 3 c) c
            ∗ over x ((0, 6) :: l) c
            ∗ heldA outM (po 0 0 c + 64) 64 fullShare (acc x 0 3 c) c -∗ Q ⟨⟩)
      -∗ wp frame (wpE (defs₀ (F := F)) 𝒱₀ (c : Thread nD τ) none) Set.univ (k0_part22 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v33 v36 v46) Q) := by
  rw [k0_part22_eq_skeleton]; unfold k0_part22_skel
  simp only [Prog.lift, Prog.bind_op, Prog.bind_ret, Prog.pure_eq_ret]
  unfold anyB
  iintro #HR HP H_0_6 O_0_0_64 ⟨%YS3_0_64, S3_0_64⟩ HO Hk
  iapply (wp_wr x K c (0, 6) (order.drop 16) (by decide) (recvPay_6 x 0 c) recvSem_eq rfl) $$ HR H_0_6 HP; iintro ⟨G_0_6, V_0_6, HP⟩
  iapply (wp_load_rows 𝒱₀ none Set.univ (po 0 0 c + 64) 64 (off11_64 c) (Finset.Subset.refl _)) $$ O_0_0_64; iintro O_0_0_64
  iapply (wp_load_slab 𝒱₀ none Set.univ 0 64 64 rfl (Finset.Subset.refl _)) $$ V_0_6; iintro V_0_6
  iapply (wp_load_rows 𝒱₀ none Set.univ (po 0 0 c + 64) 64 (off11_64 c) (Finset.Subset.refl _)) $$ O_0_0_64; iintro O_0_0_64
  iapply (wp_store_rows 𝒱₀ none Set.univ (po 0 0 c + 64) 64 (acc x 0 3 c) (off11_64 c)
    (by unfold k0_pay27; simp only [shapeCast_self]; exact step_add x 0 c 2 0 (h := 64) (by decide) _ _)) $$ O_0_0_64; iintro O_0_0_64
  iapply (wp_load_slab 𝒱₀ none Set.univ 0 64 64 rfl (Finset.Subset.refl _)) $$ S3_0_64; iintro S3_0_64
  iapply (wp_store_slab 𝒱₀ none Set.univ 0 64 64 (sbuf x 0 3 c) rfl
    (by unfold k0_pay28 k0_pay27; simp only [shapeCast_self]; exact step_both x 0 c 2 0 (h := 64) (by decide) _ _ _ _)) $$ S3_0_64; iintro S3_0_64
  ihave HO := (over_put x c (left_6 x 0 c)) $$ HO G_0_6 V_0_6
  rw [wp_ret]
  imodintro
  iapply Hk
  isplitl [HP]; · iexact HP
  isplitl [S3_0_64]; · iexact S3_0_64
  isplitl [HO]; · iexact HO
  iexact O_0_0_64

theorem part23 (l : List Lane) (v36 v56 : BitVec 32) {Q : (Σ' (v628 : FVec F S64x512 .f32), BitVec 32) → sProp (MT nD τ sig Unit (Elt F) ℕ UU ℕ)} :
    recs x K ⊢ iprop(pend (order.drop 16) c
        -∗ heldB s3M 0 64 64 (sbuf x 0 3 c) c
        -∗ fly (1, 6) c
        -∗ heldA outM (po 1 0 c + 64) 64 fullShare (acc x 1 2 c) c
        -∗ over x l c
        -∗ (∀ r, pend (order.drop 17) c
            ∗ over x ((1, 6) :: l) c
            ∗ heldA outM (po 1 0 c + 64) 64 fullShare (acc x 1 2 c) c
            ∗ fly (0, 8) c -∗ Q ⟨(k0_pay29 (rowV (acc x 1 2 c) (po 1 0 c + 64) 64) (slabV (rbuf x 0 2 c) 1 64 64)), r⟩)
      -∗ wp frame (wpE (defs₀ (F := F)) 𝒱₀ (c : Thread nD τ) none) Set.univ (k0_part23 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v36 v56) Q) := by
  rw [k0_part23_eq_skeleton]; unfold k0_part23_skel
  simp only [Prog.lift, Prog.bind_op, Prog.bind_ret, Prog.pure_eq_ret]
  iintro #HR HP S3_0_64 F_1_6 O_1_0_64 HO Hk
  iapply (wp_snd_ss x K c (0, 8) (order.drop 16) (order.drop 17) rfl 0 64 (dev21_eq c) sendSem_eq recvSem_eq rfl rfl rfl rfl rfl rfl
    (val_ss x 0 c 3 0 0 (po_nb3_0 0 c) (h := 64) (by decide))) $$ HR S3_0_64 HP
  iintro ⟨F_0_8, HP⟩
  iapply (wp_ws x K c (1, 6) (order.drop 17) sendSem_eq rfl) $$ HR F_1_6 HP; iintro ⟨H_1_6, HP⟩
  iapply (wp_wr x K c (1, 6) (order.drop 17) (by decide) (recvPay_6 x 1 c) recvSem_eq rfl) $$ HR H_1_6 HP; iintro ⟨G_1_6, V_1_6, HP⟩
  iapply (wp_load_rows 𝒱₀ none Set.univ (po 1 0 c + 64) 64 (off12_64 c) (Finset.Subset.refl _)) $$ O_1_0_64; iintro O_1_0_64
  iapply (wp_load_slab 𝒱₀ none Set.univ 1 64 64 rfl (Finset.Subset.refl _)) $$ V_1_6; iintro V_1_6
  ihave HO := (over_put x c (left_6 x 1 c)) $$ HO G_1_6 V_1_6
  rw [wp_ret]
  imodintro
  iapply Hk
  isplitl [HP]; · iexact HP
  isplitl [HO]; · iexact HO
  isplitl [O_1_0_64]; · iexact O_1_0_64
  iexact F_0_8

theorem part24 (v33 v629 : BitVec 32) {Q : BitVec 32 → sProp (MT nD τ sig Unit (Elt F) ℕ UU ℕ)} :
    recs x K ⊢ iprop(heldA outM (po 1 0 c + 64) 64 fullShare (acc x 1 2 c) c
        -∗ anyB s3M 1 64 c
        -∗ pend (order.drop 17) c
        -∗ fly (1, 7) c
        -∗ (∀ r, pend (order.drop 18) c
            ∗ heldA outM (po 1 0 c + 64) 64 fullShare (acc x 1 3 c) c
            ∗ fly (1, 8) c
            ∗ half x (1, 7) c -∗ Q r)
      -∗ wp frame (wpE (defs₀ (F := F)) 𝒱₀ (c : Thread nD τ) none) Set.univ (k0_part24 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v33 (k0_pay29 (rowV (acc x 1 2 c) (po 1 0 c + 64) 64) (slabV (rbuf x 0 2 c) 1 64 64)) v629) Q) := by
  rw [k0_part24_eq_skeleton]; unfold k0_part24_skel
  simp only [Prog.lift, Prog.bind_op, Prog.bind_ret, Prog.pure_eq_ret]
  unfold anyB
  iintro #HR O_1_0_64 ⟨%YS3_1_64, S3_1_64⟩ HP F_1_7 Hk
  iapply (wp_load_rows 𝒱₀ none Set.univ (po 1 0 c + 64) 64 (off12_64 c) (Finset.Subset.refl _)) $$ O_1_0_64; iintro O_1_0_64
  iapply (wp_store_rows 𝒱₀ none Set.univ (po 1 0 c + 64) 64 (acc x 1 3 c) (off12_64 c)
    (by unfold k0_pay29; simp only [shapeCast_self]; exact step_add x 1 c 2 0 (h := 64) (by decide) _ _)) $$ O_1_0_64; iintro O_1_0_64
  iapply (wp_load_slab 𝒱₀ none Set.univ 1 64 64 rfl (Finset.Subset.refl _)) $$ S3_1_64; iintro S3_1_64
  iapply (wp_store_slab 𝒱₀ none Set.univ 1 64 64 (sbuf x 0 3 c) rfl
    (by unfold k0_pay30 k0_pay29; simp only [shapeCast_self]; exact step_both x 1 c 2 0 (h := 64) (by decide) _ _ _ _)) $$ S3_1_64; iintro S3_1_64
  iapply (wp_snd_ss x K c (1, 8) (order.drop 17) (order.drop 18) rfl 1 64 (dev22_eq c) sendSem_eq recvSem_eq rfl rfl rfl rfl rfl rfl
    (val_ss x 1 c 3 0 0 (po_nb3_0 1 c) (h := 64) (by decide))) $$ HR S3_1_64 HP
  iintro ⟨F_1_8, HP⟩
  iapply (wp_ws x K c (1, 7) (order.drop 18) sendSem_eq rfl) $$ HR F_1_7 HP; iintro ⟨H_1_7, HP⟩
  rw [wp_ret]
  imodintro
  iapply Hk
  isplitl [HP]; · iexact HP
  isplitl [O_1_0_64]; · iexact O_1_0_64
  isplitl [F_1_8]; · iexact F_1_8
  iexact H_1_7

theorem part25 (l : List Lane) (v27 v33 v56 : BitVec 32) {Q : PUnit → sProp (MT nD τ sig Unit (Elt F) ℕ UU ℕ)} :
    recs x K ⊢ iprop(pend (order.drop 18) c
        -∗ half x (1, 7) c
        -∗ heldA outM (po 1 0 c) 64 fullShare (acc x 1 3 c) c
        -∗ anyA agM (po 1 0 c) 64 c
        -∗ over x l c
        -∗ (pend (order.drop 18) c
            ∗ over x ((1, 7) :: l) c
            ∗ heldA outM (po 1 0 c) 64 fullShare (acc x 1 4 c) c
            ∗ heldA agM (po 1 0 c) 64 lsh (gat x 1 0 c) c
            ∗ heldA agM (po 1 0 c) 64 rsh (gat x 1 0 c) c -∗ Q ⟨⟩)
      -∗ wp frame (wpE (defs₀ (F := F)) 𝒱₀ (c : Thread nD τ) none) Set.univ (k0_part25 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v33 v56 c25) Q) := by
  rw [k0_part25_eq_skeleton]; unfold k0_part25_skel
  simp only [Prog.lift, Prog.bind_op, Prog.bind_ret, Prog.pure_eq_ret]
  unfold anyA
  iintro #HR HP H_1_7 O_1_0_0 ⟨%YA_1_0, A_1_0⟩ HO Hk
  iapply (wp_wr x K c (1, 7) (order.drop 18) (by decide) (recvPay_7 x 1 c) recvSem_eq rfl) $$ HR H_1_7 HP; iintro ⟨G_1_7, V_1_7, HP⟩
  iapply (wp_load_rows 𝒱₀ none Set.univ (po 1 0 c) 64 (off12_0 c) (Finset.Subset.refl _)) $$ O_1_0_0; iintro O_1_0_0
  iapply (wp_load_slab 𝒱₀ none Set.univ 1 0 64 rfl (Finset.Subset.refl _)) $$ V_1_7; iintro V_1_7
  iapply (wp_load_rows 𝒱₀ none Set.univ (po 1 0 c) 64 (off12_0 c) (Finset.Subset.refl _)) $$ O_1_0_0; iintro O_1_0_0
  iapply (wp_store_rows 𝒱₀ none Set.univ (po 1 0 c) 64 (acc x 1 4 c) (off12_0 c)
    (by unfold k0_pay31; simp only [shapeCast_self]; exact step_add x 1 c 3 0 (h := 0) (by decide) _ _)) $$ O_1_0_0; iintro O_1_0_0
  iapply (wp_load_rows 𝒱₀ none Set.univ (po 1 0 c) 64 (off12_0 c) (Finset.Subset.refl _)) $$ A_1_0; iintro A_1_0
  iapply (wp_store_rows 𝒱₀ none Set.univ (po 1 0 c) 64 (gat x 1 0 c) (off12_0 c)
    (by unfold k0_pay32 k0_pay31; simp only [shapeCast_self]; exact congrArg (fun z => truncf .bf16 z bitsLt_bf16_f32) (step_add x 1 c 3 0 (h := 0) (by decide) _ _))) $$ A_1_0; iintro A_1_0
  ihave A_1_0 := (own_share (PosShare.mem_left_op_right fullShare)) $$ A_1_0; icases A_1_0 with ⟨AL_1_0, AR_1_0⟩
  ihave HO := (over_put x c (left_7 x 1 c)) $$ HO G_1_7 V_1_7
  rw [wp_ret]
  imodintro
  iapply Hk
  isplitl [HP]; · iexact HP
  isplitl [HO]; · iexact HO
  isplitl [O_1_0_0]; · iexact O_1_0_0
  isplitl [AL_1_0]; · iexact AL_1_0
  iexact AR_1_0

theorem part26 (v30 v36 v56 : BitVec 32) {Q : PUnit → sProp (MT nD τ sig Unit (Elt F) ℕ UU ℕ)} :
    recs x K ⊢ iprop(pend (order.drop 18) c
        -∗ heldA agM (po 1 0 c) 64 lsh (gat x 1 0 c) c
        -∗ heldA agM (po 1 0 c) 64 rsh (gat x 1 0 c) c
        -∗ fly (0, 7) c
        -∗ (pend (order.drop 20) c
            ∗ fly (1, 9) c
            ∗ fly (1, 11) c
            ∗ half x (0, 7) c -∗ Q ⟨⟩)
      -∗ wp frame (wpE (defs₀ (F := F)) 𝒱₀ (c : Thread nD τ) none) Set.univ (k0_part26 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v30 v36 v56) Q) := by
  rw [k0_part26_eq_skeleton]; unfold k0_part26_skel
  simp only [Prog.lift, Prog.bind_op, Prog.bind_ret, Prog.pure_eq_ret]
  iintro #HR HP AL_1_0 AR_1_0 F_0_7 Hk
  iapply (wp_snd_ag x K c (1, 9) (order.drop 18) (order.drop 19) rfl 1 0 1 (pp_9 1 c) (pw_9 1 c) (dev23_eq c) sendSem_eq recvSem_eq (off13_0 c)
    (credN_9 1) (sendPay_9 x 1 c) (dst_9 1 _) (recvPay_9 x 1 _)) $$ HR AL_1_0 HP
  iintro ⟨F_1_9, HP⟩
  iapply (wp_snd_ag x K c (1, 11) (order.drop 19) (order.drop 20) rfl 1 0 2 (pp_11 1 c) (pw_11 1 c) (dev24_eq c) sendSem_eq recvSem_eq (off13_0 c)
    (credN_11 1) (sendPay_11 x 1 c) (dst_11 1 _) (recvPay_11 x 1 _)) $$ HR AR_1_0 HP
  iintro ⟨F_1_11, HP⟩
  iapply (wp_ws x K c (0, 7) (order.drop 20) sendSem_eq rfl) $$ HR F_0_7 HP; iintro ⟨H_0_7, HP⟩
  rw [wp_ret]
  imodintro
  iapply Hk
  isplitl [HP]; · iexact HP
  isplitl [F_1_9]; · iexact F_1_9
  isplitl [F_1_11]; · iexact F_1_11
  iexact H_0_7

theorem part27 (l : List Lane) (v30 v46 : BitVec 32) {Q : PUnit → sProp (MT nD τ sig Unit (Elt F) ℕ UU ℕ)} :
    recs x K ⊢ iprop(pend (order.drop 20) c
        -∗ half x (0, 7) c
        -∗ heldA outM (po 0 0 c) 64 fullShare (acc x 0 3 c) c
        -∗ anyA agM (po 0 0 c) 64 c
        -∗ over x l c
        -∗ (pend (order.drop 21) c
            ∗ over x ((0, 7) :: l) c
            ∗ heldA outM (po 0 0 c) 64 fullShare (acc x 0 4 c) c
            ∗ heldA agM (po 0 0 c) 64 rsh (gat x 0 0 c) c
            ∗ fly (0, 9) c -∗ Q ⟨⟩)
      -∗ wp frame (wpE (defs₀ (F := F)) 𝒱₀ (c : Thread nD τ) none) Set.univ (k0_part27 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v30 v46) Q) := by
  rw [k0_part27_eq_skeleton]; unfold k0_part27_skel
  simp only [Prog.lift, Prog.bind_op, Prog.bind_ret, Prog.pure_eq_ret]
  unfold anyA
  iintro #HR HP H_0_7 O_0_0_0 ⟨%YA_0_0, A_0_0⟩ HO Hk
  iapply (wp_wr x K c (0, 7) (order.drop 20) (by decide) (recvPay_7 x 0 c) recvSem_eq rfl) $$ HR H_0_7 HP; iintro ⟨G_0_7, V_0_7, HP⟩
  iapply (wp_load_rows 𝒱₀ none Set.univ (po 0 0 c) 64 (off11_0 c) (Finset.Subset.refl _)) $$ O_0_0_0; iintro O_0_0_0
  iapply (wp_load_slab 𝒱₀ none Set.univ 0 0 64 rfl (Finset.Subset.refl _)) $$ V_0_7; iintro V_0_7
  iapply (wp_load_rows 𝒱₀ none Set.univ (po 0 0 c) 64 (off11_0 c) (Finset.Subset.refl _)) $$ O_0_0_0; iintro O_0_0_0
  iapply (wp_store_rows 𝒱₀ none Set.univ (po 0 0 c) 64 (acc x 0 4 c) (off11_0 c)
    (by unfold k0_pay33; simp only [shapeCast_self]; exact step_add x 0 c 3 0 (h := 0) (by decide) _ _)) $$ O_0_0_0; iintro O_0_0_0
  iapply (wp_load_rows 𝒱₀ none Set.univ (po 0 0 c) 64 (off11_0 c) (Finset.Subset.refl _)) $$ A_0_0; iintro A_0_0
  iapply (wp_store_rows 𝒱₀ none Set.univ (po 0 0 c) 64 (gat x 0 0 c) (off11_0 c)
    (by unfold k0_pay34 k0_pay33; simp only [shapeCast_self]; exact congrArg (fun z => truncf .bf16 z bitsLt_bf16_f32) (step_add x 0 c 3 0 (h := 0) (by decide) _ _))) $$ A_0_0; iintro A_0_0
  ihave A_0_0 := (own_share (PosShare.mem_left_op_right fullShare)) $$ A_0_0; icases A_0_0 with ⟨AL_0_0, AR_0_0⟩
  ihave HO := (over_put x c (left_7 x 0 c)) $$ HO G_0_7 V_0_7
  iapply (wp_snd_ag x K c (0, 9) (order.drop 20) (order.drop 21) rfl 0 0 1 (pp_9 0 c) (pw_9 0 c) (dev25_eq c) sendSem_eq recvSem_eq (off14_0 c)
    (credN_9 0) (sendPay_9 x 0 c) (dst_9 0 _) (recvPay_9 x 0 _)) $$ HR AL_0_0 HP
  iintro ⟨F_0_9, HP⟩
  rw [wp_ret]
  imodintro
  iapply Hk
  isplitl [HP]; · iexact HP
  isplitl [HO]; · iexact HO
  isplitl [O_0_0_0]; · iexact O_0_0_0
  isplitl [AR_0_0]; · iexact AR_0_0
  iexact F_0_9

theorem part28 (v27 v33 v56 : BitVec 32) {Q : FVec F S64x512 .f32 → sProp (MT nD τ sig Unit (Elt F) ℕ UU ℕ)} :
    recs x K ⊢ iprop(pend (order.drop 21) c
        -∗ heldA agM (po 0 0 c) 64 rsh (gat x 0 0 c) c
        -∗ fly (1, 8) c
        -∗ heldA outM (po 1 0 c + 64) 64 fullShare (acc x 1 3 c) c
        -∗ (pend (order.drop 22) c
            ∗ heldA outM (po 1 0 c + 64) 64 fullShare (acc x 1 3 c) c
            ∗ fly (0, 11) c
            ∗ gone x (1, 8) c
            ∗ heldB r3M 1 64 64 (rbuf x 0 3 c) c -∗ Q (k0_pay35 (rowV (acc x 1 3 c) (po 1 0 c + 64) 64)))
      -∗ wp frame (wpE (defs₀ (F := F)) 𝒱₀ (c : Thread nD τ) none) Set.univ (k0_part28 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v33 v56) Q) := by
  rw [k0_part28_eq_skeleton]; unfold k0_part28_skel
  simp only [Prog.lift, Prog.bind_op, Prog.bind_ret, Prog.pure_eq_ret]
  iintro #HR HP AR_0_0 F_1_8 O_1_0_64 Hk
  iapply (wp_snd_ag x K c (0, 11) (order.drop 21) (order.drop 22) rfl 0 0 2 (pp_11 0 c) (pw_11 0 c) (dev26_eq c) sendSem_eq recvSem_eq (off14_0 c)
    (credN_11 0) (sendPay_11 x 0 c) (dst_11 0 _) (recvPay_11 x 0 _)) $$ HR AR_0_0 HP
  iintro ⟨F_0_11, HP⟩
  iapply (wp_ws x K c (1, 8) (order.drop 22) sendSem_eq rfl) $$ HR F_1_8 HP; iintro ⟨H_1_8, HP⟩
  iapply (wp_wr x K c (1, 8) (order.drop 22) (by decide) (recvPay_8 x 1 c) recvSem_eq rfl) $$ HR H_1_8 HP; iintro ⟨G_1_8, V_1_8, HP⟩
  iapply (wp_load_rows 𝒱₀ none Set.univ (po 1 0 c + 64) 64 (off12_64 c) (Finset.Subset.refl _)) $$ O_1_0_64; iintro O_1_0_64
  rw [wp_ret]
  imodintro
  iapply Hk
  isplitl [HP]; · iexact HP
  isplitl [O_1_0_64]; · iexact O_1_0_64
  isplitl [F_0_11]; · iexact F_0_11
  isplitl [G_1_8]; · iexact G_1_8
  iexact V_1_8

theorem part29 (l : List Lane) (v27 v30 v56 : BitVec 32) {Q : PUnit → sProp (MT nD τ sig Unit (Elt F) ℕ UU ℕ)} :
    recs x K ⊢ iprop(heldB r3M 1 64 64 (rbuf x 0 3 c) c
        -∗ heldA outM (po 1 0 c + 64) 64 fullShare (acc x 1 3 c) c
        -∗ anyA agM (po 1 0 c + 64) 64 c
        -∗ over x l c
        -∗ gone x (1, 8) c
        -∗ pend (order.drop 22) c
        -∗ (pend (order.drop 23) c
            ∗ over x ((1, 8) :: l) c
            ∗ heldA outM (po 1 0 c + 64) 64 fullShare (acc x 1 4 c) c
            ∗ heldA agM (po 1 0 c + 64) 64 rsh (gat x 1 0 c) c
            ∗ fly (1, 10) c -∗ Q ⟨⟩)
      -∗ wp frame (wpE (defs₀ (F := F)) 𝒱₀ (c : Thread nD τ) none) Set.univ (k0_part29 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v30 v56 (k0_pay35 (rowV (acc x 1 3 c) (po 1 0 c + 64) 64))) Q) := by
  rw [k0_part29_eq_skeleton]; unfold k0_part29_skel
  simp only [Prog.lift, Prog.bind_op, Prog.bind_ret, Prog.pure_eq_ret]
  unfold anyA
  iintro #HR V_1_8 O_1_0_64 ⟨%YA_1_64, A_1_64⟩ HO G_1_8 HP Hk
  iapply (wp_load_slab 𝒱₀ none Set.univ 1 64 64 rfl (Finset.Subset.refl _)) $$ V_1_8; iintro V_1_8
  iapply (wp_load_rows 𝒱₀ none Set.univ (po 1 0 c + 64) 64 (off12_64 c) (Finset.Subset.refl _)) $$ O_1_0_64; iintro O_1_0_64
  iapply (wp_store_rows 𝒱₀ none Set.univ (po 1 0 c + 64) 64 (acc x 1 4 c) (off12_64 c)
    (by unfold k0_pay36 k0_pay35; simp only [shapeCast_self]; exact step_add x 1 c 3 0 (h := 64) (by decide) _ _)) $$ O_1_0_64; iintro O_1_0_64
  iapply (wp_load_rows 𝒱₀ none Set.univ (po 1 0 c + 64) 64 (off12_64 c) (Finset.Subset.refl _)) $$ A_1_64; iintro A_1_64
  iapply (wp_store_rows 𝒱₀ none Set.univ (po 1 0 c + 64) 64 (gat x 1 0 c) (off12_64 c)
    (by unfold k0_pay37 k0_pay36 k0_pay35; simp only [shapeCast_self]; exact congrArg (fun z => truncf .bf16 z bitsLt_bf16_f32) (step_add x 1 c 3 0 (h := 64) (by decide) _ _))) $$ A_1_64; iintro A_1_64
  ihave A_1_64 := (own_share (PosShare.mem_left_op_right fullShare)) $$ A_1_64; icases A_1_64 with ⟨AL_1_64, AR_1_64⟩
  ihave HO := (over_put x c (left_8 x 1 c)) $$ HO G_1_8 V_1_8
  iapply (wp_snd_ag x K c (1, 10) (order.drop 22) (order.drop 23) rfl 1 0 1 (pp_10 1 c) (pw_10 1 c) (dev27_eq c) sendSem_eq recvSem_eq (off13_64 c)
    (credN_10 1) (sendPay_10 x 1 c) (dst_10 1 _) (recvPay_10 x 1 _)) $$ HR AL_1_64 HP
  iintro ⟨F_1_10, HP⟩
  rw [wp_ret]
  imodintro
  iapply Hk
  isplitl [HP]; · iexact HP
  isplitl [HO]; · iexact HO
  isplitl [O_1_0_64]; · iexact O_1_0_64
  isplitl [AR_1_64]; · iexact AR_1_64
  iexact F_1_10

theorem part30 (l : List Lane) (v36 v46 : BitVec 32) {Q : FVec F S64x512 .f32 → sProp (MT nD τ sig Unit (Elt F) ℕ UU ℕ)} :
    recs x K ⊢ iprop(pend (order.drop 23) c
        -∗ heldA agM (po 1 0 c + 64) 64 rsh (gat x 1 0 c) c
        -∗ fly (0, 8) c
        -∗ heldA outM (po 0 0 c + 64) 64 fullShare (acc x 0 3 c) c
        -∗ over x l c
        -∗ (pend (order.drop 24) c
            ∗ over x ((0, 8) :: l) c
            ∗ heldA outM (po 0 0 c + 64) 64 fullShare (acc x 0 4 c) c
            ∗ fly (1, 12) c -∗ Q (k0_pay38 (rowV (acc x 0 3 c) (po 0 0 c + 64) 64) (slabV (rbuf x 0 3 c) 0 64 64)))
      -∗ wp frame (wpE (defs₀ (F := F)) 𝒱₀ (c : Thread nD τ) none) Set.univ (k0_part30 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v36 v46) Q) := by
  rw [k0_part30_eq_skeleton]; unfold k0_part30_skel
  simp only [Prog.lift, Prog.bind_op, Prog.bind_ret, Prog.pure_eq_ret]
  iintro #HR HP AR_1_64 F_0_8 O_0_0_64 HO Hk
  iapply (wp_snd_ag x K c (1, 12) (order.drop 23) (order.drop 24) rfl 1 0 2 (pp_12 1 c) (pw_12 1 c) (dev28_eq c) sendSem_eq recvSem_eq (off13_64 c)
    (credN_12 1) (sendPay_12 x 1 c) (dst_12 1 _) (recvPay_12 x 1 _)) $$ HR AR_1_64 HP
  iintro ⟨F_1_12, HP⟩
  iapply (wp_ws x K c (0, 8) (order.drop 24) sendSem_eq rfl) $$ HR F_0_8 HP; iintro ⟨H_0_8, HP⟩
  iapply (wp_wr x K c (0, 8) (order.drop 24) (by decide) (recvPay_8 x 0 c) recvSem_eq rfl) $$ HR H_0_8 HP; iintro ⟨G_0_8, V_0_8, HP⟩
  iapply (wp_load_rows 𝒱₀ none Set.univ (po 0 0 c + 64) 64 (off11_64 c) (Finset.Subset.refl _)) $$ O_0_0_64; iintro O_0_0_64
  iapply (wp_load_slab 𝒱₀ none Set.univ 0 64 64 rfl (Finset.Subset.refl _)) $$ V_0_8; iintro V_0_8
  iapply (wp_load_rows 𝒱₀ none Set.univ (po 0 0 c + 64) 64 (off11_64 c) (Finset.Subset.refl _)) $$ O_0_0_64; iintro O_0_0_64
  iapply (wp_store_rows 𝒱₀ none Set.univ (po 0 0 c + 64) 64 (acc x 0 4 c) (off11_64 c)
    (by unfold k0_pay38; simp only [shapeCast_self]; exact step_add x 0 c 3 0 (h := 64) (by decide) _ _)) $$ O_0_0_64; iintro O_0_0_64
  ihave HO := (over_put x c (left_8 x 0 c)) $$ HO G_0_8 V_0_8
  rw [wp_ret]
  imodintro
  iapply Hk
  isplitl [HP]; · iexact HP
  isplitl [HO]; · iexact HO
  isplitl [O_0_0_64]; · iexact O_0_0_64
  iexact F_1_12

theorem part31 (v27 v30 v46 : BitVec 32) {Q : PUnit → sProp (MT nD τ sig Unit (Elt F) ℕ UU ℕ)} :
    recs x K ⊢ iprop(anyA agM (po 0 0 c + 64) 64 c
        -∗ pend (order.drop 24) c
        -∗ (pend (order.drop 26) c
            ∗ fly (0, 10) c
            ∗ fly (0, 12) c -∗ Q ⟨⟩)
      -∗ wp frame (wpE (defs₀ (F := F)) 𝒱₀ (c : Thread nD τ) none) Set.univ (k0_part31 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v30 v46 (k0_pay38 (rowV (acc x 0 3 c) (po 0 0 c + 64) 64) (slabV (rbuf x 0 3 c) 0 64 64))) Q) := by
  rw [k0_part31_eq_skeleton]; unfold k0_part31_skel
  simp only [Prog.lift, Prog.bind_op, Prog.bind_ret, Prog.pure_eq_ret]
  unfold anyA
  iintro #HR ⟨%YA_0_64, A_0_64⟩ HP Hk
  iapply (wp_load_rows 𝒱₀ none Set.univ (po 0 0 c + 64) 64 (off11_64 c) (Finset.Subset.refl _)) $$ A_0_64; iintro A_0_64
  iapply (wp_store_rows 𝒱₀ none Set.univ (po 0 0 c + 64) 64 (gat x 0 0 c) (off11_64 c)
    (by unfold k0_pay39 k0_pay38; simp only [shapeCast_self]; exact congrArg (fun z => truncf .bf16 z bitsLt_bf16_f32) (step_add x 0 c 3 0 (h := 64) (by decide) _ _))) $$ A_0_64; iintro A_0_64
  ihave A_0_64 := (own_share (PosShare.mem_left_op_right fullShare)) $$ A_0_64; icases A_0_64 with ⟨AL_0_64, AR_0_64⟩
  iapply (wp_snd_ag x K c (0, 10) (order.drop 24) (order.drop 25) rfl 0 0 1 (pp_10 0 c) (pw_10 0 c) (dev29_eq c) sendSem_eq recvSem_eq (off14_64 c)
    (credN_10 0) (sendPay_10 x 0 c) (dst_10 0 _) (recvPay_10 x 0 _)) $$ HR AL_0_64 HP
  iintro ⟨F_0_10, HP⟩
  iapply (wp_snd_ag x K c (0, 12) (order.drop 25) (order.drop 26) rfl 0 0 2 (pp_12 0 c) (pw_12 0 c) (dev30_eq c) sendSem_eq recvSem_eq (off14_64 c)
    (credN_12 0) (sendPay_12 x 0 c) (dst_12 0 _) (recvPay_12 x 0 _)) $$ HR AR_0_64 HP
  iintro ⟨F_0_12, HP⟩
  rw [wp_ret]
  imodintro
  iapply Hk
  isplitl [HP]; · iexact HP
  isplitl [F_0_10]; · iexact F_0_10
  iexact F_0_12

theorem part32 (v27 v30 v54 : BitVec 32) {Q : PUnit → sProp (MT nD τ sig Unit (Elt F) ℕ UU ℕ)} :
    recs x K ⊢ iprop(pend (order.drop 26) c
        -∗ fly (1, 9) c
        -∗ fly (0, 9) c
        -∗ (pend (order.drop 27) c
            ∗ gone x (1, 9) c
            ∗ heldA agM (po 1 1 c) 64 rsh (gat x 1 1 c) c
            ∗ fly (1, 13) c
            ∗ half x (0, 9) c -∗ Q ⟨⟩)
      -∗ wp frame (wpE (defs₀ (F := F)) 𝒱₀ (c : Thread nD τ) none) Set.univ (k0_part32 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v30 v54) Q) := by
  rw [k0_part32_eq_skeleton]; unfold k0_part32_skel
  simp only [Prog.lift, Prog.bind_op, Prog.bind_ret, Prog.pure_eq_ret]
  iintro #HR HP F_1_9 F_0_9 Hk
  iapply (wp_ws x K c (1, 9) (order.drop 26) sendSem_eq (credN_9 1)) $$ HR F_1_9 HP; iintro ⟨H_1_9, HP⟩
  iapply (wp_wr x K c (1, 9) (order.drop 26) (by decide) (recvPay_9 x 1 c) recvSem_eq (credN_9 1)) $$ HR H_1_9 HP; iintro ⟨G_1_9, V_1_9, HP⟩
  ihave V_1_9 := (own_share (PosShare.mem_left_op_right fullShare)) $$ V_1_9; icases V_1_9 with ⟨VL_1_9, VR_1_9⟩
  iapply (wp_snd_ag x K c (1, 13) (order.drop 26) (order.drop 27) rfl 1 1 3 (pp_13 1 c) (pw_13 1 c) (dev31_eq c) sendSem_eq recvSem_eq (off15_0 c)
    (credN_13 1) (sendPay_13 x 1 c) (dst_13 1 _) (recvPay_13 x 1 _)) $$ HR VL_1_9 HP
  iintro ⟨F_1_13, HP⟩
  iapply (wp_ws x K c (0, 9) (order.drop 27) sendSem_eq (credN_9 0)) $$ HR F_0_9 HP; iintro ⟨H_0_9, HP⟩
  rw [wp_ret]
  imodintro
  iapply Hk
  isplitl [HP]; · iexact HP
  isplitl [G_1_9]; · iexact G_1_9
  isplitl [VR_1_9]; · iexact VR_1_9
  isplitl [F_1_13]; · iexact F_1_13
  iexact H_0_9

theorem part33 (v27 v30 v44 v54 : BitVec 32) {Q : PUnit → sProp (MT nD τ sig Unit (Elt F) ℕ UU ℕ)} :
    recs x K ⊢ iprop(pend (order.drop 27) c
        -∗ half x (0, 9) c
        -∗ fly (1, 10) c
        -∗ (pend (order.drop 28) c
            ∗ gone x (0, 9) c
            ∗ heldA agM (po 0 1 c) 64 rsh (gat x 0 1 c) c
            ∗ fly (0, 13) c
            ∗ gone x (1, 10) c
            ∗ heldA agM (po 1 1 c + 64) 64 lsh (gat x 1 1 c) c
            ∗ heldA agM (po 1 1 c + 64) 64 rsh (gat x 1 1 c) c -∗ Q ⟨⟩)
      -∗ wp frame (wpE (defs₀ (F := F)) 𝒱₀ (c : Thread nD τ) none) Set.univ (k0_part33 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v30 v44 v54) Q) := by
  rw [k0_part33_eq_skeleton]; unfold k0_part33_skel
  simp only [Prog.lift, Prog.bind_op, Prog.bind_ret, Prog.pure_eq_ret]
  iintro #HR HP H_0_9 F_1_10 Hk
  iapply (wp_wr x K c (0, 9) (order.drop 27) (by decide) (recvPay_9 x 0 c) recvSem_eq (credN_9 0)) $$ HR H_0_9 HP; iintro ⟨G_0_9, V_0_9, HP⟩
  ihave V_0_9 := (own_share (PosShare.mem_left_op_right fullShare)) $$ V_0_9; icases V_0_9 with ⟨VL_0_9, VR_0_9⟩
  iapply (wp_snd_ag x K c (0, 13) (order.drop 27) (order.drop 28) rfl 0 1 3 (pp_13 0 c) (pw_13 0 c) (dev32_eq c) sendSem_eq recvSem_eq (off16_0 c)
    (credN_13 0) (sendPay_13 x 0 c) (dst_13 0 _) (recvPay_13 x 0 _)) $$ HR VL_0_9 HP
  iintro ⟨F_0_13, HP⟩
  iapply (wp_ws x K c (1, 10) (order.drop 28) sendSem_eq (credN_10 1)) $$ HR F_1_10 HP; iintro ⟨H_1_10, HP⟩
  iapply (wp_wr x K c (1, 10) (order.drop 28) (by decide) (recvPay_10 x 1 c) recvSem_eq (credN_10 1)) $$ HR H_1_10 HP; iintro ⟨G_1_10, V_1_10, HP⟩
  ihave V_1_10 := (own_share (PosShare.mem_left_op_right fullShare)) $$ V_1_10; icases V_1_10 with ⟨VL_1_10, VR_1_10⟩
  rw [wp_ret]
  imodintro
  iapply Hk
  isplitl [HP]; · iexact HP
  isplitl [G_0_9]; · iexact G_0_9
  isplitl [VR_0_9]; · iexact VR_0_9
  isplitl [F_0_13]; · iexact F_0_13
  isplitl [G_1_10]; · iexact G_1_10
  isplitl [VL_1_10]; · iexact VL_1_10
  iexact VR_1_10

theorem part34 (l : List Lane) (v27 v30 v44 : BitVec 32) {Q : FVec F S128x512 .f32 → sProp (MT nD τ sig Unit (Elt F) ℕ UU ℕ)} :
    recs x K ⊢ iprop(pend (order.drop 28) c
        -∗ heldA agM (po 1 1 c + 64) 64 lsh (gat x 1 1 c) c
        -∗ fly (0, 10) c
        -∗ heldA agM (po 0 1 c) 64 rsh (gat x 0 1 c) c
        -∗ over x l c
        -∗ gone x (0, 9) c
        -∗ (pend [] c
            ∗ over x ((0, 10) :: (0, 9) :: l) c
            ∗ fly (1, 14) c
            ∗ fly (0, 14) c -∗ Q (k0_pay40 (rowV (gat x 0 1 c) (po 0 1 c) 128)))
      -∗ wp frame (wpE (defs₀ (F := F)) 𝒱₀ (c : Thread nD τ) none) Set.univ (k0_part34 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v27 v30 v44) Q) := by
  rw [k0_part34_eq_skeleton]; unfold k0_part34_skel
  simp only [Prog.lift, Prog.bind_op, Prog.bind_ret, Prog.pure_eq_ret]
  iintro #HR HP VL_1_10 F_0_10 VR_0_9 HO G_0_9 Hk
  iapply (wp_snd_ag x K c (1, 14) (order.drop 28) (order.drop 29) rfl 1 1 3 (pp_14 1 c) (pw_14 1 c) (dev33_eq c) sendSem_eq recvSem_eq (off15_64 c)
    (credN_14 1) (sendPay_14 x 1 c) (dst_14 1 _) (recvPay_14 x 1 _)) $$ HR VL_1_10 HP
  iintro ⟨F_1_14, HP⟩
  iapply (wp_ws x K c (0, 10) (order.drop 29) sendSem_eq (credN_10 0)) $$ HR F_0_10 HP; iintro ⟨H_0_10, HP⟩
  iapply (wp_wr x K c (0, 10) (order.drop 29) (by decide) (recvPay_10 x 0 c) recvSem_eq (credN_10 0)) $$ HR H_0_10 HP; iintro ⟨G_0_10, V_0_10, HP⟩
  ihave V_0_10 := (own_share (PosShare.mem_left_op_right fullShare)) $$ V_0_10; icases V_0_10 with ⟨VL_0_10, VR_0_10⟩
  iapply (wp_snd_ag x K c (0, 14) (order.drop 29) [] rfl 0 1 3 (pp_14 0 c) (pw_14 0 c) (dev34_eq c) sendSem_eq recvSem_eq (off16_64 c)
    (credN_14 0) (sendPay_14 x 0 c) (dst_14 0 _) (recvPay_14 x 0 _)) $$ HR VL_0_10 HP
  iintro ⟨F_0_14, HP⟩
  ihave VR := (own_rows_join (o := po 0 1 c) (n := 64) (n' := 64)) $$ [VR_0_9 VR_0_10]
  · isplitl [VR_0_9]; · iexact VR_0_9
    iexact VR_0_10
  iapply (wp_load_rows 𝒱₀ none Set.univ (po 0 1 c) 128 (off17_eq c) (Finset.Subset.refl _)) $$ VR; iintro VR
  ihave VR := (own_rows_split (n := 64) (n' := 64)) $$ VR; icases VR with ⟨VR_0_9, VR_0_10⟩
  ihave HO := (over_put x c (left_9 x 0 c)) $$ HO G_0_9 VR_0_9
  ihave HO := (over_put x c (left_10 x 0 c)) $$ HO G_0_10 VR_0_10
  rw [wp_ret]
  imodintro
  iapply Hk
  isplitl [HP]; · iexact HP
  isplitl [HO]; · iexact HO
  isplitl [F_1_14]; · iexact F_1_14
  iexact F_0_14

theorem part35 (l : List Lane) (v24 v27 v39 v54 : BitVec 32) {Q : PUnit → sProp (MT nD τ sig Unit (Elt F) ℕ UU ℕ)} :
    recs x K ⊢ iprop(anyA outM (po 0 1 c) 128 c
        -∗ heldA agM (po 1 1 c) 64 rsh (gat x 1 1 c) c
        -∗ heldA agM (po 1 1 c + 64) 64 rsh (gat x 1 1 c) c
        -∗ over x l c
        -∗ gone x (1, 9) c
        -∗ gone x (1, 10) c
        -∗ anyA outM (po 1 1 c) 128 c
        -∗ pend [] c
        -∗ fly (0, 11) c
        -∗ anyA outM (po 0 2 c) 64 c
        -∗ (pend [] c
            ∗ heldA outM (po 0 1 c) 128 fullShare (fin x 0 1 c) c
            ∗ heldA outM (po 0 2 c) 64 fullShare (fin x 0 2 c) c
            ∗ heldA outM (po 1 1 c) 128 fullShare (fin x 1 1 c) c
            ∗ over x ((0, 11) :: (1, 10) :: (1, 9) :: l) c -∗ Q ⟨⟩)
      -∗ wp frame (wpE (defs₀ (F := F)) 𝒱₀ (c : Thread nD τ) none) Set.univ (k0_part35 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v24 v27 v39 v54 (k0_pay40 (rowV (gat x 0 1 c) (po 0 1 c) 128))) Q) := by
  rw [k0_part35_eq_skeleton]; unfold k0_part35_skel
  simp only [Prog.lift, Prog.bind_op, Prog.bind_ret, Prog.pure_eq_ret]
  unfold anyA
  iintro #HR ⟨%YO_0_1, O_0_1⟩ VR_1_9 VR_1_10 HO G_1_9 G_1_10 ⟨%YO_1_1, O_1_1⟩ HP F_0_11 ⟨%YO_0_2_0, O_0_2_0⟩ Hk
  iapply (wp_load_rows 𝒱₀ none Set.univ (po 0 1 c) 128 (off17_eq c) (Finset.Subset.refl _)) $$ O_0_1; iintro O_0_1
  iapply (wp_store_rows 𝒱₀ none Set.univ (po 0 1 c) 128 (fin x 0 1 c) (off17_eq c)
    (by unfold k0_pay40; simp only [shapeCast_self]; exact ext_band x 0 1 (by decide) c _ _ _)) $$ O_0_1; iintro O_0_1
  ihave VR := (own_rows_join (o := po 1 1 c) (n := 64) (n' := 64)) $$ [VR_1_9 VR_1_10]
  · isplitl [VR_1_9]; · iexact VR_1_9
    iexact VR_1_10
  iapply (wp_load_rows 𝒱₀ none Set.univ (po 1 1 c) 128 (off18_eq c) (Finset.Subset.refl _)) $$ VR; iintro VR
  ihave VR := (own_rows_split (n := 64) (n' := 64)) $$ VR; icases VR with ⟨VR_1_9, VR_1_10⟩
  ihave HO := (over_put x c (left_9 x 1 c)) $$ HO G_1_9 VR_1_9
  ihave HO := (over_put x c (left_10 x 1 c)) $$ HO G_1_10 VR_1_10
  iapply (wp_load_rows 𝒱₀ none Set.univ (po 1 1 c) 128 (off18_eq c) (Finset.Subset.refl _)) $$ O_1_1; iintro O_1_1
  iapply (wp_store_rows 𝒱₀ none Set.univ (po 1 1 c) 128 (fin x 1 1 c) (off18_eq c)
    (by unfold k0_pay41; simp only [shapeCast_self]; exact ext_band x 1 1 (by decide) c _ _ _)) $$ O_1_1; iintro O_1_1
  iapply (wp_ws x K c (0, 11) [] sendSem_eq (credN_11 0)) $$ HR F_0_11 HP; iintro ⟨H_0_11, HP⟩
  iapply (wp_wr x K c (0, 11) [] (by decide) (recvPay_11 x 0 c) recvSem_eq (credN_11 0)) $$ HR H_0_11 HP; iintro ⟨G_0_11, V_0_11, HP⟩
  iapply (wp_load_rows 𝒱₀ none Set.univ (po 0 2 c) 64 (off19_0 c) (Finset.Subset.refl _)) $$ V_0_11; iintro V_0_11
  iapply (wp_load_rows 𝒱₀ none Set.univ (po 0 2 c) 64 (off19_0 c) (Finset.Subset.refl _)) $$ O_0_2_0; iintro O_0_2_0
  iapply (wp_store_rows 𝒱₀ none Set.univ (po 0 2 c) 64 (fin x 0 2 c) (off19_0 c)
    (by unfold k0_pay42; simp only [shapeCast_self]; exact ext_band x 0 2 (by decide) c _ _ _)) $$ O_0_2_0; iintro O_0_2_0
  ihave HO := (over_put x c (left_11 x 0 c)) $$ HO G_0_11 V_0_11
  rw [wp_ret]
  imodintro
  iapply Hk
  isplitl [HP]; · iexact HP
  isplitl [O_0_1]; · iexact O_0_1
  isplitl [O_0_2_0]; · iexact O_0_2_0
  isplitl [O_1_1]; · iexact O_1_1
  iexact HO

theorem part36 (l : List Lane) (v23 v24 v27 v30 v49 : BitVec 32) {Q : BitVec 32 → sProp (MT nD τ sig Unit (Elt F) ℕ UU ℕ)} :
    recs x K ⊢ iprop(pend [] c
        -∗ fly (1, 11) c
        -∗ anyA outM (po 1 2 c) 64 c
        -∗ over x l c
        -∗ fly (0, 12) c
        -∗ (∀ r, pend [] c
            ∗ heldA outM (po 1 2 c) 64 fullShare (fin x 1 2 c) c
            ∗ over x ((1, 11) :: l) c
            ∗ gone x (0, 12) c
            ∗ heldA agM (po 0 2 c + 64) 64 fullShare (gat x 0 2 c) c -∗ Q r)
      -∗ wp frame (wpE (defs₀ (F := F)) 𝒱₀ (c : Thread nD τ) none) Set.univ (k0_part36 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v23 v24 v27 v30 v49) Q) := by
  rw [k0_part36_eq_skeleton]; unfold k0_part36_skel
  simp only [Prog.lift, Prog.bind_op, Prog.bind_ret, Prog.pure_eq_ret]
  unfold anyA
  iintro #HR HP F_1_11 ⟨%YO_1_2_0, O_1_2_0⟩ HO F_0_12 Hk
  iapply (wp_ws x K c (1, 11) [] sendSem_eq (credN_11 1)) $$ HR F_1_11 HP; iintro ⟨H_1_11, HP⟩
  iapply (wp_wr x K c (1, 11) [] (by decide) (recvPay_11 x 1 c) recvSem_eq (credN_11 1)) $$ HR H_1_11 HP; iintro ⟨G_1_11, V_1_11, HP⟩
  iapply (wp_load_rows 𝒱₀ none Set.univ (po 1 2 c) 64 (off20_0 c) (Finset.Subset.refl _)) $$ V_1_11; iintro V_1_11
  iapply (wp_load_rows 𝒱₀ none Set.univ (po 1 2 c) 64 (off20_0 c) (Finset.Subset.refl _)) $$ O_1_2_0; iintro O_1_2_0
  iapply (wp_store_rows 𝒱₀ none Set.univ (po 1 2 c) 64 (fin x 1 2 c) (off20_0 c)
    (by unfold k0_pay43; simp only [shapeCast_self]; exact ext_band x 1 2 (by decide) c _ _ _)) $$ O_1_2_0; iintro O_1_2_0
  ihave HO := (over_put x c (left_11 x 1 c)) $$ HO G_1_11 V_1_11
  iapply (wp_ws x K c (0, 12) [] sendSem_eq (credN_12 0)) $$ HR F_0_12 HP; iintro ⟨H_0_12, HP⟩
  iapply (wp_wr x K c (0, 12) [] (by decide) (recvPay_12 x 0 c) recvSem_eq (credN_12 0)) $$ HR H_0_12 HP; iintro ⟨G_0_12, V_0_12, HP⟩
  rw [wp_ret]
  imodintro
  iapply Hk
  isplitl [HP]; · iexact HP
  isplitl [O_1_2_0]; · iexact O_1_2_0
  isplitl [HO]; · iexact HO
  isplitl [G_0_12]; · iexact G_0_12
  iexact V_0_12

theorem part37 (l : List Lane) (v23 v30 v39 v49 v982 : BitVec 32) {Q : PUnit → sProp (MT nD τ sig Unit (Elt F) ℕ UU ℕ)} :
    recs x K ⊢ iprop(heldA agM (po 0 2 c + 64) 64 fullShare (gat x 0 2 c) c
        -∗ anyA outM (po 0 2 c + 64) 64 c
        -∗ over x l c
        -∗ gone x (0, 12) c
        -∗ pend [] c
        -∗ fly (1, 12) c
        -∗ anyA outM (po 1 2 c + 64) 64 c
        -∗ (pend [] c
            ∗ heldA outM (po 0 2 c + 64) 64 fullShare (fin x 0 2 c) c
            ∗ heldA outM (po 1 2 c + 64) 64 fullShare (fin x 1 2 c) c
            ∗ over x ((1, 12) :: (0, 12) :: l) c -∗ Q ⟨⟩)
      -∗ wp frame (wpE (defs₀ (F := F)) 𝒱₀ (c : Thread nD τ) none) Set.univ (k0_part37 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v23 v30 v39 v49 v982) Q) := by
  rw [k0_part37_eq_skeleton]; unfold k0_part37_skel
  simp only [Prog.lift, Prog.bind_op, Prog.bind_ret, Prog.pure_eq_ret]
  unfold anyA
  iintro #HR V_0_12 ⟨%YO_0_2_64, O_0_2_64⟩ HO G_0_12 HP F_1_12 ⟨%YO_1_2_64, O_1_2_64⟩ Hk
  iapply (wp_load_rows 𝒱₀ none Set.univ (po 0 2 c + 64) 64 (off19_64 c) (Finset.Subset.refl _)) $$ V_0_12; iintro V_0_12
  iapply (wp_load_rows 𝒱₀ none Set.univ (po 0 2 c + 64) 64 (off19_64 c) (Finset.Subset.refl _)) $$ O_0_2_64; iintro O_0_2_64
  iapply (wp_store_rows 𝒱₀ none Set.univ (po 0 2 c + 64) 64 (fin x 0 2 c) (off19_64 c)
    (by unfold k0_pay44; simp only [shapeCast_self]; exact ext_band x 0 2 (by decide) c _ _ _)) $$ O_0_2_64; iintro O_0_2_64
  ihave HO := (over_put x c (left_12 x 0 c)) $$ HO G_0_12 V_0_12
  iapply (wp_ws x K c (1, 12) [] sendSem_eq (credN_12 1)) $$ HR F_1_12 HP; iintro ⟨H_1_12, HP⟩
  iapply (wp_wr x K c (1, 12) [] (by decide) (recvPay_12 x 1 c) recvSem_eq (credN_12 1)) $$ HR H_1_12 HP; iintro ⟨G_1_12, V_1_12, HP⟩
  iapply (wp_load_rows 𝒱₀ none Set.univ (po 1 2 c + 64) 64 (off20_64 c) (Finset.Subset.refl _)) $$ V_1_12; iintro V_1_12
  iapply (wp_load_rows 𝒱₀ none Set.univ (po 1 2 c + 64) 64 (off20_64 c) (Finset.Subset.refl _)) $$ O_1_2_64; iintro O_1_2_64
  iapply (wp_store_rows 𝒱₀ none Set.univ (po 1 2 c + 64) 64 (fin x 1 2 c) (off20_64 c)
    (by unfold k0_pay45; simp only [shapeCast_self]; exact ext_band x 1 2 (by decide) c _ _ _)) $$ O_1_2_64; iintro O_1_2_64
  ihave HO := (over_put x c (left_12 x 1 c)) $$ HO G_1_12 V_1_12
  rw [wp_ret]
  imodintro
  iapply Hk
  isplitl [HP]; · iexact HP
  isplitl [O_0_2_64]; · iexact O_0_2_64
  isplitl [O_1_2_64]; · iexact O_1_2_64
  iexact HO

theorem part38 (l : List Lane) (v24 v27 v30 v39 : BitVec 32) {Q : PUnit → sProp (MT nD τ sig Unit (Elt F) ℕ UU ℕ)} :
    recs x K ⊢ iprop(pend [] c
        -∗ fly (0, 13) c
        -∗ anyA outM (po 0 3 c) 64 c
        -∗ over x l c
        -∗ fly (1, 13) c
        -∗ (pend [] c
            ∗ heldA outM (po 0 3 c) 64 fullShare (fin x 0 3 c) c
            ∗ over x ((0, 13) :: l) c
            ∗ gone x (1, 13) c
            ∗ heldA agM (po 1 3 c) 64 fullShare (gat x 1 3 c) c -∗ Q ⟨⟩)
      -∗ wp frame (wpE (defs₀ (F := F)) 𝒱₀ (c : Thread nD τ) none) Set.univ (k0_part38 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v24 v27 v30 v39) Q) := by
  rw [k0_part38_eq_skeleton]; unfold k0_part38_skel
  simp only [Prog.lift, Prog.bind_op, Prog.bind_ret, Prog.pure_eq_ret]
  unfold anyA
  iintro #HR HP F_0_13 ⟨%YO_0_3_0, O_0_3_0⟩ HO F_1_13 Hk
  iapply (wp_ws x K c (0, 13) [] sendSem_eq (credN_13 0)) $$ HR F_0_13 HP; iintro ⟨H_0_13, HP⟩
  iapply (wp_wr x K c (0, 13) [] (by decide) (recvPay_13 x 0 c) recvSem_eq (credN_13 0)) $$ HR H_0_13 HP; iintro ⟨G_0_13, V_0_13, HP⟩
  iapply (wp_load_rows 𝒱₀ none Set.univ (po 0 3 c) 64 (off21_0 c) (Finset.Subset.refl _)) $$ V_0_13; iintro V_0_13
  iapply (wp_load_rows 𝒱₀ none Set.univ (po 0 3 c) 64 (off21_0 c) (Finset.Subset.refl _)) $$ O_0_3_0; iintro O_0_3_0
  iapply (wp_store_rows 𝒱₀ none Set.univ (po 0 3 c) 64 (fin x 0 3 c) (off21_0 c)
    (by unfold k0_pay46; simp only [shapeCast_self]; exact ext_band x 0 3 (by decide) c _ _ _)) $$ O_0_3_0; iintro O_0_3_0
  ihave HO := (over_put x c (left_13 x 0 c)) $$ HO G_0_13 V_0_13
  iapply (wp_ws x K c (1, 13) [] sendSem_eq (credN_13 1)) $$ HR F_1_13 HP; iintro ⟨H_1_13, HP⟩
  iapply (wp_wr x K c (1, 13) [] (by decide) (recvPay_13 x 1 c) recvSem_eq (credN_13 1)) $$ HR H_1_13 HP; iintro ⟨G_1_13, V_1_13, HP⟩
  rw [wp_ret]
  imodintro
  iapply Hk
  isplitl [HP]; · iexact HP
  isplitl [O_0_3_0]; · iexact O_0_3_0
  isplitl [HO]; · iexact HO
  isplitl [G_1_13]; · iexact G_1_13
  iexact V_1_13

theorem part39 (l : List Lane) (v23 v24 v27 v39 v49 : BitVec 32) {Q : PUnit → sProp (MT nD τ sig Unit (Elt F) ℕ UU ℕ)} :
    recs x K ⊢ iprop(heldA agM (po 1 3 c) 64 fullShare (gat x 1 3 c) c
        -∗ anyA outM (po 1 3 c) 64 c
        -∗ over x l c
        -∗ gone x (1, 13) c
        -∗ pend [] c
        -∗ fly (0, 14) c
        -∗ anyA outM (po 0 3 c + 64) 64 c
        -∗ (pend [] c
            ∗ heldA outM (po 0 3 c + 64) 64 fullShare (fin x 0 3 c) c
            ∗ heldA outM (po 1 3 c) 64 fullShare (fin x 1 3 c) c
            ∗ over x ((0, 14) :: (1, 13) :: l) c -∗ Q ⟨⟩)
      -∗ wp frame (wpE (defs₀ (F := F)) 𝒱₀ (c : Thread nD τ) none) Set.univ (k0_part39 xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 c v23 v24 v27 v39 v49) Q) := by
  rw [k0_part39_eq_skeleton]; unfold k0_part39_skel
  simp only [Prog.lift, Prog.bind_op, Prog.bind_ret, Prog.pure_eq_ret]
  unfold anyA
  iintro #HR V_1_13 ⟨%YO_1_3_0, O_1_3_0⟩ HO G_1_13 HP F_0_14 ⟨%YO_0_3_64, O_0_3_64⟩ Hk
  iapply (wp_load_rows 𝒱₀ none Set.univ (po 1 3 c) 64 (off22_0 c) (Finset.Subset.refl _)) $$ V_1_13; iintro V_1_13
  iapply (wp_load_rows 𝒱₀ none Set.univ (po 1 3 c) 64 (off22_0 c) (Finset.Subset.refl _)) $$ O_1_3_0; iintro O_1_3_0
  iapply (wp_store_rows 𝒱₀ none Set.univ (po 1 3 c) 64 (fin x 1 3 c) (off22_0 c)
    (by unfold k0_pay47; simp only [shapeCast_self]; exact ext_band x 1 3 (by decide) c _ _ _)) $$ O_1_3_0; iintro O_1_3_0
  ihave HO := (over_put x c (left_13 x 1 c)) $$ HO G_1_13 V_1_13
  iapply (wp_ws x K c (0, 14) [] sendSem_eq (credN_14 0)) $$ HR F_0_14 HP; iintro ⟨H_0_14, HP⟩
  iapply (wp_wr x K c (0, 14) [] (by decide) (recvPay_14 x 0 c) recvSem_eq (credN_14 0)) $$ HR H_0_14 HP; iintro ⟨G_0_14, V_0_14, HP⟩
  iapply (wp_load_rows 𝒱₀ none Set.univ (po 0 3 c + 64) 64 (off21_64 c) (Finset.Subset.refl _)) $$ V_0_14; iintro V_0_14
  iapply (wp_load_rows 𝒱₀ none Set.univ (po 0 3 c + 64) 64 (off21_64 c) (Finset.Subset.refl _)) $$ O_0_3_64; iintro O_0_3_64
  iapply (wp_store_rows 𝒱₀ none Set.univ (po 0 3 c + 64) 64 (fin x 0 3 c) (off21_64 c)
    (by unfold k0_pay48; simp only [shapeCast_self]; exact ext_band x 0 3 (by decide) c _ _ _)) $$ O_0_3_64; iintro O_0_3_64
  ihave HO := (over_put x c (left_14 x 0 c)) $$ HO G_0_14 V_0_14
  rw [wp_ret]
  imodintro
  iapply Hk
  isplitl [HP]; · iexact HP
  isplitl [O_0_3_64]; · iexact O_0_3_64
  isplitl [O_1_3_0]; · iexact O_1_3_0
  iexact HO

end Body

end Cert.KernelIdealProof

end
-- ==== Proof.KernelIdeal.BodyD.lean ====
/-
The body: its parts one after another.
-/
module

public import proofs.«01_k».proof.Proof.KernelIdeal.BodyC

@[expose] public section

noncomputable section

namespace Cert.KernelIdealProof

open Cert.KernelIdeal Cert.KernelIdeal.Gen Cert.Own Cert.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The lanes, the last used first. -/
def lanes : List Lane :=
  [(1, 14), (0, 14), (1, 13), (0, 13), (1, 12), (0, 12), (1, 11), (0, 11), (1, 10), (1, 9), (0, 10), (0, 9), (0, 8), (1, 8), (0, 7), (1, 7), (1, 6), (0, 6), (1, 5), (0, 5), (1, 4), (0, 4), (1, 3), (0, 3), (1, 2), (0, 2), (1, 1), (0, 1), (1, 0), (0, 0)]

section Body

variable (x : Dev nD → SA.Idx → F .f32) (K : Dev nD × CI → ℕ) (c : Dev nD)

set_option maxHeartbeats 4000000 in
/-- The body from the places it uses to what it leaves: the argument unchanged, the result's bands at their values, and every
    lane used up with what its ends gave back. -/
theorem body_parts {Q : PUnit → sProp (MT nD τ sig Unit (Elt F) ℕ UU ℕ)} :
    recs x K ⊢ iprop(dutyTok ER (barCell (nb 0 c)) 0 0
        -∗ barPay (F := F) 0 c
        -∗ dutyTok ER (barCell (nb 1 c)) 0 1
        -∗ barPay (F := F) 1 c
        -∗ dutyTok ER (barCell (nb 2 c)) 0 2
        -∗ barPay (F := F) 2 c
        -∗ dutyTok ER (barCell (nb 3 c)) 0 3
        -∗ barPay (F := F) 3 c
        -∗ owe c (debt c order + debtB c [0, 1, 2, 3])
        -∗ ownX x c
        -∗ anyA xbM (so 0 c) 256 c
        -∗ anyA xbM (so 1 c) 256 c
        -∗ cred (tallyAt (barCell c) () 4)
        -∗ atPos ER (barCell c) 0 ∅ 0
        -∗ (bigSep Finset.univ fun j : Lane => idle (F := F) j c)
        -∗ anyB s1M 0 0 c
        -∗ anyB s1M 0 64 c
        -∗ anyB s1M 1 0 c
        -∗ anyB s1M 1 64 c
        -∗ anyB s2M 0 0 c
        -∗ anyB s2M 0 64 c
        -∗ anyB s2M 1 0 c
        -∗ anyB s2M 1 64 c
        -∗ anyB s3M 0 0 c
        -∗ anyB s3M 0 64 c
        -∗ anyB s3M 1 0 c
        -∗ anyB s3M 1 64 c
        -∗ anyA outM (po 0 0 c) 128 c
        -∗ anyA outM (po 0 1 c) 128 c
        -∗ anyA outM (po 0 2 c) 64 c
        -∗ anyA outM (po 0 2 c + 64) 64 c
        -∗ anyA outM (po 0 3 c) 64 c
        -∗ anyA outM (po 0 3 c + 64) 64 c
        -∗ anyA agM (po 0 0 c) 64 c
        -∗ anyA agM (po 0 0 c + 64) 64 c
        -∗ anyA outM (po 1 0 c) 128 c
        -∗ anyA outM (po 1 1 c) 128 c
        -∗ anyA outM (po 1 2 c) 64 c
        -∗ anyA outM (po 1 2 c + 64) 64 c
        -∗ anyA outM (po 1 3 c) 64 c
        -∗ anyA outM (po 1 3 c + 64) 64 c
        -∗ anyA agM (po 1 0 c) 64 c
        -∗ anyA agM (po 1 0 c + 64) 64 c
        -∗ over x [] c
        -∗ (semVal (barCell c) 0
            ∗ ownX x c
            ∗ pend [] c
            ∗ heldA outM (po 0 1 c) 128 fullShare (fin x 0 1 c) c
            ∗ heldA outM (po 0 2 c) 64 fullShare (fin x 0 2 c) c
            ∗ heldA outM (po 0 2 c + 64) 64 fullShare (fin x 0 2 c) c
            ∗ heldA outM (po 0 3 c) 64 fullShare (fin x 0 3 c) c
            ∗ heldA outM (po 0 3 c + 64) 64 fullShare (fin x 0 3 c) c
            ∗ heldA outM (po 1 1 c) 128 fullShare (fin x 1 1 c) c
            ∗ heldA outM (po 1 2 c) 64 fullShare (fin x 1 2 c) c
            ∗ heldA outM (po 1 2 c + 64) 64 fullShare (fin x 1 2 c) c
            ∗ heldA outM (po 1 3 c) 64 fullShare (fin x 1 3 c) c
            ∗ heldA outM (po 1 3 c + 64) 64 fullShare (fin x 1 3 c) c
            ∗ over x lanes c
            ∗ heldA outM (po 0 0 c) 64 fullShare (acc x 0 4 c) c
            ∗ heldA outM (po 0 0 c + 64) 64 fullShare (acc x 0 4 c) c
            ∗ heldA outM (po 1 0 c) 64 fullShare (acc x 1 4 c) c
            ∗ heldA outM (po 1 0 c + 64) 64 fullShare (acc x 1 4 c) c -∗ Q ⟨⟩)
      -∗ wp frame (wpE (defs₀ (F := F)) 𝒱₀ (c : Thread nD τ) none) Set.univ (cc0_body xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11) Q) := by
  rw [cc0_body_eq_skeleton]; unfold cc0_body_skel
  rw [k0_part40_eq_skeleton]; unfold k0_part40_skel
  iintro #HR T0 P0 T1 P1 T2 P2 T3 P3 Hw HX X0 X1 HC Ha HI S1_0_0 S1_0_64 S1_1_0 S1_1_64 S2_0_0 S2_0_64 S2_1_0 S2_1_64 S3_0_0 S3_0_64 S3_1_0 S3_1_64 O_0_0 O_0_1 O_0_2_0 O_0_2_64 O_0_3_0 O_0_3_64 A_0_0 A_0_64 O_1_0 O_1_1 O_1_2_0 O_1_2_64 O_1_3_0 O_1_3_64 A_1_0 A_1_64 HO Hk
  rw [wp_bind]
  rw [wp_bind]
  iapply (part1 c); iintro %v23 %v24 %v27 %v30 %v33 %v36 %w
  try dsimp only
  rw [wp_bind]
  iapply (part2 x K c v23 v24 v27 v30 v33 v36 w)
  isplitr; · iexact HR
  isplitl [T0 P0]
  · isplitl [T0]; · iexact T0
    iexact P0
  isplitl [T1 P1]
  · isplitl [T1]; · iexact T1
    iexact P1
  isplitl [T2 P2]
  · isplitl [T2]; · iexact T2
    iexact P2
  isplitl [T3 P3]
  · isplitl [T3]; · iexact T3
    iexact P3
  isplitl [Hw]; · iexact Hw
  iintro %v39 %v44 %v46 %v49 %v54 %v56 Hw
  try dsimp only
  rw [wp_bind]
  iapply (part3 x K c v23 v24 v27 v39 v49)
  isplitr; · iexact HR
  isplitl [HX]; · iexact HX
  isplitl [X0]; · iexact X0
  isplitl [X1]; · iexact X1
  isplitl [HC]; · iexact HC
  isplitl [Ha]; · iexact Ha
  isplitl [Hw]; · iexact Hw
  isplitl [HI]; · iexact HI
  iintro ⟨Hz, HX, B_0_1, B_0_2, B_1_0, B_1_1, B_1_2, F_0_0, HP⟩
  try dsimp only
  rw [wp_bind]
  iapply (part4 x K c v23 v24 v27 v30 v39 v49) $$ HR HP B_1_0 B_0_1; iintro %r4 ⟨HP, F_1_0, F_0_1⟩
  try dsimp only
  rw [wp_bind]
  iapply (part5 x K c v23 v24 v27 v30 v39 v49 r4) $$ HR HP B_1_1 B_0_2 B_1_2; iintro ⟨HP, F_1_1, F_0_2, F_1_2⟩
  try dsimp only
  rw [wp_bind]
  iapply (part6 x K c [] v27 v44) $$ HR HP F_0_0 HX S1_0_0 HO; iintro %r6 ⟨HX, HP, S1_0_0, HO⟩
  try dsimp only
  rw [wp_bind]
  iapply (part7 x K c [(0, 0)] v30 v54) $$ HR HP S1_0_0 F_1_0 HX HO; iintro ⟨HX, HP, HO, F_0_3⟩
  try dsimp only
  rw [wp_bind]
  iapply (part8 x K c v27) $$ HR S1_1_0 HP F_0_1; iintro ⟨HP, F_1_3, H_0_1⟩
  try dsimp only
  rw [wp_bind]
  iapply (part9 x K c [(1, 0), (0, 0)] v30 v44) $$ HR HP H_0_1 HX S1_0_64 HO; iintro ⟨HX, HP, HO, F_0_4⟩
  try dsimp only
  rw [wp_bind]
  iapply (part10 x K c [(0, 1), (1, 0), (0, 0)] v27 v30 v54) $$ HR HP F_1_1 HX S1_1_64 HO; iintro ⟨HX, HP, S1_1_64, HO⟩
  try dsimp only
  rw [wp_bind]
  iapply (part11 x K c [(1, 1), (0, 1), (1, 0), (0, 0)] v27 v46) $$ HR HP S1_1_64 F_0_2 HX O_0_0 HO; iintro ⟨HX, HP, HO, F_1_4, O_0_0_0, O_0_0_64⟩
  try dsimp only
  rw [wp_bind]
  iapply (part12 x K c [(0, 2), (1, 1), (0, 1), (1, 0), (0, 0)] v30 v56) $$ HR HP F_1_2 HX O_1_0 HO; iintro ⟨HX, HP, HO, O_1_0_0, O_1_0_64⟩
  try dsimp only
  rw [wp_bind]
  iapply (part13 x K c [(1, 2), (0, 2), (1, 1), (0, 1), (1, 0), (0, 0)] v30 v33 v46) $$ HR HP F_0_3 O_0_0_0 S2_0_0 HO; iintro ⟨HP, S2_0_0, HO, O_0_0_0⟩
  try dsimp only
  rw [wp_bind]
  iapply (part14 x K c v27 v56) $$ HR HP S2_0_0 F_1_3 O_1_0_0; iintro ⟨HP, O_1_0_0, F_0_5, G_1_3, V_1_3⟩
  try dsimp only
  rw [wp_bind]
  iapply (part15 x K c [(0, 3), (1, 2), (0, 2), (1, 1), (0, 1), (1, 0), (0, 0)] v36 v56) $$ HR V_1_3 O_1_0_0 S2_1_0 HO G_1_3 HP F_0_4; iintro ⟨HP, HO, O_1_0_0, F_1_5, H_0_4⟩
  try dsimp only
  rw [wp_bind]
  iapply (part16 x K c [(1, 3), (0, 3), (1, 2), (0, 2), (1, 1), (0, 1), (1, 0), (0, 0)] v30 v33 v46) $$ HR HP H_0_4 O_0_0_64 S2_0_64 HO; iintro ⟨HP, S2_0_64, HO, O_0_0_64⟩
  try dsimp only
  rw [wp_bind]
  iapply (part17 x K c [(0, 4), (1, 3), (0, 3), (1, 2), (0, 2), (1, 1), (0, 1), (1, 0), (0, 0)] v27 v56) $$ HR HP S2_0_64 F_1_4 O_1_0_64 HO; iintro ⟨HP, HO, O_1_0_64, F_0_6⟩
  try dsimp only
  rw [wp_bind]
  iapply (part18 x K c v36 v56) $$ HR O_1_0_64 S2_1_64 HP F_0_5; iintro ⟨HP, O_1_0_64, F_1_6, H_0_5⟩
  try dsimp only
  rw [wp_bind]
  iapply (part19 x K c [(1, 4), (0, 4), (1, 3), (0, 3), (1, 2), (0, 2), (1, 1), (0, 1), (1, 0), (0, 0)] v33 v36 v46) $$ HR HP H_0_5 O_0_0_0 S3_0_0 HO; iintro ⟨HP, S3_0_0, HO, O_0_0_0⟩
  try dsimp only
  rw [wp_bind]
  iapply (part20 x K c [(0, 5), (1, 4), (0, 4), (1, 3), (0, 3), (1, 2), (0, 2), (1, 1), (0, 1), (1, 0), (0, 0)] v36 v56) $$ HR HP S3_0_0 F_1_5 O_1_0_0 HO; iintro ⟨HP, HO, O_1_0_0, F_0_7⟩
  try dsimp only
  rw [wp_bind]
  iapply (part21 x K c v33 v56) $$ HR O_1_0_0 S3_1_0 HP F_0_6; iintro ⟨HP, O_1_0_0, F_1_7, H_0_6⟩
  try dsimp only
  rw [wp_bind]
  iapply (part22 x K c [(1, 5), (0, 5), (1, 4), (0, 4), (1, 3), (0, 3), (1, 2), (0, 2), (1, 1), (0, 1), (1, 0), (0, 0)] v33 v36 v46) $$ HR HP H_0_6 O_0_0_64 S3_0_64 HO; iintro ⟨HP, S3_0_64, HO, O_0_0_64⟩
  try dsimp only
  rw [wp_bind]
  iapply (part23 x K c [(0, 6), (1, 5), (0, 5), (1, 4), (0, 4), (1, 3), (0, 3), (1, 2), (0, 2), (1, 1), (0, 1), (1, 0), (0, 0)] v36 v56) $$ HR HP S3_0_64 F_1_6 O_1_0_64 HO; iintro %r23 ⟨HP, HO, O_1_0_64, F_0_8⟩
  try dsimp only
  rw [wp_bind]
  iapply (part24 x K c v33 r23) $$ HR O_1_0_64 S3_1_64 HP F_1_7; iintro %r24 ⟨HP, O_1_0_64, F_1_8, H_1_7⟩
  try dsimp only
  rw [wp_bind]
  iapply (part25 x K c [(1, 6), (0, 6), (1, 5), (0, 5), (1, 4), (0, 4), (1, 3), (0, 3), (1, 2), (0, 2), (1, 1), (0, 1), (1, 0), (0, 0)] v27 v33 v56) $$ HR HP H_1_7 O_1_0_0 A_1_0 HO; iintro ⟨HP, HO, O_1_0_0, AL_1_0, AR_1_0⟩
  try dsimp only
  rw [wp_bind]
  iapply (part26 x K c v30 v36 v56) $$ HR HP AL_1_0 AR_1_0 F_0_7; iintro ⟨HP, F_1_9, F_1_11, H_0_7⟩
  try dsimp only
  rw [wp_bind]
  iapply (part27 x K c [(1, 7), (1, 6), (0, 6), (1, 5), (0, 5), (1, 4), (0, 4), (1, 3), (0, 3), (1, 2), (0, 2), (1, 1), (0, 1), (1, 0), (0, 0)] v30 v46) $$ HR HP H_0_7 O_0_0_0 A_0_0 HO; iintro ⟨HP, HO, O_0_0_0, AR_0_0, F_0_9⟩
  try dsimp only
  rw [wp_bind]
  iapply (part28 x K c v27 v33 v56) $$ HR HP AR_0_0 F_1_8 O_1_0_64; iintro ⟨HP, O_1_0_64, F_0_11, G_1_8, V_1_8⟩
  try dsimp only
  rw [wp_bind]
  iapply (part29 x K c [(0, 7), (1, 7), (1, 6), (0, 6), (1, 5), (0, 5), (1, 4), (0, 4), (1, 3), (0, 3), (1, 2), (0, 2), (1, 1), (0, 1), (1, 0), (0, 0)] v27 v30 v56) $$ HR V_1_8 O_1_0_64 A_1_64 HO G_1_8 HP; iintro ⟨HP, HO, O_1_0_64, AR_1_64, F_1_10⟩
  try dsimp only
  rw [wp_bind]
  iapply (part30 x K c [(1, 8), (0, 7), (1, 7), (1, 6), (0, 6), (1, 5), (0, 5), (1, 4), (0, 4), (1, 3), (0, 3), (1, 2), (0, 2), (1, 1), (0, 1), (1, 0), (0, 0)] v36 v46) $$ HR HP AR_1_64 F_0_8 O_0_0_64 HO; iintro ⟨HP, HO, O_0_0_64, F_1_12⟩
  try dsimp only
  rw [wp_bind]
  iapply (part31 x K c v27 v30 v46) $$ HR A_0_64 HP; iintro ⟨HP, F_0_10, F_0_12⟩
  try dsimp only
  rw [wp_bind]
  iapply (part32 x K c v27 v30 v54) $$ HR HP F_1_9 F_0_9; iintro ⟨HP, G_1_9, VR_1_9, F_1_13, H_0_9⟩
  try dsimp only
  rw [wp_bind]
  iapply (part33 x K c v27 v30 v44 v54) $$ HR HP H_0_9 F_1_10; iintro ⟨HP, G_0_9, VR_0_9, F_0_13, G_1_10, VL_1_10, VR_1_10⟩
  try dsimp only
  rw [wp_bind]
  iapply (part34 x K c [(0, 8), (1, 8), (0, 7), (1, 7), (1, 6), (0, 6), (1, 5), (0, 5), (1, 4), (0, 4), (1, 3), (0, 3), (1, 2), (0, 2), (1, 1), (0, 1), (1, 0), (0, 0)] v27 v30 v44) $$ HR HP VL_1_10 F_0_10 VR_0_9 HO G_0_9; iintro ⟨HP, HO, F_1_14, F_0_14⟩
  try dsimp only
  rw [wp_bind]
  iapply (part35 x K c [(0, 10), (0, 9), (0, 8), (1, 8), (0, 7), (1, 7), (1, 6), (0, 6), (1, 5), (0, 5), (1, 4), (0, 4), (1, 3), (0, 3), (1, 2), (0, 2), (1, 1), (0, 1), (1, 0), (0, 0)] v24 v27 v39 v54) $$ HR O_0_1 VR_1_9 VR_1_10 HO G_1_9 G_1_10 O_1_1 HP F_0_11 O_0_2_0; iintro ⟨HP, O_0_1, O_0_2_0, O_1_1, HO⟩
  try dsimp only
  rw [wp_bind]
  iapply (part36 x K c [(0, 11), (1, 10), (1, 9), (0, 10), (0, 9), (0, 8), (1, 8), (0, 7), (1, 7), (1, 6), (0, 6), (1, 5), (0, 5), (1, 4), (0, 4), (1, 3), (0, 3), (1, 2), (0, 2), (1, 1), (0, 1), (1, 0), (0, 0)] v23 v24 v27 v30 v49) $$ HR HP F_1_11 O_1_2_0 HO F_0_12; iintro %r36 ⟨HP, O_1_2_0, HO, G_0_12, V_0_12⟩
  try dsimp only
  rw [wp_bind]
  iapply (part37 x K c [(1, 11), (0, 11), (1, 10), (1, 9), (0, 10), (0, 9), (0, 8), (1, 8), (0, 7), (1, 7), (1, 6), (0, 6), (1, 5), (0, 5), (1, 4), (0, 4), (1, 3), (0, 3), (1, 2), (0, 2), (1, 1), (0, 1), (1, 0), (0, 0)] v23 v30 v39 v49 r36) $$ HR V_0_12 O_0_2_64 HO G_0_12 HP F_1_12 O_1_2_64; iintro ⟨HP, O_0_2_64, O_1_2_64, HO⟩
  try dsimp only
  rw [wp_bind]
  iapply (part38 x K c [(1, 12), (0, 12), (1, 11), (0, 11), (1, 10), (1, 9), (0, 10), (0, 9), (0, 8), (1, 8), (0, 7), (1, 7), (1, 6), (0, 6), (1, 5), (0, 5), (1, 4), (0, 4), (1, 3), (0, 3), (1, 2), (0, 2), (1, 1), (0, 1), (1, 0), (0, 0)] v24 v27 v30 v39) $$ HR HP F_0_13 O_0_3_0 HO F_1_13; iintro ⟨HP, O_0_3_0, HO, G_1_13, V_1_13⟩
  try dsimp only
  rw [wp_bind]
  iapply (part39 x K c [(0, 13), (1, 12), (0, 12), (1, 11), (0, 11), (1, 10), (1, 9), (0, 10), (0, 9), (0, 8), (1, 8), (0, 7), (1, 7), (1, 6), (0, 6), (1, 5), (0, 5), (1, 4), (0, 4), (1, 3), (0, 3), (1, 2), (0, 2), (1, 1), (0, 1), (1, 0), (0, 0)] v23 v24 v27 v39 v49) $$ HR V_1_13 O_1_3_0 HO G_1_13 HP F_0_14 O_0_3_64; iintro ⟨HP, O_0_3_64, O_1_3_0, HO⟩
  try dsimp only
  unfold anyA
  icases O_1_3_64 with ⟨%YO, O_1_3_64⟩
  simp only [Prog.lift, Prog.bind_op, Prog.bind_ret, Prog.pure_eq_ret]
  iapply (wp_ws x K c (1, 14) [] sendSem_eq (credN_14 1)) $$ HR F_1_14 HP; iintro ⟨H_1_14, HP⟩
  rw [wp_ret]
  imodintro
  iapply (wp_wr x K c (1, 14) [] (by decide) (recvPay_14 x 1 c) recvSem_eq (credN_14 1)) $$ HR H_1_14 HP; iintro ⟨G_1_14, V_1_14, HP⟩
  iapply (wp_load_rows 𝒱₀ none Set.univ (po 1 3 c + 64) 64 (off22_64 c) (Finset.Subset.refl _)) $$ V_1_14; iintro V_1_14
  iapply (wp_load_rows 𝒱₀ none Set.univ (po 1 3 c + 64) 64 (off22_64 c) (Finset.Subset.refl _)) $$ O_1_3_64; iintro O_1_3_64
  iapply (wp_store_rows 𝒱₀ none Set.univ (po 1 3 c + 64) 64 (fin x 1 3 c) (off22_64 c)
    (by unfold k0_pay1; simp only [shapeCast_self]; exact ext_band x 1 3 (by decide) c _ _ _)) $$ O_1_3_64; iintro O_1_3_64
  ihave HO := (over_put x c (left_14 x 1 c)) $$ HO G_1_14 V_1_14
  rw [wp_ret]
  imodintro
  iapply Hk
  isplitl [Hz]; · iexact Hz
  isplitl [HX]; · iexact HX
  isplitl [HP]; · iexact HP
  isplitl [O_0_1]; · iexact O_0_1
  isplitl [O_0_2_0]; · iexact O_0_2_0
  isplitl [O_0_2_64]; · iexact O_0_2_64
  isplitl [O_0_3_0]; · iexact O_0_3_0
  isplitl [O_0_3_64]; · iexact O_0_3_64
  isplitl [O_1_1]; · iexact O_1_1
  isplitl [O_1_2_0]; · iexact O_1_2_0
  isplitl [O_1_2_64]; · iexact O_1_2_64
  isplitl [O_1_3_0]; · iexact O_1_3_0
  isplitl [O_1_3_64]; · iexact O_1_3_64
  isplitl [HO]; · iexact HO
  isplitl [O_0_0_0]; · iexact O_0_0_0
  isplitl [O_0_0_64]; · iexact O_0_0_64
  isplitl [O_1_0_0]; · iexact O_1_0_0
  iexact O_1_0_64

end Body

end Cert.KernelIdealProof

end
-- ==== Proof.KernelIdeal.Places.lean ====
/-
What a device's buffers are before the body, cut into the places the body takes, and what the body leaves put together
again.
-/
module

public import proofs.«01_k».proof.Proof.KernelIdeal.BodyD
public import proofs.«01_k».proof.Proof.Cut

@[expose] public section

noncomputable section

namespace Cert.KernelIdealProof

open Cert.KernelIdeal Cert.KernelIdeal.Gen Cert.Own Cert.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Places

variable (x : Dev nD → SA.Idx → F .f32) (c : Dev nD)

/-- A place of device `c`. -/
abbrev pl {s : Shape} {e : EltTy} (m : Memref sig .tc .vmem s e) (R : Finset s.Idx) (c : Dev nD) : sProp 𝕄 := place (c : Thread nD τ) m R

/-- The slots, listed. -/
def slots : List (Fin 15) := [0, 1, 2, 3, 4, 5, 6, 7, 8, 9, 10, 11, 12, 13, 14]

theorem by_half (Φ : Lane → sProp 𝕄) :
    bigSep Finset.univ Φ = iprop((bigSepL slots fun n => Φ (0, n)) ∗ bigSepL slots fun n => Φ (1, n)) := by
  rw [bigSep_univ_prod]
  have h (k : Fin 2) : (bigSep Finset.univ fun n : Fin 15 => Φ (k, n)) = bigSepL slots fun n => Φ (k, n) :=
    bigSep_univ_eq_bigSepL slots (by decide) (by decide) _
  rw [bigSep_univ_eq_bigSepL [(0 : Fin 2), 1] (by decide) (by decide), ← h 0, ← h 1]
  rfl

/-- An exchange buffer cut into its four slabs of 64 rows. -/
theorem pl_buf4 (m : Memref sig .tc .vmem SB .bf16) :
    pl (F := F) m Finset.univ c = iprop((pl m (slab 0 0 64) c ∗ pl m (slab 0 64 64) c) ∗ (pl m (slab 1 0 64) c ∗ pl m (slab 1 64 64) c)) := by
  have h := cut_buf (place_adds (Ix := Unit) (Val := Elt F) (Name := ℕ) (U := UU) (Lvl := ℕ) (c := (c : Thread nD τ)) (m := m))
  rw [cut_slab (place_adds (c := (c : Thread nD τ)) (m := m)), cut_slab (place_adds (c := (c : Thread nD τ)) (m := m))] at h
  exact h

/-- An exchange buffer cut into the slabs of its two halves. -/
theorem pl_buf2 (m : Memref sig .tc .vmem SB .bf16) :
    pl (F := F) m Finset.univ c = iprop(pl m (slab 0 0 128) c ∗ pl m (slab 1 0 128) c) :=
  cut_buf (place_adds (c := (c : Thread nD τ)) (m := m))

/-- A buffer of the array's shape cut into its eight blocks. -/
theorem pl_rows {e : EltTy} (m : Memref sig .tc .vmem SA e) :
    pl (F := F) m Finset.univ c = iprop(
      ((pl m (rowsOf (po 0 0 c) 128) c ∗ pl m (rowsOf (po 0 1 c) 128) c) ∗ (pl m (rowsOf (po 0 2 c) 128) c ∗ pl m (rowsOf (po 0 3 c) 128) c))
      ∗ ((pl m (rowsOf (po 1 0 c) 128) c ∗ pl m (rowsOf (po 1 1 c) 128) c) ∗ (pl m (rowsOf (po 1 2 c) 128) c ∗ pl m (rowsOf (po 1 3 c) 128) c))) := by
  have h := cut_whole (place_adds (Ix := Unit) (Val := Elt F) (Name := ℕ) (U := UU) (Lvl := ℕ) (c := (c : Thread nD τ)) (m := m))
  rw [cut_half (place_adds (c := (c : Thread nD τ)) (m := m)) 0 c, cut_half (place_adds (c := (c : Thread nD τ)) (m := m)) 1 c] at h
  exact h

/-- A band of 128 rows cut in two. -/
theorem pl_band {e : EltTy} (m : Memref sig .tc .vmem SA e) (o : ℕ) :
    pl (F := F) m (rowsOf o 128) c = iprop(pl m (rowsOf o 64) c ∗ pl m (rowsOf (o + 64) 64) c) :=
  cut_band (place_adds (c := (c : Thread nD τ)) (m := m)) o

/-- The rows to send off in the first exchange are two blocks. -/
theorem pl_sent (k : Fin 2) :
    pl (F := F) xbM (rowsOf (so k c) 256) c = iprop(pl xbM (rowsOf (po k 2 c) 128) c ∗ pl xbM (rowsOf (po k 3 c) 128) c) :=
  cut_sent (place_adds (c := (c : Thread nD τ)) (m := xbM)) k c _ rfl

/-- The blocks of the rounding buffer that are never used. -/
def spare (c : Dev nD) : sProp 𝕄 :=
  iprop(pl (F := F) xbM (rowsOf (po 0 0 c) 128) c ∗ pl (F := F) xbM (rowsOf (po 0 1 c) 128) c
    ∗ pl (F := F) xbM (rowsOf (po 1 0 c) 128) c ∗ pl (F := F) xbM (rowsOf (po 1 1 c) 128) c)

/-- The landing places of one half. -/
theorem lands_half (k : Fin 2) :
    (bigSepL slots fun n => dstPts (F := F) (k, n) c) = iprop(pl (F := F) r0M (slab k 0 64) c
      ∗ pl (F := F) r0M (slab k 64 64) c
      ∗ pl (F := F) rkM (slab k 0 128) c
      ∗ pl (F := F) r1M (slab k 0 64) c
      ∗ pl (F := F) r1M (slab k 64 64) c
      ∗ pl (F := F) r2M (slab k 0 64) c
      ∗ pl (F := F) r2M (slab k 64 64) c
      ∗ pl (F := F) r3M (slab k 0 64) c
      ∗ pl (F := F) r3M (slab k 64 64) c
      ∗ pl (F := F) agM (rowsOf (po k 1 c) 64) c
      ∗ pl (F := F) agM (rowsOf (po k 1 c + 64) 64) c
      ∗ pl (F := F) agM (rowsOf (po k 2 c) 64) c
      ∗ pl (F := F) agM (rowsOf (po k 2 c + 64) 64) c
      ∗ pl (F := F) agM (rowsOf (po k 3 c) 64) c
      ∗ pl (F := F) agM (rowsOf (po k 3 c + 64) 64) c) := rfl

/-- The scratch buffers, each at any contents. -/
def scratch (c : Dev nD) : sProp 𝕄 :=
  iprop(pl (F := F) xbM Finset.univ c ∗ pl (F := F) agM Finset.univ c ∗ pl (F := F) r0M Finset.univ c ∗ pl (F := F) rkM Finset.univ c ∗ pl (F := F) r1M Finset.univ c ∗ pl (F := F) r2M Finset.univ c ∗ pl (F := F) r3M Finset.univ c ∗ pl (F := F) s1M Finset.univ c ∗ pl (F := F) s2M Finset.univ c ∗ pl (F := F) s3M Finset.univ c)

/-- Every landing place is what the four signals hand over. -/
theorem lands_deal :
    (bigSep Finset.univ fun j : Lane => dstPts (F := F) j c) = iprop(barPay (F := F) 0 c ∗ barPay (F := F) 1 c ∗ barPay (F := F) 2 c ∗ barPay (F := F) 3 c) := by
  rw [deal Finset.univ ldim, bigSep_univ_eq_bigSepL [(0 : Fin 4), 1, 2, 3] (by decide) (by decide)]
  rfl

/-- The scratch buffers and the result's, cut into what the body takes. -/
theorem places_in :
    iprop(scratch (F := F) c ∗ pl (F := F) outM Finset.univ c) ⊢ iprop((barPay (F := F) 0 c ∗ barPay (F := F) 1 c ∗ barPay (F := F) 2 c ∗ barPay (F := F) 3 c) ∗ spare (F := F) c
      ∗ anyA (F := F) xbM (so 0 c) 256 c
      ∗ anyA (F := F) xbM (so 1 c) 256 c
      ∗ anyB (F := F) s1M 0 0 c
      ∗ anyB (F := F) s1M 0 64 c
      ∗ anyB (F := F) s1M 1 0 c
      ∗ anyB (F := F) s1M 1 64 c
      ∗ anyB (F := F) s2M 0 0 c
      ∗ anyB (F := F) s2M 0 64 c
      ∗ anyB (F := F) s2M 1 0 c
      ∗ anyB (F := F) s2M 1 64 c
      ∗ anyB (F := F) s3M 0 0 c
      ∗ anyB (F := F) s3M 0 64 c
      ∗ anyB (F := F) s3M 1 0 c
      ∗ anyB (F := F) s3M 1 64 c
      ∗ anyA (F := F) outM (po 0 0 c) 128 c
      ∗ anyA (F := F) outM (po 0 1 c) 128 c
      ∗ anyA (F := F) outM (po 0 2 c) 64 c
      ∗ anyA (F := F) outM (po 0 2 c + 64) 64 c
      ∗ anyA (F := F) outM (po 0 3 c) 64 c
      ∗ anyA (F := F) outM (po 0 3 c + 64) 64 c
      ∗ anyA (F := F) agM (po 0 0 c) 64 c
      ∗ anyA (F := F) agM (po 0 0 c + 64) 64 c
      ∗ anyA (F := F) outM (po 1 0 c) 128 c
      ∗ anyA (F := F) outM (po 1 1 c) 128 c
      ∗ anyA (F := F) outM (po 1 2 c) 64 c
      ∗ anyA (F := F) outM (po 1 2 c + 64) 64 c
      ∗ anyA (F := F) outM (po 1 3 c) 64 c
      ∗ anyA (F := F) outM (po 1 3 c + 64) 64 c
      ∗ anyA (F := F) agM (po 1 0 c) 64 c
      ∗ anyA (F := F) agM (po 1 0 c + 64) 64 c) := by
  rw [← lands_deal, by_half, lands_half, lands_half]
  unfold scratch spare
  rw [pl_rows c xbM, pl_rows c agM, pl_rows c outM, pl_buf2 c rkM, pl_buf4 c r0M, pl_buf4 c r1M, pl_buf4 c r2M, pl_buf4 c r3M,
    pl_buf4 c s1M, pl_buf4 c s2M, pl_buf4 c s3M]
  iintro H
  icases H with ⟨⟨⟨⟨⟨x0_0, x0_1⟩, ⟨x0_2, x0_3⟩⟩, ⟨⟨x1_0, x1_1⟩, ⟨x1_2, x1_3⟩⟩⟩, ⟨⟨⟨g0_0, g0_1⟩, ⟨g0_2, g0_3⟩⟩, ⟨⟨g1_0, g1_1⟩, ⟨g1_2, g1_3⟩⟩⟩, ⟨⟨r0_0_0, r0_0_64⟩, ⟨r0_1_0, r0_1_64⟩⟩, ⟨rk_0, rk_1⟩, ⟨⟨r1_0_0, r1_0_64⟩, ⟨r1_1_0, r1_1_64⟩⟩, ⟨⟨r2_0_0, r2_0_64⟩, ⟨r2_1_0, r2_1_64⟩⟩, ⟨⟨r3_0_0, r3_0_64⟩, ⟨r3_1_0, r3_1_64⟩⟩, ⟨⟨s1_0_0, s1_0_64⟩, ⟨s1_1_0, s1_1_64⟩⟩, ⟨⟨s2_0_0, s2_0_64⟩, ⟨s2_1_0, s2_1_64⟩⟩, ⟨⟨s3_0_0, s3_0_64⟩, ⟨s3_1_0, s3_1_64⟩⟩⟩, ⟨⟨⟨o0_0, o0_1⟩, ⟨o0_2, o0_3⟩⟩, ⟨⟨o1_0, o1_1⟩, ⟨o1_2, o1_3⟩⟩⟩⟩
  ihave g0_0 := (Entails.of_eq (pl_band c agM _)) $$ g0_0
  icases g0_0 with ⟨g0_0a, g0_0b⟩
  ihave g0_1 := (Entails.of_eq (pl_band c agM _)) $$ g0_1
  icases g0_1 with ⟨g0_1a, g0_1b⟩
  ihave g0_2 := (Entails.of_eq (pl_band c agM _)) $$ g0_2
  icases g0_2 with ⟨g0_2a, g0_2b⟩
  ihave g0_3 := (Entails.of_eq (pl_band c agM _)) $$ g0_3
  icases g0_3 with ⟨g0_3a, g0_3b⟩
  ihave o0_2 := (Entails.of_eq (pl_band c outM _)) $$ o0_2
  icases o0_2 with ⟨o0_2a, o0_2b⟩
  ihave o0_3 := (Entails.of_eq (pl_band c outM _)) $$ o0_3
  icases o0_3 with ⟨o0_3a, o0_3b⟩
  ihave S0 := (Entails.of_eq (pl_sent (F := F) c 0).symm) $$ [x0_2 x0_3]
  · isplitl [x0_2]
    · iexact x0_2
    · iexact x0_3
  ihave g1_0 := (Entails.of_eq (pl_band c agM _)) $$ g1_0
  icases g1_0 with ⟨g1_0a, g1_0b⟩
  ihave g1_1 := (Entails.of_eq (pl_band c agM _)) $$ g1_1
  icases g1_1 with ⟨g1_1a, g1_1b⟩
  ihave g1_2 := (Entails.of_eq (pl_band c agM _)) $$ g1_2
  icases g1_2 with ⟨g1_2a, g1_2b⟩
  ihave g1_3 := (Entails.of_eq (pl_band c agM _)) $$ g1_3
  icases g1_3 with ⟨g1_3a, g1_3b⟩
  ihave o1_2 := (Entails.of_eq (pl_band c outM _)) $$ o1_2
  icases o1_2 with ⟨o1_2a, o1_2b⟩
  ihave o1_3 := (Entails.of_eq (pl_band c outM _)) $$ o1_3
  icases o1_3 with ⟨o1_3a, o1_3b⟩
  ihave S1 := (Entails.of_eq (pl_sent (F := F) c 1).symm) $$ [x1_2 x1_3]
  · isplitl [x1_2]
    · iexact x1_2
    · iexact x1_3
  isplitl [r0_0_0 r0_0_64 rk_0 r1_0_0 r1_0_64 r2_0_0 r2_0_64 r3_0_0 r3_0_64 g0_1a g0_1b g0_2a g0_2b g0_3a g0_3b r0_1_0 r0_1_64 rk_1 r1_1_0 r1_1_64 r2_1_0 r2_1_64 r3_1_0 r3_1_64 g1_1a g1_1b g1_2a g1_2b g1_3a g1_3b]
  · isplitl [r0_0_0 r0_0_64 rk_0 r1_0_0 r1_0_64 r2_0_0 r2_0_64 r3_0_0 r3_0_64 g0_1a g0_1b g0_2a g0_2b g0_3a g0_3b]
    · isplitl [r0_0_0]; · iexact r0_0_0
      isplitl [r0_0_64]; · iexact r0_0_64
      isplitl [rk_0]; · iexact rk_0
      isplitl [r1_0_0]; · iexact r1_0_0
      isplitl [r1_0_64]; · iexact r1_0_64
      isplitl [r2_0_0]; · iexact r2_0_0
      isplitl [r2_0_64]; · iexact r2_0_64
      isplitl [r3_0_0]; · iexact r3_0_0
      isplitl [r3_0_64]; · iexact r3_0_64
      isplitl [g0_1a]; · iexact g0_1a
      isplitl [g0_1b]; · iexact g0_1b
      isplitl [g0_2a]; · iexact g0_2a
      isplitl [g0_2b]; · iexact g0_2b
      isplitl [g0_3a]; · iexact g0_3a
      iexact g0_3b
    · isplitl [r0_1_0]; · iexact r0_1_0
      isplitl [r0_1_64]; · iexact r0_1_64
      isplitl [rk_1]; · iexact rk_1
      isplitl [r1_1_0]; · iexact r1_1_0
      isplitl [r1_1_64]; · iexact r1_1_64
      isplitl [r2_1_0]; · iexact r2_1_0
      isplitl [r2_1_64]; · iexact r2_1_64
      isplitl [r3_1_0]; · iexact r3_1_0
      isplitl [r3_1_64]; · iexact r3_1_64
      isplitl [g1_1a]; · iexact g1_1a
      isplitl [g1_1b]; · iexact g1_1b
      isplitl [g1_2a]; · iexact g1_2a
      isplitl [g1_2b]; · iexact g1_2b
      isplitl [g1_3a]; · iexact g1_3a
      iexact g1_3b
  isplitl [x0_0 x0_1 x1_0 x1_1]
  · isplitl [x0_0]; · iexact x0_0
    isplitl [x0_1]; · iexact x0_1
    isplitl [x1_0]; · iexact x1_0
    iexact x1_1
  unfold anyA anyB
  unfold pl place
  isplitl [S0]; · iexact S0
  isplitl [S1]; · iexact S1
  isplitl [s1_0_0]; · iexact s1_0_0
  isplitl [s1_0_64]; · iexact s1_0_64
  isplitl [s1_1_0]; · iexact s1_1_0
  isplitl [s1_1_64]; · iexact s1_1_64
  isplitl [s2_0_0]; · iexact s2_0_0
  isplitl [s2_0_64]; · iexact s2_0_64
  isplitl [s2_1_0]; · iexact s2_1_0
  isplitl [s2_1_64]; · iexact s2_1_64
  isplitl [s3_0_0]; · iexact s3_0_0
  isplitl [s3_0_64]; · iexact s3_0_64
  isplitl [s3_1_0]; · iexact s3_1_0
  isplitl [s3_1_64]; · iexact s3_1_64
  isplitl [o0_0]; · iexact o0_0
  isplitl [o0_1]; · iexact o0_1
  isplitl [o0_2a]; · iexact o0_2a
  isplitl [o0_2b]; · iexact o0_2b
  isplitl [o0_3a]; · iexact o0_3a
  isplitl [o0_3b]; · iexact o0_3b
  isplitl [g0_0a]; · iexact g0_0a
  isplitl [g0_0b]; · iexact g0_0b
  isplitl [o1_0]; · iexact o1_0
  isplitl [o1_1]; · iexact o1_1
  isplitl [o1_2a]; · iexact o1_2a
  isplitl [o1_2b]; · iexact o1_2b
  isplitl [o1_3a]; · iexact o1_3a
  isplitl [o1_3b]; · iexact o1_3b
  isplitl [g1_0a]; · iexact g1_0a
  iexact g1_0b

/-- What the sends of one half hand back. -/
theorem sent_half (k : Fin 2) :
    (bigSepL slots fun n => sendPay x (k, n) c) = iprop(own (c : Thread nD τ) xbM (rowsOf (po k 3 c) 64) fullShare (accT x 0 c k)
      ∗ own (c : Thread nD τ) xbM (rowsOf (po k 3 c + 64) 64) fullShare (accT x 0 c k)
      ∗ own (c : Thread nD τ) xbM (rowsOf (po k 2 c) 128) fullShare (accT x 0 c k)
      ∗ own (c : Thread nD τ) s1M (slab k 0 64) fullShare (sbuf x 1 1 c)
      ∗ own (c : Thread nD τ) s1M (slab k 64 64) fullShare (sbuf x 1 1 c)
      ∗ own (c : Thread nD τ) s2M (slab k 0 64) fullShare (sbuf x 0 2 c)
      ∗ own (c : Thread nD τ) s2M (slab k 64 64) fullShare (sbuf x 0 2 c)
      ∗ own (c : Thread nD τ) s3M (slab k 0 64) fullShare (sbuf x 0 3 c)
      ∗ own (c : Thread nD τ) s3M (slab k 64 64) fullShare (sbuf x 0 3 c)
      ∗ own (c : Thread nD τ) agM (rowsOf (po k 0 c) 64) lsh (gat x k 0 c)
      ∗ own (c : Thread nD τ) agM (rowsOf (po k 0 c + 64) 64) lsh (gat x k 0 c)
      ∗ own (c : Thread nD τ) agM (rowsOf (po k 0 c) 64) rsh (gat x k 0 c)
      ∗ own (c : Thread nD τ) agM (rowsOf (po k 0 c + 64) 64) rsh (gat x k 0 c)
      ∗ own (c : Thread nD τ) agM (rowsOf (po k 1 c) 64) lsh (gat x k 1 c)
      ∗ own (c : Thread nD τ) agM (rowsOf (po k 1 c + 64) 64) lsh (gat x k 1 c)) := rfl

/-- What is left of the receipts of one half. -/
theorem left_half (k : Fin 2) :
    (bigSepL slots fun n => left x (k, n) c) = iprop(own (c : Thread nD τ) r0M (slab k 0 64) fullShare (rbuf x 1 0 c)
      ∗ own (c : Thread nD τ) r0M (slab k 64 64) fullShare (rbuf x 1 0 c)
      ∗ own (c : Thread nD τ) rkM (slab k 0 128) fullShare (rbuf x 0 0 c)
      ∗ own (c : Thread nD τ) r1M (slab k 0 64) fullShare (rbuf x 0 1 c)
      ∗ own (c : Thread nD τ) r1M (slab k 64 64) fullShare (rbuf x 0 1 c)
      ∗ own (c : Thread nD τ) r2M (slab k 0 64) fullShare (rbuf x 0 2 c)
      ∗ own (c : Thread nD τ) r2M (slab k 64 64) fullShare (rbuf x 0 2 c)
      ∗ own (c : Thread nD τ) r3M (slab k 0 64) fullShare (rbuf x 0 3 c)
      ∗ own (c : Thread nD τ) r3M (slab k 64 64) fullShare (rbuf x 0 3 c)
      ∗ own (c : Thread nD τ) agM (rowsOf (po k 1 c) 64) rsh (gat x k 1 c)
      ∗ own (c : Thread nD τ) agM (rowsOf (po k 1 c + 64) 64) rsh (gat x k 1 c)
      ∗ own (c : Thread nD τ) agM (rowsOf (po k 2 c) 64) fullShare (gat x k 2 c)
      ∗ own (c : Thread nD τ) agM (rowsOf (po k 2 c + 64) 64) fullShare (gat x k 2 c)
      ∗ own (c : Thread nD τ) agM (rowsOf (po k 3 c) 64) fullShare (gat x k 3 c)
      ∗ own (c : Thread nD τ) agM (rowsOf (po k 3 c + 64) 64) fullShare (gat x k 3 c)) := rfl

/-- The gathering buffer's two shares of a band joined. -/
theorem join_shares {R : Finset SA.Idx} {X : SA.Idx → F .bf16} :
    iprop(own (c : Thread nD τ) agM R lsh X ∗ own (c : Thread nD τ) agM R rsh X) ⊢ pl (F := F) agM R c := by
  iintro H
  iapply (place_of (X := X))
  iapply (own_unshare (q := fullShare) (q₁ := lsh) (q₂ := rsh) (PosShare.mem_left_op_right _))
  iexact H

/-- What the lanes of one half leave of the scratch buffers. -/
theorem half_out (k : Fin 2) :
    iprop((bigSepL slots fun n => sendPay x (k, n) c) ∗ (bigSepL slots fun n => left x (k, n) c)) ⊢ iprop(pl (F := F) xbM (rowsOf (po k 2 c) 128) c
      ∗ pl (F := F) xbM (rowsOf (po k 3 c) 128) c
      ∗ pl (F := F) agM (rowsOf (po k 0 c) 128) c
      ∗ pl (F := F) agM (rowsOf (po k 1 c) 128) c
      ∗ pl (F := F) agM (rowsOf (po k 2 c) 128) c
      ∗ pl (F := F) agM (rowsOf (po k 3 c) 128) c
      ∗ pl (F := F) r0M (slab k 0 64) c
      ∗ pl (F := F) r0M (slab k 64 64) c
      ∗ pl (F := F) rkM (slab k 0 128) c
      ∗ pl (F := F) r1M (slab k 0 64) c
      ∗ pl (F := F) r1M (slab k 64 64) c
      ∗ pl (F := F) r2M (slab k 0 64) c
      ∗ pl (F := F) r2M (slab k 64 64) c
      ∗ pl (F := F) r3M (slab k 0 64) c
      ∗ pl (F := F) r3M (slab k 64 64) c
      ∗ pl (F := F) s1M (slab k 0 64) c
      ∗ pl (F := F) s1M (slab k 64 64) c
      ∗ pl (F := F) s2M (slab k 0 64) c
      ∗ pl (F := F) s2M (slab k 64 64) c
      ∗ pl (F := F) s3M (slab k 0 64) c
      ∗ pl (F := F) s3M (slab k 64 64) c) := by
  rw [sent_half, left_half, pl_band c xbM (po k 3 c), pl_band c agM (po k 0 c), pl_band c agM (po k 1 c), pl_band c agM (po k 2 c), pl_band c agM (po k 3 c)]
  iintro ⟨⟨x3a, x3b, x2, s1a, s1b, s2a, s2b, s3a, s3b, g0la, g0lb, g0ra, g0rb, g1la, g1lb⟩, r0a, r0b, rk, r1a, r1b, r2a, r2b, r3a, r3b, g1ra, g1rb, g2a, g2b, g3a, g3b⟩
  isplitl [x2]; · iapply place_of; iexact x2
  isplitl [x3a x3b]
  · isplitl [x3a]
    · iapply place_of; iexact x3a
    · iapply place_of; iexact x3b
  isplitl [g0la g0lb g0ra g0rb]
  · isplitl [g0la g0ra]
    · iapply join_shares; isplitl [g0la]
      · iexact g0la
      · iexact g0ra
    · iapply join_shares; isplitl [g0lb]
      · iexact g0lb
      · iexact g0rb
  isplitl [g1la g1lb g1ra g1rb]
  · isplitl [g1la g1ra]
    · iapply join_shares; isplitl [g1la]
      · iexact g1la
      · iexact g1ra
    · iapply join_shares; isplitl [g1lb]
      · iexact g1lb
      · iexact g1rb
  isplitl [g2a g2b]
  · isplitl [g2a]
    · iapply place_of; iexact g2a
    · iapply place_of; iexact g2b
  isplitl [g3a g3b]
  · isplitl [g3a]
    · iapply place_of; iexact g3a
    · iapply place_of; iexact g3b
  isplitl [r0a]; · iapply place_of; iexact r0a
  isplitl [r0b]; · iapply place_of; iexact r0b
  isplitl [rk]; · iapply place_of; iexact rk
  isplitl [r1a]; · iapply place_of; iexact r1a
  isplitl [r1b]; · iapply place_of; iexact r1b
  isplitl [r2a]; · iapply place_of; iexact r2a
  isplitl [r2b]; · iapply place_of; iexact r2b
  isplitl [r3a]; · iapply place_of; iexact r3a
  isplitl [r3b]; · iapply place_of; iexact r3b
  isplitl [s1a]; · iapply place_of; iexact s1a
  isplitl [s1b]; · iapply place_of; iexact s1b
  isplitl [s2a]; · iapply place_of; iexact s2a
  isplitl [s2b]; · iapply place_of; iexact s2b
  isplitl [s3a]; · iapply place_of; iexact s3a
  iapply place_of; iexact s3b

/-- The lanes being over, each semaphore is at zero and each payload back. -/
theorem over_out :
    over x lanes c = iprop(((bigSep Finset.univ fun j : Lane => semVal (sendCell j c) 0) ∗ (bigSep Finset.univ fun j : Lane => semVal (recvCell j c) 0))
      ∗ ((bigSepL slots fun n => sendPay x (0, n) c) ∗ (bigSepL slots fun n => left x (0, n) c))
      ∗ ((bigSepL slots fun n => sendPay x (1, n) c) ∗ (bigSepL slots fun n => left x (1, n) c))) := by
  unfold over
  rw [← bigSep_univ_eq_bigSepL lanes (by decide) (by decide)]
  unfold gone
  rw [bigSep_sep', bigSep_sep', bigSep_sep', by_half (fun j => sendPay x j c), by_half (fun j => left x j c)]
  refine eq_of ?_ ?_
  · iintro ⟨⟨HS, HV, H0, H1⟩, H2, H3⟩
    isplitl [HS HV]
    · isplitl [HS]
      · iexact HS
      · iexact HV
    isplitl [H0 H2]
    · isplitl [H0]
      · iexact H0
      · iexact H2
    · isplitl [H1]
      · iexact H1
      · iexact H3
  · iintro ⟨⟨HS, HV⟩, ⟨H0, H2⟩, H1, H3⟩
    isplitr [H2 H3]
    · isplitl [HS]; · iexact HS
      isplitl [HV]; · iexact HV
      isplitl [H0]
      · iexact H0
      · iexact H1
    · isplitl [H2]
      · iexact H2
      · iexact H3

/-- What the lanes leave, with the blocks never used, is the scratch buffers again. -/
theorem scratch_out : iprop(spare (F := F) c ∗ over x lanes c) ⊢ iprop(((bigSep Finset.univ fun j : Lane => semVal (sendCell j c) 0) ∗ (bigSep Finset.univ fun j : Lane => semVal (recvCell j c) 0)) ∗ scratch (F := F) c) := by
  rw [over_out]
  unfold scratch spare
  rw [pl_rows c xbM, pl_rows c agM, pl_buf2 c rkM, pl_buf4 c r0M, pl_buf4 c r1M, pl_buf4 c r2M, pl_buf4 c r3M,
    pl_buf4 c s1M, pl_buf4 c s2M, pl_buf4 c s3M]
  iintro ⟨⟨x0_0, x0_1, x1_0, x1_1⟩, HS, H0, H1⟩
  ihave H0 := (half_out x c 0) $$ H0
  ihave H1 := (half_out x c 1) $$ H1
  icases H0 with ⟨x0_2, x0_3, g0_0, g0_1, g0_2, g0_3, r0_0_0, r0_0_64, rk_0, r1_0_0, r1_0_64, r2_0_0, r2_0_64, r3_0_0, r3_0_64, s1_0_0, s1_0_64, s2_0_0, s2_0_64, s3_0_0, s3_0_64⟩
  icases H1 with ⟨x1_2, x1_3, g1_0, g1_1, g1_2, g1_3, r0_1_0, r0_1_64, rk_1, r1_1_0, r1_1_64, r2_1_0, r2_1_64, r3_1_0, r3_1_64, s1_1_0, s1_1_64, s2_1_0, s2_1_64, s3_1_0, s3_1_64⟩
  isplitl [HS]; · iexact HS
  isplitl [x0_0 x0_1 x0_2 x0_3 x1_0 x1_1 x1_2 x1_3]
  · isplitl [x0_0 x0_1 x0_2 x0_3]
    · isplitl [x0_0 x0_1]
      · isplitl [x0_0]
        · iexact x0_0
        · iexact x0_1
      · isplitl [x0_2]
        · iexact x0_2
        · iexact x0_3
    · isplitl [x1_0 x1_1]
      · isplitl [x1_0]
        · iexact x1_0
        · iexact x1_1
      · isplitl [x1_2]
        · iexact x1_2
        · iexact x1_3
  isplitl [g0_0 g0_1 g0_2 g0_3 g1_0 g1_1 g1_2 g1_3]
  · isplitl [g0_0 g0_1 g0_2 g0_3]
    · isplitl [g0_0 g0_1]
      · isplitl [g0_0]
        · iexact g0_0
        · iexact g0_1
      · isplitl [g0_2]
        · iexact g0_2
        · iexact g0_3
    · isplitl [g1_0 g1_1]
      · isplitl [g1_0]
        · iexact g1_0
        · iexact g1_1
      · isplitl [g1_2]
        · iexact g1_2
        · iexact g1_3
  isplitl [r0_0_0 r0_0_64 r0_1_0 r0_1_64]
  · isplitl [r0_0_0 r0_0_64]
    · isplitl [r0_0_0]
      · iexact r0_0_0
      · iexact r0_0_64
    · isplitl [r0_1_0]
      · iexact r0_1_0
      · iexact r0_1_64
  isplitl [rk_0 rk_1]
  · isplitl [rk_0]
    · iexact rk_0
    · iexact rk_1
  isplitl [r1_0_0 r1_0_64 r1_1_0 r1_1_64]
  · isplitl [r1_0_0 r1_0_64]
    · isplitl [r1_0_0]
      · iexact r1_0_0
      · iexact r1_0_64
    · isplitl [r1_1_0]
      · iexact r1_1_0
      · iexact r1_1_64
  isplitl [r2_0_0 r2_0_64 r2_1_0 r2_1_64]
  · isplitl [r2_0_0 r2_0_64]
    · isplitl [r2_0_0]
      · iexact r2_0_0
      · iexact r2_0_64
    · isplitl [r2_1_0]
      · iexact r2_1_0
      · iexact r2_1_64
  isplitl [r3_0_0 r3_0_64 r3_1_0 r3_1_64]
  · isplitl [r3_0_0 r3_0_64]
    · isplitl [r3_0_0]
      · iexact r3_0_0
      · iexact r3_0_64
    · isplitl [r3_1_0]
      · iexact r3_1_0
      · iexact r3_1_64
  isplitl [s1_0_0 s1_0_64 s1_1_0 s1_1_64]
  · isplitl [s1_0_0 s1_0_64]
    · isplitl [s1_0_0]
      · iexact s1_0_0
      · iexact s1_0_64
    · isplitl [s1_1_0]
      · iexact s1_1_0
      · iexact s1_1_64
  isplitl [s2_0_0 s2_0_64 s2_1_0 s2_1_64]
  · isplitl [s2_0_0 s2_0_64]
    · isplitl [s2_0_0]
      · iexact s2_0_0
      · iexact s2_0_64
    · isplitl [s2_1_0]
      · iexact s2_1_0
      · iexact s2_1_64
  isplitl [s3_0_0 s3_0_64]
  · isplitl [s3_0_0]
    · iexact s3_0_0
    · iexact s3_0_64
  · isplitl [s3_1_0]
    · iexact s3_1_0
    · iexact s3_1_64

/-- A block of the result, whose two halves are held. -/
theorem out_block2 (k : Fin 2) (t : Fin 4) :
    iprop(heldA outM (po k t c) 64 fullShare (fin x k t c) c ∗ heldA outM (po k t c + 64) 64 fullShare (fin x k t c) c)
      ⊢ own (c : Thread nD τ) outM (rowsOf (po k t c) 128) fullShare (outv x c) := by
  have h := cut_band (own_adds (Ix := Unit) (Val := Elt F) (Name := ℕ) (U := UU) (Lvl := ℕ) (c := (c : Thread nD τ)) (m := outM) (fin x k t c)) (po k t c)
  exact (Entails.of_eq h.symm).trans (own_congr (outv_eq x k t c))

/-- The result put together from its blocks. -/
theorem result_out : iprop(heldA outM (po 0 1 c) 128 fullShare (fin x 0 1 c) c
      ∗ heldA outM (po 0 2 c) 64 fullShare (fin x 0 2 c) c
      ∗ heldA outM (po 0 2 c + 64) 64 fullShare (fin x 0 2 c) c
      ∗ heldA outM (po 0 3 c) 64 fullShare (fin x 0 3 c) c
      ∗ heldA outM (po 0 3 c + 64) 64 fullShare (fin x 0 3 c) c
      ∗ heldA outM (po 1 1 c) 128 fullShare (fin x 1 1 c) c
      ∗ heldA outM (po 1 2 c) 64 fullShare (fin x 1 2 c) c
      ∗ heldA outM (po 1 2 c + 64) 64 fullShare (fin x 1 2 c) c
      ∗ heldA outM (po 1 3 c) 64 fullShare (fin x 1 3 c) c
      ∗ heldA outM (po 1 3 c + 64) 64 fullShare (fin x 1 3 c) c
      ∗ heldA outM (po 0 0 c) 64 fullShare (acc x 0 4 c) c
      ∗ heldA outM (po 0 0 c + 64) 64 fullShare (acc x 0 4 c) c
      ∗ heldA outM (po 1 0 c) 64 fullShare (acc x 1 4 c) c
      ∗ heldA outM (po 1 0 c + 64) 64 fullShare (acc x 1 4 c) c)
      ⊢ own (c : Thread nD τ) outM Finset.univ fullShare (outv x c) := by
  have hO := own_adds (Ix := Unit) (Val := Elt F) (Name := ℕ) (U := UU) (Lvl := ℕ) (c := (c : Thread nD τ)) (m := outM) (outv x c)
  have h := cut_whole hO
  rw [cut_half hO 0 c, cut_half hO 1 c] at h
  refine BIBase.Entails.trans ?_ (Entails.of_eq h.symm)
  iintro ⟨o0_1, o0_2a, o0_2b, o0_3a, o0_3b, o1_1, o1_2a, o1_2b, o1_3a, o1_3b, o0_0a, o0_0b, o1_0a, o1_0b⟩
  isplitl [o0_0a o0_0b o0_1 o0_2a o0_2b o0_3a o0_3b]
  · isplitl [o0_0a o0_0b o0_1]
    · isplitl [o0_0a o0_0b]
      · iapply (out_block2 x c 0 0); isplitl [o0_0a]
        · iexact o0_0a
        · iexact o0_0b
      · iapply (own_congr (outv_eq x 0 1 c)); iexact o0_1
    · isplitl [o0_2a o0_2b]
      · iapply (out_block2 x c 0 2); isplitl [o0_2a]
        · iexact o0_2a
        · iexact o0_2b
      · iapply (out_block2 x c 0 3); isplitl [o0_3a]
        · iexact o0_3a
        · iexact o0_3b
  · isplitl [o1_0a o1_0b o1_1]
    · isplitl [o1_0a o1_0b]
      · iapply (out_block2 x c 1 0); isplitl [o1_0a]
        · iexact o1_0a
        · iexact o1_0b
      · iapply (own_congr (outv_eq x 1 1 c)); iexact o1_1
    · isplitl [o1_2a o1_2b]
      · iapply (out_block2 x c 1 2); isplitl [o1_2a]
        · iexact o1_2a
        · iexact o1_2b
      · iapply (out_block2 x c 1 3); isplitl [o1_3a]
        · iexact o1_3a
        · iexact o1_3b

end Places

end Cert.KernelIdealProof

end
-- ==== Proof.KernelIdeal.Start.lean ====
/-
The launch: ghost state made for every cell, dealt to the devices, and the credits each device starts with.
-/
module

public import proofs.«01_k».proof.Proof.KernelIdeal.Places

@[expose] public section

noncomputable section

namespace Cert.KernelIdealProof

open Cert.KernelIdeal Cert.KernelIdeal.Gen Cert.Own Cert.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Start

variable (x : Dev nD → SA.Idx → F .f32)

/-! ## The cells of one device -/

/-- The kernel's own semaphores: the lanes' send and receive semaphores. -/
abbrev osem : Bool × Lane → SemLoc sig := fun b => csem (some b)

theorem kind_stage (w : Fin cfg0.W) (s) : kind (.dma ((cfg0.spec w).sem s)) = none := by
  revert w s
  decide

theorem ownSemFacts : Pipeline.OwnSemFacts cfg0.spec osem where
  isScoped k := by
    obtain ⟨b, j⟩ := k
    cases b <;> (revert j; decide)
  inj a b h := Option.some.inj (csem_inj h)
  disj k w s h := by
    have e := congrArg kind h
    rw [kind_csem, kind_stage] at e
    cases e

/-- The devices' cells. -/
def cellSet : Finset (GSem nD τ sig) := Finset.univ.map ⟨kcell, kcell_inj⟩

/-- A duty of one of a device's own cells: one of its barrier cell's four, or a lane cell's one. -/
abbrev DI : Type := Fin 4 ⊕ (Bool × Lane)

abbrev tokOf (cj : Dev nD × DI) : GSem nD τ sig × ℕ × Fin 4 :=
  match cj.2 with
  | .inl d => (kcell (cj.1, none), 0, d)
  | .inr b => (kcell (cj.1, some b), 0, 0)

theorem tokOf_inj : Function.Injective tokOf := by
  rintro ⟨c, d | b⟩ ⟨c', d' | b'⟩ h
  · obtain ⟨h1, h2⟩ := Prod.mk.inj h
    have hc := kcell_inj h1
    obtain ⟨rfl, -⟩ := Prod.mk.inj hc
    obtain ⟨-, rfl⟩ := Prod.mk.inj h2
    rfl
  · exact absurd (Prod.mk.inj (kcell_inj (Prod.mk.inj h).1)).2 (by simp)
  · exact absurd (Prod.mk.inj (kcell_inj (Prod.mk.inj h).1)).2 (by simp)
  · obtain ⟨h1, -⟩ := Prod.mk.inj h
    obtain ⟨rfl, h3⟩ := Prod.mk.inj (kcell_inj h1)
    obtain rfl := Option.some.inj h3
    rfl

def tokSet : Finset (GSem nD τ sig × ℕ × Fin 4) := Finset.univ.map ⟨tokOf, tokOf_inj⟩

/-- The pipeline's ghost state and the kernel's. -/
def u₀ : UU := (initOf (Pipeline.cells cfgs cellOf_inj) (Pipeline.launchToks cfgs cellOf_inj), initOf cellSet tokSet)

/-- A product over the lanes' cells is one over the send cells and one over the receive cells. -/
theorem by_kind (Φ : Bool × Lane → sProp 𝕄) :
    bigSep Finset.univ Φ = iprop((bigSep Finset.univ fun j : Lane => Φ (false, j)) ∗ bigSep Finset.univ fun j : Lane => Φ (true, j)) := by
  rw [bigSep_univ_prod, bigSep_univ_eq_bigSepL [false, true] (by decide) (by decide)]
  rfl

/-- A product over a device's cells, its barrier cell apart. -/
theorem by_cell (Φ : CI → sProp 𝕄) :
    bigSep Finset.univ Φ = iprop(Φ none ∗ (bigSep Finset.univ fun j : Lane => Φ (some (false, j))) ∗ bigSep Finset.univ fun j : Lane => Φ (some (true, j))) := by
  rw [← by_kind fun b => Φ (some b), bigSep_univ_at Φ none]
  have h : (Finset.univ.erase none : Finset CI) = Finset.univ.map Function.Embedding.some := by
    ext i
    cases i <;> simp
  rw [h, bigSep_map]
  rfl

/-! ## Ghost state of one device -/

/-- The tokens of the duties of device `c`'s own cells. -/
def toks (c : Dev nD) : sProp 𝕄 :=
  iprop((bigSep Finset.univ fun d : Fin 4 => dutyTok ER (barCell c) 0 d)
    ∗ (bigSep Finset.univ fun j : Lane => dutyTok ER (sendCell j c) 0 0) ∗ bigSep Finset.univ fun j : Lane => dutyTok ER (recvCell j c) 0 0)

/-- The tokens of the duties device `c` pays. -/
def payToks (c : Dev nD) : sProp 𝕄 :=
  iprop((bigSep Finset.univ fun d : Fin 4 => dutyTok ER (barCell (nb d c)) 0 d)
    ∗ (bigSep Finset.univ fun j : Lane => dutyTok ER (sendCell j c) 0 0) ∗ bigSep Finset.univ fun j : Lane => dutyTok ER (recvCell j (peer j c)) 0 0)

/-- Device `c`'s positions in its cells' rounds. -/
def places (c : Dev nD) : sProp 𝕄 :=
  iprop(atPos ER (barCell c) 0 ∅ 0 ∗ (bigSep Finset.univ fun j : Lane => atPos ER (sendCell j c) 0 ∅ 0) ∗ bigSep Finset.univ fun j : Lane => atPos ER (recvCell j c) 0 ∅ 0)

/-- What is made for device `c`. -/
def G (c : Dev nD) : sProp 𝕄 :=
  iprop((bigSep Finset.univ fun i : CI => roundState ER (rd x) (kcell (c, i)) 0)
    ∗ (bigSep Finset.univ fun i : CI => iprop(atPos ER (kcell (c, i)) 0 ∅ 0 ∗ reached ER (kcell (c, i)) 0)) ∗ toks (F := F) c)

/-- What every device knows, apart from the levels. -/
def known (K : Dev nD × CI → ℕ) : sProp 𝕄 :=
  iprop((bigSep Finset.univ fun ck : Dev nD × CI => cellInv ER (rd x) (K ck) (kcell ck)) ∗ (bigSep Finset.univ fun ck : Dev nD × CI => reached ER (kcell ck) 0))

instance known_persistent (K : Dev nD × CI → ℕ) : BI.Persistent (known x K) := by unfold known; infer_instance

/-- What device `c` starts with. -/
def G' (c : Dev nD) : sProp 𝕄 := iprop(∃ K, known x K ∗ places (F := F) c ∗ payToks (F := F) c)

theorem fund : BI.own (ER (initOf cellSet tokSet)) ⊢ (|==> bigSep Finset.univ (G x) : sProp 𝕄) := by
  have hX (Φ : GSem nD τ sig → sProp 𝕄) : bigSep cellSet Φ = bigSep Finset.univ fun c : Dev nD => bigSep Finset.univ fun i : CI => Φ (kcell (c, i)) := by
    unfold cellSet; rw [bigSep_map, bigSep_univ_prod]; rfl
  have hT : bigSep tokSet (fun t => (dutyTok ER t.1 t.2.1 t.2.2 : sProp 𝕄)) = bigSep Finset.univ fun c : Dev nD => toks (F := F) c := by
    unfold tokSet; rw [bigSep_map, bigSep_univ_prod]
    refine bigSep_congr fun c _ => ?_
    unfold toks
    rw [bigSep_univ_sum, by_kind]
    rfl
  iintro HX
  imod (Rounds.fund ER (rd x) cellSet tokSet) $$ HX with ⟨Hst, Hr, Hat, Htok⟩
  imodintro
  ihave Hst' := (Entails.of_eq (hX fun g => roundState ER (rd x) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · iexact Hat'
    · iexact Hr'
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun j : Lane => semVal (sendCell j c) 0) ∗ bigSep Finset.univ fun j : Lane => semVal (recvCell j c) 0) := by
  unfold Pipeline.ownSems0
  exact by_kind _

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, by_cell]
  iintro ⟨⟨HS, HV⟩, HB⟩
  isplitl [HB]; · iexact HB
  isplitl [HS]
  · iexact HS
  · iexact HV

/-- One device's cells, opened for their invariants. -/
theorem core_alloc (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun i : CI => iprop(∃ κ : ℕ, cellInv ER (rd x) κ (kcell (c, i))))
          ∗ (bigSep Finset.univ fun i : CI => iprop(atPos ER (kcell (c, i)) 0 ∅ 0 ∗ reached ER (kcell (c, i)) 0)) ∗ toks (F := F) c) := by
  unfold G
  iintro ⟨Hos, Hus, Hst, Hat, Htok⟩
  ihave Hv := (sems0_eq (F := F) c) $$ [Hos Hus]
  · isplitl [Hos]
    · iexact Hos
    · iexact Hus
  have hi : iprop((bigSep Finset.univ fun i : CI => semVal (kcell (c, i)) 0) ∗ bigSep Finset.univ fun i : CI => roundState ER (rd x) (kcell (c, i)) 0)
      ⊢ (|={Set.univ}=> bigSep Finset.univ fun i : CI => iprop(∃ κ : ℕ, cellInv ER (rd x) κ (kcell (c, i))) : sProp 𝕄) := by
    rw [← bigSep_sep']
    exact (bigSep_mono fun i _ => (Rounds.body_intro ER (rd x) (kcell (c, i))).trans inv_alloc).trans (bigSep_fupd _ _)
  imod hi $$ [Hv Hst] with Hinv
  · isplitl [Hv]
    · iexact Hv
    · iexact Hst
  imodintro
  isplitl [Hinv]; · iexact Hinv
  isplitl [Hat]; · iexact Hat
  iexact Htok

/-- A family over the devices, each moved along an involution. -/
theorem around {I : Type} [Fintype I] [DecidableEq I] (f : I → Dev nD → Dev nD) (hf : ∀ i c, f i (f i c) = c) (Φ : I → Dev nD → sProp 𝕄) :
    (bigSep Finset.univ fun c : Dev nD => bigSep Finset.univ fun i : I => Φ i c)
      = bigSep Finset.univ fun c : Dev nD => bigSep Finset.univ fun i : I => Φ i (f i c) := by
  rw [bigSep_univ_comm, bigSep_univ_comm (fun (c : Dev nD) (i : I) => Φ i (f i c))]
  refine bigSep_congr fun i _ => ?_
  exact bigSep_univ_equiv ⟨f i, f i, hf i, hf i⟩ (Φ i)

/-- The tokens of each device's own cells, dealt to the devices that pay the duties. -/
theorem toks_around : (bigSep Finset.univ fun c : Dev nD => (toks (F := F) c : sProp 𝕄)) = bigSep Finset.univ fun c : Dev nD => payToks (F := F) c := by
  unfold toks payToks
  rw [bigSep_sep', bigSep_sep', bigSep_sep', bigSep_sep',
    around nb nb_nb (fun d c => dutyTok ER (barCell c) 0 d), around peer peer_peer (fun j c => dutyTok ER (recvCell j c) 0 0)]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (rd x) κ (kcell (c, i))))
          ∗ (bigSep Finset.univ fun i : CI => iprop(atPos ER (kcell (c, i)) 0 ∅ 0 ∗ reached ER (kcell (c, i)) 0)) ∗ toks (F := F) c) : sProp 𝕄)
      ⊢ bigSep Finset.univ (G' x) := by
  rw [bigSep_sep', bigSep_sep', ← bigSep_univ_prod (fun ck : Dev nD × CI => iprop(∃ κ : ℕ, cellInv ER (rd x) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄)), toks_around]
  iintro ⟨HI, ⟨Hat, #HR⟩, Htok⟩
  ihave HK := (BI.bigSep_exists_pi Finset.univ (fun (ck : Dev nD × CI) (κ : ℕ) => (cellInv ER (rd x) κ (kcell ck) : sProp 𝕄))) $$ HI
  icases HK with ⟨%K, #HI⟩
  have hin : ∀ c ∈ (Finset.univ : Finset (Dev nD)), iprop(known x K ∗ (bigSep Finset.univ fun i : CI => (atPos ER (kcell (c, i)) 0 ∅ 0 : sProp 𝕄)) ∗ payToks (F := F) c) ⊢ G' x c := by
    intro c _
    unfold G' places
    rw [by_cell]
    iintro ⟨HK, Hat, Ht⟩
    iexists K
    isplitl [HK]; · iexact HK
    isplitl [Hat]
    · iexact Hat
    · iexact Ht
  iapply (with_persistent hin)
  isplitr
  · unfold known; isplitl; · iexact HI
    iexact HR
  · rw [bigSep_sep']
    isplitl [Hat]; · iexact Hat
    iexact Htok

/-- All devices' semaphores and ghost state made into what each device starts with. -/
theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => core_alloc x c).trans (bigSep_fupd _ _)).trans (BI.fupd_mono (regroup x))

/-! ## The credits -/

/-- What device `c` owes at the start: every transfer's credit at its other end, and a unit to each neighbour. -/
def O₀ (c : Dev nD) : CellTallies nD τ sig Unit := debt c order + debtB c [0, 1, 2, 3]

theorem order_toFinset : order.toFinset = (Finset.univ : Finset Lane) := by decide
theorem order_nodup : order.Nodup := by decide

theorem debt_order (c : Dev nD) : debt c order = ∑ j : Lane, tallyAt (recvCell j (peer j c)) () (credN j) := by
  rw [← order_toFinset]
  exact (List.sum_toFinset _ order_nodup).symm

theorem debtB_all (c : Dev nD) : debtB c [0, 1, 2, 3] = ∑ i : Fin 4, tallyAt (barCell (nb i c)) () 1 := by
  rw [show (Finset.univ : Finset (Fin 4)) = [0, 1, 2, 3].toFinset by decide]
  exact (List.sum_toFinset _ (by decide)).symm

/-- The credit device `c` has at the start: its own waits'. -/
def T₀ (c : Dev nD) : CellTallies nD τ sig Unit := (∑ j : Lane, tallyAt (recvCell j c) () (credN j)) + tallyAt (barCell c) () 4

theorem sum_around {I : Type} [Fintype I] (f : I → Dev nD → Dev nD) (hf : ∀ i c, f i (f i c) = c) (Φ : I → Dev nD → CellTallies nD τ sig Unit) :
    (∑ c : Dev nD, ∑ i : I, Φ i (f i c)) = ∑ c : Dev nD, ∑ i : I, Φ i c := by
  rw [Finset.sum_comm, Finset.sum_comm (f := fun (c : Dev nD) (i : I) => Φ i c)]
  exact Finset.sum_congr rfl fun i _ => Equiv.sum_comp (⟨f i, f i, hf i, hf i⟩ : Dev nD ≃ Dev nD) (Φ i)

theorem sum_owed : (∑ c : Dev nD, O₀ c) = ∑ c : Dev nD, T₀ c := by
  unfold O₀ T₀
  rw [Finset.sum_add_distrib, Finset.sum_add_distrib]
  congr 1
  · rw [Finset.sum_congr rfl fun c _ => debt_order c]
    exact sum_around peer peer_peer fun j c => tallyAt (recvCell j c) () (credN j)
  · rw [Finset.sum_congr rfl fun c _ => debtB_all c, sum_around nb nb_nb fun i c => tallyAt (barCell c) () 1]
    refine Finset.sum_congr rfl fun c _ => ?_
    rw [Fin.sum_univ_four, tallyAt_add, tallyAt_add, tallyAt_add]

theorem T₀_own (c : Dev nD) (g : GSem nD τ sig) (h : T₀ c g ≠ 0) : g.1 = (c.tc : Thread nD τ) := by
  by_contra hn
  refine h ?_
  have hz : ∀ (sm : SemLoc sig) (n : ℕ), tallyAt ((c : Thread nD τ), sm) () n g = 0 := by
    intro sm n
    refine Finsupp.ext fun u => ?_
    rw [tallyAt_apply, if_neg (fun h' => hn (congrArg Prod.fst h'.1))]
    rfl
  unfold T₀
  rw [Pi.add_apply, Finset.sum_apply, Finset.sum_eq_zero (fun j _ => hz _ _), hz, add_zero]

theorem creds (c : Dev nD) :
    (Pipeline.launchCred O₀ c : sProp 𝕄) ⊢ iprop((bigSep Finset.univ fun j : Lane => cred (tallyAt (recvCell j c) () (credN j))) ∗ cred (tallyAt (barCell c) () 4)) := by
  rw [Pipeline.launchCred_of_sum O₀ T₀ sum_owed T₀_own]
  unfold T₀
  refine (cred_add _ _).1.trans ?_
  rw [Pipeline.cred_finsetSum]

/-! ## Waits for the staging transfers -/

theorem O₀_pos {c : Dev nD} {g : GSem nD τ sig} {u : Unit} (h : 0 < O₀ c g u) :
    (∃ j, g = recvCell j (peer j c)) ∨ ∃ i, g = barCell (nb i c) := by
  unfold O₀ at h
  rw [Pi.add_apply, Finsupp.add_apply] at h
  by_cases h1 : 0 < debt c order g u
  · obtain ⟨j, -, e⟩ := debt_pos h1
    exact .inl ⟨j, e⟩
  · obtain ⟨i, -, e⟩ := debtB_pos (c := c) (l := [0, 1, 2, 3]) (g := g) (u := u) (by omega)
    exact .inr ⟨i, e⟩

theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨i, rfl⟩ <;> exact Finset.mem_singleton_self _)
      (fun p hp => by rw [Finset.mem_singleton.mp hp]; unfold lv; rw [hq])
      (fun g u hg => by
        rcases O₀_pos hg with ⟨j, rfl⟩ | ⟨i, rfl⟩
        · rw [lv_recv]; omega
        · rw [lv_bar]; decide)
  · rw [MayWait_zero]; iintro -; iempintro

end Start

end Cert.KernelIdealProof

end
-- ==== Proof.KernelIdeal.Run.lean ====
/-
The kernel's body under the pipeline, and its run on the sixteen devices.
-/
module

public import proofs.«01_k».proof.Proof.KernelIdeal.Start
public import proofs.«01_k».proof.Proof.Gen.KernelIdeal.Frame
public import Idealize.ShloMosaic.Lib.Pipeline.CollectiveSegs
public import Idealize.ShloMosaic.Adequacy
public import Idealize.ShloMosaic.Init

@[expose] public section

noncomputable section

namespace Cert.KernelIdealProof

open Cert.KernelIdeal Cert.KernelIdeal.Gen Cert.Own Cert.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body

variable (x : Dev nD → SA.Idx → F .f32)

/-- What device `c`'s body starts with. -/
def start (c : Dev nD) : sProp 𝕄 :=
  iprop((∃ K, recs x K ∗ places (F := F) c ∗ payToks (F := F) c) ∗ cred (tallyAt (barCell c) () 4)
    ∗ bigSep Finset.univ fun j : Lane => cred (tallyAt (recvCell j c) () (credN j)))

/-- A device's positions, credits and tokens are its idle lanes' and the barrier cell's. -/
theorem idle_all (c : Dev nD) :
    iprop(places (F := F) c ∗ payToks (F := F) c ∗ bigSep Finset.univ fun j : Lane => cred (tallyAt (recvCell j c) () (credN j)))
      ⊢ iprop(atPos ER (barCell c) 0 ∅ 0 ∗ (dutyTok ER (barCell (nb 0 c)) 0 0 ∗ dutyTok ER (barCell (nb 1 c)) 0 1 ∗ dutyTok ER (barCell (nb 2 c)) 0 2 ∗ dutyTok ER (barCell (nb 3 c)) 0 3)
        ∗ (bigSep Finset.univ fun j : Lane => idle (F := F) j c)) := by
  have h4 : (bigSep Finset.univ fun d : Fin 4 => (dutyTok ER (barCell (nb d c)) 0 d : sProp 𝕄))
      = iprop(dutyTok ER (barCell (nb 0 c)) 0 0 ∗ dutyTok ER (barCell (nb 1 c)) 0 1 ∗ dutyTok ER (barCell (nb 2 c)) 0 2 ∗ dutyTok ER (barCell (nb 3 c)) 0 3) := by
    rw [bigSep_univ_eq_bigSepL [(0 : Fin 4), 1, 2, 3] (by decide) (by decide)]
    rfl
  unfold places payToks idle
  rw [h4, bigSep_sep', bigSep_sep', bigSep_sep', bigSep_sep']
  iintro ⟨⟨Hb, Hs, Hr⟩, ⟨Ht, Hts, Htr⟩, Hc⟩
  isplitl [Hb]; · iexact Hb
  isplitl [Ht]; · iexact Ht
  isplitl [Hs]; · iexact Hs
  isplitl [Hr]; · iexact Hr
  isplitl [Hc]; · iexact Hc
  isplitl [Hts]
  · iexact Hts
  · iexact Htr

/-- The body from a device's start, scratch memory, block and result place, to its result written. -/
theorem body_all (c : Dev nD) {Q : PUnit → sProp (MT nD τ sig Unit (Elt F) ℕ UU ℕ)} :
    iprop(start x c ∗ scratch (F := F) c ∗ owe (F := F) c (O₀ c) ∗ ownX x c ∗ pl (F := F) outM Finset.univ c
        ∗ ((semVal (barCell c) 0 ∗ ((bigSep Finset.univ fun j : Lane => semVal (sendCell j c) 0) ∗ (bigSep Finset.univ fun j : Lane => semVal (recvCell j c) 0)) ∗ scratch (F := F) c
            ∗ owe (F := F) c 0 ∗ ownX x c ∗ own (c : Thread nD τ) outM Finset.univ fullShare (outv x c)) -∗ Q ⟨⟩))
      ⊢ wp frame (wpE (defs₀ (F := F)) 𝒱₀ (c : Thread nD τ) none) Set.univ (cc0_body xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11) Q := by
  unfold start
  iintro ⟨⟨⟨%K, #HR, Hp, Ht⟩, HcB, HcR⟩, Hs, HO, Hx, Ho, HK⟩
  ihave HI := (idle_all (F := F) c) $$ [Hp Ht HcR]
  · isplitl [Hp]; · iexact Hp
    isplitl [Ht]
    · iexact Ht
    · iexact HcR
  icases HI with ⟨HaB, ⟨Ht0, Ht1, Ht2, Ht3⟩, HI⟩
  ihave HP := (places_in (F := F) c) $$ [Hs Ho]
  · isplitl [Hs]
    · iexact Hs
    · iexact Ho
  icases HP with ⟨⟨Hb0, Hb1, Hb2, Hb3⟩, Hsp, P0, P1, P2, P3, P4, P5, P6, P7, P8, P9, P10, P11, P12, P13, P14, P15, P16, P17, P18, P19, P20, P21, P22, P23, P24, P25, P26, P27, P28, P29⟩
  have hO : (owe c (O₀ c) : sProp 𝕄) = owe c (debt c order + debtB c [0, 1, 2, 3]) := rfl
  ihave HO := (Entails.of_eq hO) $$ HO
  have hov : (over x [] c : sProp 𝕄) = iprop(emp) := rfl
  iapply (body_parts x K c) $$ HR Ht0 Hb0 Ht1 Hb1 Ht2 Hb2 Ht3 Hb3 HO Hx P0 P1 HcB HaB HI P2 P3 P4 P5 P6 P7 P8 P9 P10 P11 P12 P13 P14 P15 P16 P17 P18 P19 P20 P21 P22 P23 P24 P25 P26 P27 P28 P29 []
  · rw [hov]; iempintro
  iintro ⟨HzB, Hx, Hpend, o0_1, o0_2a, o0_2b, o0_3a, o0_3b, o1_1, o1_2a, o1_2b, o1_3a, o1_3b, Hov, o0_0a, o0_0b, o1_0a, o1_0b⟩
  ihave Hres := (result_out x c) $$ [o0_1 o0_2a o0_2b o0_3a o0_3b o1_1 o1_2a o1_2b o1_3a o1_3b o0_0a o0_0b o1_0a o1_0b]
  · isplitl [o0_1]; · iexact o0_1
    isplitl [o0_2a]; · iexact o0_2a
    isplitl [o0_2b]; · iexact o0_2b
    isplitl [o0_3a]; · iexact o0_3a
    isplitl [o0_3b]; · iexact o0_3b
    isplitl [o1_1]; · iexact o1_1
    isplitl [o1_2a]; · iexact o1_2a
    isplitl [o1_2b]; · iexact o1_2b
    isplitl [o1_3a]; · iexact o1_3a
    isplitl [o1_3b]; · iexact o1_3b
    isplitl [o0_0a]; · iexact o0_0a
    isplitl [o0_0b]; · iexact o0_0b
    isplitl [o1_0a]; · iexact o1_0a
    iexact o1_0b
  ihave Hsc := (scratch_out x c) $$ [Hsp Hov]
  · isplitl [Hsp]
    · iexact Hsp
    · iexact Hov
  icases Hsc with ⟨Hz, Hsc⟩
  have hpe : (pend (F := F) [] c : sProp 𝕄) = iprop(emp ∗ owe c 0) := rfl
  ihave Hpend := (Entails.of_eq hpe) $$ Hpend
  icases Hpend with ⟨-, HO⟩
  iapply HK
  isplitl [HzB]; · iexact HzB
  isplitl [Hz]; · iexact Hz
  isplitl [Hsc]; · iexact Hsc
  isplitl [HO]; · iexact HO
  isplitl [Hx]
  · iexact Hx
  · iexact Hres

end Body

section Run

variable (m : (ℓ : Loc nD τ sig) → Buf (Elt F) ℓ) (ρ : Dev nD → PrngReg)

/-- Device `c`'s block of the argument, as its body reads it. -/
def xs (c : Dev nD) : SA.Idx → F .f32 := m ((c : Thread nD τ).loc main_arg0)

/-- Before the body. -/
def Φ₀ (c : Dev nD) : sProp 𝕄 := iprop(start (xs m) c ∗ scratch (F := F) c)
/-- After the body. -/
def Φ₁ (c : Dev nD) : sProp 𝕄 :=
  iprop(semVal (barCell c) 0 ∗ ((bigSep Finset.univ fun j : Lane => semVal (sendCell j c) 0) ∗ (bigSep Finset.univ fun j : Lane => semVal (recvCell j c) 0)) ∗ scratch (F := F) c)

/-- The pipeline's proof data. -/
def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => outv (xs m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- The argument's one block is the argument. -/
theorem read_arg (f : main_arg0.ty.Contents (Elt F)) : (win0_0.blk t0_0).view.read (Elt F) f = f :=
  Memref.read_access_unit_zero (Elt F) main_arg0
    (show (fun a => (win0_0.index t0_0) a * main_arg0.ty.shape.size a) = fun _ => 0 from funext fun a => by fin_cases a <;> decide)
    (fun a => by fin_cases a <;> decide) f

/-- The result's one block is the result. -/
theorem read_res (f : main_v1.ty.Contents (Elt F)) : (win0_1.blk t0_0).view.read (Elt F) f = f :=
  Memref.read_access_unit_zero (Elt F) main_v1
    (show (fun a => (win0_1.index t0_0) a * main_v1.ty.shape.size a) = fun _ => 0 from funext fun a => by fin_cases a <;> decide)
    (fun a => by fin_cases a <;> decide) f

/-- What the staging buffer of the argument holds at the body. -/
theorem before_x (c : Dev nD) (d) : (dats m 0 c).before (0 : Fin 2) t0_0 d = xs m c := by
  unfold Dat.before
  rw [if_pos (fetch0_0 _)]
  exact funext fun y => congrFun (read_arg (m ((c : Thread nD τ).loc main_arg0))) y

theorem of_stage (c : Dev nD) {sp : Space} {sh : Shape} {e : EltTy} (w : Memref sig .tc sp sh e) (X : sh.Idx → Elt F e) :
    (owns (c : Thread nD τ) w fullShare X : sProp 𝕄) ⊢ own (c : Thread nD τ) w Finset.univ fullShare X := own_univ.2

theorem to_stage (c : Dev nD) {sp : Space} {sh : Shape} {e : EltTy} (w : Memref sig .tc sp sh e) (X : sh.Idx → Elt F e) :
    (own (c : Thread nD τ) w Finset.univ fullShare X : sProp 𝕄) ⊢ owns (c : Thread nD τ) w fullShare X := own_univ.1

/-- What the body runs from. -/
def bodyPre (c : Dev nD) : sProp 𝕄 :=
  iprop(Φ₀ m c ∗ (dats m 0 c).owesAt () t0_0.castSucc
    ∗ (∃ d, owns (c : Thread nD τ) xM fullShare ((dats m 0 c).before (0 : Fin 2) t0_0 d))
    ∗ (∃ d, owns (c : Thread nD τ) outM fullShare ((dats m 0 c).before (1 : Fin 2) t0_0 d)))

/-- What the body runs to. -/
def bodyPost (c : Dev nD) : sProp 𝕄 :=
  iprop(Φ₁ (F := F) c ∗ (dats m 0 c).owesAt () t0_0.succ ∗ owns (c : Thread nD τ) xM fullShare (xs m c)
    ∗ owns (c : Thread nD τ) outM fullShare (outv (xs m) c))

theorem sound_body (c : Dev nD) : bodyPre m c ⊢ wp frame (wpE (defs₀ (F := F)) 𝒱₀ (c : Thread nD τ) none) Set.univ (cc0_body xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11) (fun _ => bodyPost m c) := by
  unfold bodyPre Φ₀
  iintro ⟨⟨Hst, Hs⟩, HO, ⟨%d, Hx⟩, ⟨%d', Ho⟩⟩
  rw [before_x]
  iapply (body_all (xs m) c (Q := fun _ => bodyPost m c))
  isplitl [Hst]; · iexact Hst
  isplitl [Hs]; · iexact Hs
  isplitl [HO]
  · unfold Dat.owesAt Pipeline.owesWithin owe
    icases HO with ⟨%W, -, HO⟩
    iexists W
    iexact HO
  isplitl [Hx]
  · unfold ownX
    iapply (of_stage (F := F) c xM (xs m c))
    iexact Hx
  isplitl [Ho]
  · unfold pl place
    iexists _
    iapply (of_stage (F := F) c outM _)
    iexact Ho
  iintro ⟨HzB, Hz, Hsc, HO, Hx, Ho⟩
  unfold bodyPost Φ₁
  isplitl [HzB Hz Hsc]
  · isplitl [HzB]; · iexact HzB
    isplitl [Hz]
    · iexact Hz
    · iexact Hsc
  isplitl [HO]
  · unfold Dat.owesAt Pipeline.owesWithin owe
    icases HO with ⟨%W, HO⟩
    iexists W
    isplitr
    · ipureintro; exact fun _ _ => Or.inl trivial
    iexact HO
  isplitl [Hx]
  · iapply (to_stage (F := F) c xM (xs m c))
    unfold ownX
    iexact Hx
  · iapply (to_stage (F := F) c outM (outv (xs m) c))
    iexact Ho

set_option maxRecDepth 8000 in
/-- The pipeline's obligation for the body. -/
theorem body_obligation (c : Dev nD) : BodyObligation (dats (F := F) m 0 c) (defs₀ (F := F)) 𝒱₀ () Set.univ := fun t => by
  rw [fin_N0 t]
  have hW (Φ : Fin cfg0.W → sProp 𝕄) : bigSep Finset.univ Φ = iprop(Φ (0 : Fin 2) ∗ Φ (1 : Fin 2)) := bigSep_W0 Φ
  rw [hW, hW]
  have e : defs₀ (F := F) .tc cfg0.body (cfg0.bodyArgs t0_0 (cfg0.slots t0_0)) = cc0_body xM (Memref.isWhole_whole _) outM (Memref.isWhole_whole _) xbM (Memref.isWhole_whole _) agM (Memref.isWhole_whole _) r0M (Memref.isWhole_whole _) rkM (Memref.isWhole_whole _)
        r1M (Memref.isWhole_whole _) r2M (Memref.isWhole_whole _) r3M (Memref.isWhole_whole _) s1M (Memref.isWhole_whole _) s2M (Memref.isWhole_whole _) s3M (Memref.isWhole_whole _) cc0_scratch10 cc0_scratch11 := rfl
  rw [e]
  refine BIBase.Entails.trans (Entails.of_eq (?_ : _ = bodyPre m c)) ?_
  · show iprop(_ ∗ _ ∗ _ ∗ _) = _
    unfold bodyPre
    congr 1
  · refine BIBase.Entails.trans (sound_body m c) (Entails.of_eq ?_)
    congr 1

theorem share_eq (c : Dev nD) (w : Fin cfg0.W) : (dats m 0 c).share w = fullShare := by unfold Dat.share; split <;> rfl

theorem rest_eq (c : Dev nD) :
    (Pipeline.scopedRest (Ix := Unit) (Name := ℕ) (U := UU) (Lvl := ℕ) (Val := Elt F) spec0 c : sProp 𝕄) = scratch (F := F) c := by
  rw [scopedRest0_eq]
  unfold scratch pl
  rw [← place_whole, ← place_whole, ← place_whole, ← place_whole, ← place_whole, ← place_whole, ← place_whole, ← place_whole,
    ← place_whole, ← place_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m) c)
      ⊢ |={Set.univ}=> iprop(start (xs m) c ∗ emp) := by
  iintro ⟨-, Hlev, Hcr, -, HG⟩
  ihave Hc := (creds (F := F) c) $$ Hcr
  icases Hc with ⟨HN, H1⟩
  imodintro
  unfold start G' known recs
  icases HG with ⟨%K, ⟨Hi, Hr⟩, Hp, Ht⟩
  isplitl
  · isplitl [Hlev Hi Hr Hp Ht]
    · iexists K
      isplitl [Hlev Hi Hr]
      · isplitl [Hi]; · iexact Hi
        isplitl [Hr]
        · iexact Hr
        · iexact Hlev
      isplitl [Hp]
      · iexact Hp
      · iexact Ht
    isplitl [H1]
    · iexact H1
    · iexact HN
  · iempintro

theorem phi0_intro (c : Dev nD) :
    iprop(start (xs m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, rest_eq]
  unfold Φ₀
  iintro ⟨Hs, -, Hr⟩
  isplitl [Hs]
  · iexact Hs
  · iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, rest_eq, ownSems0_eq, unscopedSems0_eq]
  exact BIBase.Entails.refl

theorem waits (c : Dev nD) : (levAts L lv : sProp 𝕄) ⊢ Pipeline.cellsWaits cfgs (dats m) () 0 c :=
  Pipeline.cellsWaits_intro cfgs (dats m) () 0 c fun w s t =>
    mayWait_stage c _ (kind_stage w s) _ (by
      rcases t with ⟨_ | _, ht⟩
      · exact Or.inl rfl
      · exact Or.inr rfl)

theorem result_arr (c : Dev nD) : (dats m 0 c).arrAt (1 : Fin 2) cfg0.N = outv (xs m) c := by
  have hw : ((cfg0.win 1).blk t0_0).view.read (Elt F) ((dats m 0 c).arrAt (1 : Fin 2) cfg0.N) = (dats m 0 c).flushed (1 : Fin 2) t0_0 := by
    rw [show cfg0.N = t0_0.val + 1 from rfl, (dats m 0 c).arrAt_succ (1 : Fin 2) t0_0, flush0_1, if_pos rfl]
    exact View.read_write_univ _ _
  exact (read_res _).symm.trans hw

/-- The ghost state the launch starts from. -/
theorem fund_all : (ownU u₀ : sProp 𝕄) ⊢ |={Set.univ}=> iprop(BI.own (EP (initOf (Pipeline.cells cfgs cellOf_inj) (Pipeline.launchToks cfgs cellOf_inj))) ∗ bigSep Finset.univ (G (xs m))) := by
  unfold u₀
  iintro Hu
  ihave H := (ownU_pair _ _) $$ Hu
  icases H with ⟨HP, HX⟩
  imod (fund (xs m)) $$ HX with HG
  imodintro
  isplitl [HP]
  · iexact HP
  · iexact HG

set_option maxRecDepth 8000 in
/-- From any memory with every counter at zero, every weakly fair execution ends, each device's result array then
    holding `outv`, its argument what it held, and every counter being zero again. -/
theorem run_main : θ_run defs (onTc (τ := τ) (main (F := F))) ⟨m, fun _ => 0, ρ⟩
    (fun r => (∀ c : Dev nD, r.2.mem ((c.tc : Thread nD τ).loc main_v1) = outv (xs m) c
        ∧ r.2.mem ((c.tc : Thread nD τ).loc main_arg0) = m ((c.tc : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xs m)) (G' := G' (xs m)) (u₀ := u₀)
    (hu₀ := fund_all m)
    (hglob := glob (xs m))
    (hA := fun _ _ => rfl) (hpf := fun _ k => k.elim0)
    (X := start (xs m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]
      · iexact Hu
      · iexact HSI)
    (hQ := fun _ h hs => ⟨fun c => ⟨((h c).1 (1 : Fin 2)).trans (result_arr m c), ((h c).1 (0 : Fin 2)).trans ((dats m 0 c).arrAt_in (0 : Fin 2) rfl _)⟩,
      sem_eq_zero hs fun c => (h c).2.2⟩)

end Run

end Cert.KernelIdealProof

end
-- ==== Proof.Sum.lean ====
/-
The values: over exact arithmetic every device's result is the sum of the sixteen blocks, and so is the reference's.
-/
module

public import proofs.«01_k».proof.Proof.Cut
public import Idealize.ShloMosaic.Lib.Layout
public import Idealize.ShloMosaic.Lib.IdealHost
public import Idealize.ShloMosaic.Lib.Pipeline.Value

@[expose] public section

noncomputable section

namespace Cert.Geo

open Idealize.ShloMosaic

/-! ## The exchanges -/

/-- The devices whose blocks half `k` of device `c` has added up after `s` exchanges, in the order of the sums. -/
def walk (k : Fin 2) : ℕ → Fin 16 → List (Fin 16)
  | 0, c => [c]
  | s + 1, c => walk k s c ++ walk k s (nb (dim k (Fin.ofNat 4 s)) c)

/-- After four exchanges every device has been met exactly once. -/
theorem walk_all (k : Fin 2) (c : Fin 16) : (walk k 4 c).Perm (List.finRange 16) := by revert k c; decide

/-- The sum of the sixteen devices' blocks. -/
def total (x : Fin 16 → SA.Idx → EReal) : SA.Idx → EReal := fun y => ∑ d : Fin 16, x d y

variable (x : Fin 16 → SA.Idx → Ideal .f32)

/-- A partial sum is the sum over the devices met. -/
theorem acc_walk (k : Fin 2) (s : ℕ) (c : Fin 16) (y : SA.Idx) :
    acc (F := Ideal) x k s c y = ((walk k s c).map fun d => (x d y : EReal)).sum := by
  induction s generalizing c with
  | zero => simp [acc, walk]
  | succ s ih =>
    show (acc (F := Ideal) x k s c y : EReal) + acc (F := Ideal) x k s (nb (dim k (Fin.ofNat 4 s)) c) y = _
    rw [ih, ih, walk, List.map_append, List.sum_append]

/-- After four exchanges the partial sum is the whole sum. -/
theorem acc_total (k : Fin 2) (c : Fin 16) (y : SA.Idx) : acc (F := Ideal) x k 4 c y = total x y := by
  rw [acc_walk, ((walk_all k c).map _).sum_eq]
  unfold total
  rw [Fin.sum_univ_def]

/-- Each device's result is the whole sum. -/
theorem outv_total (c : Fin 16) : outv (F := Ideal) x c = total x := by
  have hf (k : Fin 2) (t : Fin 4) (y : SA.Idx) : fin (F := Ideal) x k t c y = total x y := by
    unfold fin
    split
    · exact acc_total x k c y
    · exact acc_total x k (owner k t c) y
  exact funext fun y => hf _ _ y

/-! ## The reference -/

/-- The reference's argument and its reshape. -/
abbrev SW : Shape := ⟨2, ![16384, 512]⟩
abbrev SR : Shape := ⟨3, ![16, 1024, 512]⟩

/-- The reference's result is the sum of the sixteen blocks of its argument. -/
theorem reference_total (a : SW.Idx → Ideal .f32) (hc : SW.ShapeCasts SR) (hr : SR.ReducesTo [0] SA) (hu : 0 < (⟨0, ![]⟩ : Shape).numel) :
    Host.reduceAdd (F := Ideal) (shapeCast SR a hc) (constant ⟨0, ![]⟩ .f32 0x00000000#32) hr hu
      = total fun d => Layout.block SA SW 0 16 d a := by
  have hred : SR.Reduces [0] SA := by decide
  refine funext fun j => ?_
  rw [ValueIdx.hostReduceAdd_apply, Ideal.hostReduceAdd_single hr hred]
  have h0 : (constant ⟨0, ![]⟩ .f32 0x00000000#32 : FVec Ideal ⟨0, ![]⟩ .f32) (Shape.Idx.first hu) = (0 : EReal) := Ideal.ofBits_zero_f32
  rw [h0, zero_add]
  unfold total
  refine Finset.sum_congr rfl fun d _ => ?_
  refine shapeCast_apply a hc _ _ ?_
  rw [Shape.rowMajor_val_two, Shape.rowMajor_val_three]
  rfl

end Cert.Geo

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Sum
public import Idealize.ShloMosaic.Adequacy
public import Idealize.ShloMosaic.Init

@[expose] public section

noncomputable section

namespace Cert.Proof

open Idealize.ShloMosaic Idealize.SL.Sem Cert.Kernel

/-- The kernel ends, its argument unchanged and every counter at zero. -/
theorem kernel_ends : Cert.quiescent_Kernel := fun m ρ _ =>
  (θ_run Cert.Kernel.defs _ _).mono (fun _ h => ⟨fun c => (h.1 c).2, h.2⟩) (Cert.KernelProof.run_main (F := Bits) m ρ)

/-- So does the kernel over exact arithmetic. -/
theorem ideal_ends : Cert.quiescent_KernelIdeal := fun m ρ _ =>
  (θ_run Cert.KernelIdeal.defs _ _).mono (fun _ h => ⟨fun c => (h.1 c).2, h.2⟩) (Cert.KernelIdealProof.run_main (F := Ideal) m ρ)

/-- So does the reference, which has no counters. -/
theorem reference_ends : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over exact arithmetic every device's result is the reference's: the sum of the sixteen blocks. -/
theorem same_value : Cert.algebraic_KernelIdeal_ReferenceIdeal := by
  intro m ρ m' ρ' _ hagree
  refine ⟨Cert.Geo.total fun d => Layout.block Cert.Geo.SA Cert.Geo.SW 0 16 d
      (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h.1 c).1.trans ?_, (h.1 c).2⟩) (Cert.KernelIdealProof.run_main (F := Ideal) m ρ)
    rw [Cert.Geo.outv_total]
    exact congrArg Cert.Geo.total (funext fun d => hagree d)
  · refine (θ_run Cert.ReferenceIdeal.defs _ _).mono (fun _ h => ⟨(h 0).1.trans ?_, (h 0).2⟩) (Cert.ReferenceIdeal.Value.run (F := Ideal) m' ρ')
    exact Cert.Geo.reference_total _ _ _ _

theorem claim : Cert.Claim := ⟨Cert.Kernel.Gen.facts, Cert.KernelIdeal.Gen.facts, Cert.ReferenceIdeal.Gen.facts,
  kernel_ends, ideal_ends, reference_ends, trivial, same_value⟩

end Cert.Proof

end
